-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S2x256x4096 : Shape := ⟨3, ![2, 256, 4096]⟩
abbrev S8x256x4096 : Shape := ⟨3, ![8, 256, 4096]⟩
abbrev S256x4096 : Shape := ⟨2, ![256, 4096]⟩
abbrev S1x128 : Shape := ⟨2, ![1, 128]⟩
abbrev S32x128 : Shape := ⟨2, ![32, 128]⟩
abbrev S2 : Shape := ⟨1, ![2]⟩
abbrev S_ : Shape := ⟨0, ![]⟩
abbrev S32 : Shape := ⟨1, ![32]⟩
abbrev S16 : Shape := ⟨1, ![16]⟩
abbrev S1 : Shape := ⟨1, ![1]⟩
abbrev S1x256x4096 : Shape := ⟨3, ![1, 256, 4096]⟩
abbrev S128x256 : Shape := ⟨2, ![128, 256]⟩
abbrev S1x128x4096 : Shape := ⟨3, ![1, 128, 4096]⟩
abbrev S1x1x1 : Shape := ⟨3, ![1, 1, 1]⟩
abbrev S1x32x128 : Shape := ⟨3, ![1, 32, 128]⟩
abbrev S256x256 : Shape := ⟨2, ![256, 256]⟩

abbrev nBuf : Space → Nat
  | .hbm => 3
  | .vmem => 12
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S2x256x4096, .f32⟩
  | .local _ .vmem, ⟨3, _⟩ => ⟨S8x256x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .f32⟩
  | .local _ .vmem, ⟨7, _⟩ => ⟨S128x4096, .f32⟩
  | .local _ .vmem, ⟨8, _⟩ => ⟨S256x4096, .i8⟩
  | .local _ .vmem, ⟨9, _⟩ => ⟨S4096x256, .i8⟩
  | .local _ .vmem, ⟨10, _⟩ => ⟨S1x128, .f32⟩
  | .local _ .vmem, ⟨11, _⟩ => ⟨S32x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![0, v16.toNat]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_29 : BitVec 32 := 0#32
  let v68 : BitVec 1 := Scalar.cmpi .ne v2 c0_i32_29
  let v69 : BitVec 32 := Scalar.extui v68
  let c0_i32_30 : BitVec 32 := 0#32
  let v70 : BitVec 1 := Scalar.cmpi .ne v69 c0_i32_30
  v70

def k0_dev1 : Nat :=
  let c0_i32_973 : BitVec 32 := 0#32
  let c0_i32_971 : BitVec 32 := 0#32
  let c1_i32_972 : BitVec 32 := 1#32
  let v1297 : BitVec 32 := Scalar.muli c0_i32_971 c1_i32_972
  let v1298 : BitVec 32 := Scalar.addi c0_i32_973 v1297
  v1298.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v71 : BitVec 1 := Scalar.cmpi .ne v2 c1_i32_31
  let v72 : BitVec 32 := Scalar.extui v71
  let c0_i32_32 : BitVec 32 := 0#32
  let v73 : BitVec 1 := Scalar.cmpi .ne v72 c0_i32_32
  v73

def k0_dev2 : Nat :=
  let c0_i32_973 : BitVec 32 := 0#32
  let c1_i32_971 : BitVec 32 := 1#32
  let c1_i32_972 : BitVec 32 := 1#32
  let v1297 : BitVec 32 := Scalar.muli c1_i32_971 c1_i32_972
  let v1298 : BitVec 32 := Scalar.addi c0_i32_973 v1297
  v1298.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_33 : BitVec 32 := 2#32
  let v74 : BitVec 1 := Scalar.cmpi .ne v2 c2_i32_33
  let v75 : BitVec 32 := Scalar.extui v74
  let c0_i32_34 : BitVec 32 := 0#32
  let v76 : BitVec 1 := Scalar.cmpi .ne v75 c0_i32_34
  v76

def k0_dev3 : Nat :=
  let c0_i32_973 : BitVec 32 := 0#32
  let c2_i32_971 : BitVec 32 := 2#32
  let c1_i32_972 : BitVec 32 := 1#32
  let v1297 : BitVec 32 := Scalar.muli c2_i32_971 c1_i32_972
  let v1298 : BitVec 32 := Scalar.addi c0_i32_973 v1297
  v1298.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v77 : BitVec 1 := Scalar.cmpi .ne v2 c3_i32
  let v78 : BitVec 32 := Scalar.extui v77
  let c0_i32_35 : BitVec 32 := 0#32
  let v79 : BitVec 1 := Scalar.cmpi .ne v78 c0_i32_35
  v79

def k0_dev4 : Nat :=
  let c0_i32_973 : BitVec 32 := 0#32
  let c3_i32_971 : BitVec 32 := 3#32
  let c1_i32_972 : BitVec 32 := 1#32
  let v1297 : BitVec 32 := Scalar.muli c3_i32_971 c1_i32_972
  let v1298 : BitVec 32 := Scalar.addi c0_i32_973 v1297
  v1298.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v80 : BitVec 1 := Scalar.cmpi .ne v2 c4_i32
  let v81 : BitVec 32 := Scalar.extui v80
  let c0_i32_36 : BitVec 32 := 0#32
  let v82 : BitVec 1 := Scalar.cmpi .ne v81 c0_i32_36
  v82

def k0_dev5 : Nat :=
  let c0_i32_973 : BitVec 32 := 0#32
  let c4_i32_971 : BitVec 32 := 4#32
  let c1_i32_972 : BitVec 32 := 1#32
  let v1297 : BitVec 32 := Scalar.muli c4_i32_971 c1_i32_972
  let v1298 : BitVec 32 := Scalar.addi c0_i32_973 v1297
  v1298.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v83 : BitVec 1 := Scalar.cmpi .ne v2 c5_i32
  let v84 : BitVec 32 := Scalar.extui v83
  let c0_i32_37 : BitVec 32 := 0#32
  let v85 : BitVec 1 := Scalar.cmpi .ne v84 c0_i32_37
  v85

def k0_dev6 : Nat :=
  let c0_i32_973 : BitVec 32 := 0#32
  let c5_i32_971 : BitVec 32 := 5#32
  let c1_i32_972 : BitVec 32 := 1#32
  let v1297 : BitVec 32 := Scalar.muli c5_i32_971 c1_i32_972
  let v1298 : BitVec 32 := Scalar.addi c0_i32_973 v1297
  v1298.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v86 : BitVec 1 := Scalar.cmpi .ne v2 c6_i32
  let v87 : BitVec 32 := Scalar.extui v86
  let c0_i32_38 : BitVec 32 := 0#32
  let v88 : BitVec 1 := Scalar.cmpi .ne v87 c0_i32_38
  v88

def k0_dev7 : Nat :=
  let c0_i32_973 : BitVec 32 := 0#32
  let c6_i32_971 : BitVec 32 := 6#32
  let c1_i32_972 : BitVec 32 := 1#32
  let v1297 : BitVec 32 := Scalar.muli c6_i32_971 c1_i32_972
  let v1298 : BitVec 32 := Scalar.addi c0_i32_973 v1297
  v1298.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v89 : BitVec 1 := Scalar.cmpi .ne v2 c7_i32
  let v90 : BitVec 32 := Scalar.extui v89
  let c0_i32_39 : BitVec 32 := 0#32
  let v91 : BitVec 1 := Scalar.cmpi .ne v90 c0_i32_39
  v91

def k0_dev8 : Nat :=
  let c0_i32_973 : BitVec 32 := 0#32
  let c7_i32_971 : BitVec 32 := 7#32
  let c1_i32_972 : BitVec 32 := 1#32
  let v1297 : BitVec 32 := Scalar.muli c7_i32_971 c1_i32_972
  let v1298 : BitVec 32 := Scalar.addi c0_i32_973 v1297
  v1298.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v92 : BitVec 1 := Scalar.cmpi .ne v2 c8_i32
  let v93 : BitVec 32 := Scalar.extui v92
  let c0_i32_40 : BitVec 32 := 0#32
  let v94 : BitVec 1 := Scalar.cmpi .ne v93 c0_i32_40
  v94

def k0_dev9 : Nat :=
  let c0_i32_973 : BitVec 32 := 0#32
  let c8_i32_971 : BitVec 32 := 8#32
  let c1_i32_972 : BitVec 32 := 1#32
  let v1297 : BitVec 32 := Scalar.muli c8_i32_971 c1_i32_972
  let v1298 : BitVec 32 := Scalar.addi c0_i32_973 v1297
  v1298.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v95 : BitVec 1 := Scalar.cmpi .ne v2 c9_i32
  let v96 : BitVec 32 := Scalar.extui v95
  let c0_i32_41 : BitVec 32 := 0#32
  let v97 : BitVec 1 := Scalar.cmpi .ne v96 c0_i32_41
  v97

def k0_dev10 : Nat :=
  let c0_i32_973 : BitVec 32 := 0#32
  let c9_i32_971 : BitVec 32 := 9#32
  let c1_i32_972 : BitVec 32 := 1#32
  let v1297 : BitVec 32 := Scalar.muli c9_i32_971 c1_i32_972
  let v1298 : BitVec 32 := Scalar.addi c0_i32_973 v1297
  v1298.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v98 : BitVec 1 := Scalar.cmpi .ne v2 c10_i32
  let v99 : BitVec 32 := Scalar.extui v98
  let c0_i32_42 : BitVec 32 := 0#32
  let v100 : BitVec 1 := Scalar.cmpi .ne v99 c0_i32_42
  v100

def k0_dev11 : Nat :=
  let c0_i32_973 : BitVec 32 := 0#32
  let c10_i32_971 : BitVec 32 := 10#32
  let c1_i32_972 : BitVec 32 := 1#32
  let v1297 : BitVec 32 := Scalar.muli c10_i32_971 c1_i32_972
  let v1298 : BitVec 32 := Scalar.addi c0_i32_973 v1297
  v1298.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v101 : BitVec 1 := Scalar.cmpi .ne v2 c11_i32
  let v102 : BitVec 32 := Scalar.extui v101
  let c0_i32_43 : BitVec 32 := 0#32
  let v103 : BitVec 1 := Scalar.cmpi .ne v102 c0_i32_43
  v103

def k0_dev12 : Nat :=
  let c0_i32_973 : BitVec 32 := 0#32
  let c11_i32_971 : BitVec 32 := 11#32
  let c1_i32_972 : BitVec 32 := 1#32
  let v1297 : BitVec 32 := Scalar.muli c11_i32_971 c1_i32_972
  let v1298 : BitVec 32 := Scalar.addi c0_i32_973 v1297
  v1298.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v104 : BitVec 1 := Scalar.cmpi .ne v2 c12_i32
  let v105 : BitVec 32 := Scalar.extui v104
  let c0_i32_44 : BitVec 32 := 0#32
  let v106 : BitVec 1 := Scalar.cmpi .ne v105 c0_i32_44
  v106

def k0_dev13 : Nat :=
  let c0_i32_973 : BitVec 32 := 0#32
  let c12_i32_971 : BitVec 32 := 12#32
  let c1_i32_972 : BitVec 32 := 1#32
  let v1297 : BitVec 32 := Scalar.muli c12_i32_971 c1_i32_972
  let v1298 : BitVec 32 := Scalar.addi c0_i32_973 v1297
  v1298.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v107 : BitVec 1 := Scalar.cmpi .ne v2 c13_i32
  let v108 : BitVec 32 := Scalar.extui v107
  let c0_i32_45 : BitVec 32 := 0#32
  let v109 : BitVec 1 := Scalar.cmpi .ne v108 c0_i32_45
  v109

def k0_dev14 : Nat :=
  let c0_i32_973 : BitVec 32 := 0#32
  let c13_i32_971 : BitVec 32 := 13#32
  let c1_i32_972 : BitVec 32 := 1#32
  let v1297 : BitVec 32 := Scalar.muli c13_i32_971 c1_i32_972
  let v1298 : BitVec 32 := Scalar.addi c0_i32_973 v1297
  v1298.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v110 : BitVec 1 := Scalar.cmpi .ne v2 c14_i32
  let v111 : BitVec 32 := Scalar.extui v110
  let c0_i32_46 : BitVec 32 := 0#32
  let v112 : BitVec 1 := Scalar.cmpi .ne v111 c0_i32_46
  v112

def k0_dev15 : Nat :=
  let c0_i32_973 : BitVec 32 := 0#32
  let c14_i32_971 : BitVec 32 := 14#32
  let c1_i32_972 : BitVec 32 := 1#32
  let v1297 : BitVec 32 := Scalar.muli c14_i32_971 c1_i32_972
  let v1298 : BitVec 32 := Scalar.addi c0_i32_973 v1297
  v1298.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v113 : BitVec 1 := Scalar.cmpi .ne v2 c15_i32
  let v114 : BitVec 32 := Scalar.extui v113
  let c0_i32_47 : BitVec 32 := 0#32
  let v115 : BitVec 1 := Scalar.cmpi .ne v114 c0_i32_47
  v115

def k0_dev16 : Nat :=
  let c0_i32_973 : BitVec 32 := 0#32
  let c15_i32_971 : BitVec 32 := 15#32
  let c1_i32_972 : BitVec 32 := 1#32
  let v1297 : BitVec 32 := Scalar.muli c15_i32_971 c1_i32_972
  let v1298 : BitVec 32 := Scalar.addi c0_i32_973 v1297
  v1298.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_48 : BitVec 32 := 16#32
  let v116 : BitVec 1 := Scalar.cmpi .ne v2 c16_i32_48
  let v117 : BitVec 32 := Scalar.extui v116
  let c0_i32_49 : BitVec 32 := 0#32
  let v118 : BitVec 1 := Scalar.cmpi .ne v117 c0_i32_49
  v118

def k0_dev17 : Nat :=
  let c0_i32_973 : BitVec 32 := 0#32
  let c16_i32_971 : BitVec 32 := 16#32
  let c1_i32_972 : BitVec 32 := 1#32
  let v1297 : BitVec 32 := Scalar.muli c16_i32_971 c1_i32_972
  let v1298 : BitVec 32 := Scalar.addi c0_i32_973 v1297
  v1298.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v119 : BitVec 1 := Scalar.cmpi .ne v2 c17_i32
  let v120 : BitVec 32 := Scalar.extui v119
  let c0_i32_50 : BitVec 32 := 0#32
  let v121 : BitVec 1 := Scalar.cmpi .ne v120 c0_i32_50
  v121

def k0_dev18 : Nat :=
  let c0_i32_973 : BitVec 32 := 0#32
  let c17_i32_971 : BitVec 32 := 17#32
  let c1_i32_972 : BitVec 32 := 1#32
  let v1297 : BitVec 32 := Scalar.muli c17_i32_971 c1_i32_972
  let v1298 : BitVec 32 := Scalar.addi c0_i32_973 v1297
  v1298.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v122 : BitVec 1 := Scalar.cmpi .ne v2 c18_i32
  let v123 : BitVec 32 := Scalar.extui v122
  let c0_i32_51 : BitVec 32 := 0#32
  let v124 : BitVec 1 := Scalar.cmpi .ne v123 c0_i32_51
  v124

def k0_dev19 : Nat :=
  let c0_i32_973 : BitVec 32 := 0#32
  let c18_i32_971 : BitVec 32 := 18#32
  let c1_i32_972 : BitVec 32 := 1#32
  let v1297 : BitVec 32 := Scalar.muli c18_i32_971 c1_i32_972
  let v1298 : BitVec 32 := Scalar.addi c0_i32_973 v1297
  v1298.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v125 : BitVec 1 := Scalar.cmpi .ne v2 c19_i32
  let v126 : BitVec 32 := Scalar.extui v125
  let c0_i32_52 : BitVec 32 := 0#32
  let v127 : BitVec 1 := Scalar.cmpi .ne v126 c0_i32_52
  v127

def k0_dev20 : Nat :=
  let c0_i32_973 : BitVec 32 := 0#32
  let c19_i32_971 : BitVec 32 := 19#32
  let c1_i32_972 : BitVec 32 := 1#32
  let v1297 : BitVec 32 := Scalar.muli c19_i32_971 c1_i32_972
  let v1298 : BitVec 32 := Scalar.addi c0_i32_973 v1297
  v1298.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v128 : BitVec 1 := Scalar.cmpi .ne v2 c20_i32
  let v129 : BitVec 32 := Scalar.extui v128
  let c0_i32_53 : BitVec 32 := 0#32
  let v130 : BitVec 1 := Scalar.cmpi .ne v129 c0_i32_53
  v130

def k0_dev21 : Nat :=
  let c0_i32_973 : BitVec 32 := 0#32
  let c20_i32_971 : BitVec 32 := 20#32
  let c1_i32_972 : BitVec 32 := 1#32
  let v1297 : BitVec 32 := Scalar.muli c20_i32_971 c1_i32_972
  let v1298 : BitVec 32 := Scalar.addi c0_i32_973 v1297
  v1298.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v131 : BitVec 1 := Scalar.cmpi .ne v2 c21_i32
  let v132 : BitVec 32 := Scalar.extui v131
  let c0_i32_54 : BitVec 32 := 0#32
  let v133 : BitVec 1 := Scalar.cmpi .ne v132 c0_i32_54
  v133

def k0_dev22 : Nat :=
  let c0_i32_973 : BitVec 32 := 0#32
  let c21_i32_971 : BitVec 32 := 21#32
  let c1_i32_972 : BitVec 32 := 1#32
  let v1297 : BitVec 32 := Scalar.muli c21_i32_971 c1_i32_972
  let v1298 : BitVec 32 := Scalar.addi c0_i32_973 v1297
  v1298.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v134 : BitVec 1 := Scalar.cmpi .ne v2 c22_i32
  let v135 : BitVec 32 := Scalar.extui v134
  let c0_i32_55 : BitVec 32 := 0#32
  let v136 : BitVec 1 := Scalar.cmpi .ne v135 c0_i32_55
  v136

def k0_dev23 : Nat :=
  let c0_i32_973 : BitVec 32 := 0#32
  let c22_i32_971 : BitVec 32 := 22#32
  let c1_i32_972 : BitVec 32 := 1#32
  let v1297 : BitVec 32 := Scalar.muli c22_i32_971 c1_i32_972
  let v1298 : BitVec 32 := Scalar.addi c0_i32_973 v1297
  v1298.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v137 : BitVec 1 := Scalar.cmpi .ne v2 c23_i32
  let v138 : BitVec 32 := Scalar.extui v137
  let c0_i32_56 : BitVec 32 := 0#32
  let v139 : BitVec 1 := Scalar.cmpi .ne v138 c0_i32_56
  v139

def k0_dev24 : Nat :=
  let c0_i32_973 : BitVec 32 := 0#32
  let c23_i32_971 : BitVec 32 := 23#32
  let c1_i32_972 : BitVec 32 := 1#32
  let v1297 : BitVec 32 := Scalar.muli c23_i32_971 c1_i32_972
  let v1298 : BitVec 32 := Scalar.addi c0_i32_973 v1297
  v1298.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v140 : BitVec 1 := Scalar.cmpi .ne v2 c24_i32
  let v141 : BitVec 32 := Scalar.extui v140
  let c0_i32_57 : BitVec 32 := 0#32
  let v142 : BitVec 1 := Scalar.cmpi .ne v141 c0_i32_57
  v142

def k0_dev25 : Nat :=
  let c0_i32_973 : BitVec 32 := 0#32
  let c24_i32_971 : BitVec 32 := 24#32
  let c1_i32_972 : BitVec 32 := 1#32
  let v1297 : BitVec 32 := Scalar.muli c24_i32_971 c1_i32_972
  let v1298 : BitVec 32 := Scalar.addi c0_i32_973 v1297
  v1298.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v143 : BitVec 1 := Scalar.cmpi .ne v2 c25_i32
  let v144 : BitVec 32 := Scalar.extui v143
  let c0_i32_58 : BitVec 32 := 0#32
  let v145 : BitVec 1 := Scalar.cmpi .ne v144 c0_i32_58
  v145

def k0_dev26 : Nat :=
  let c0_i32_973 : BitVec 32 := 0#32
  let c25_i32_971 : BitVec 32 := 25#32
  let c1_i32_972 : BitVec 32 := 1#32
  let v1297 : BitVec 32 := Scalar.muli c25_i32_971 c1_i32_972
  let v1298 : BitVec 32 := Scalar.addi c0_i32_973 v1297
  v1298.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v146 : BitVec 1 := Scalar.cmpi .ne v2 c26_i32
  let v147 : BitVec 32 := Scalar.extui v146
  let c0_i32_59 : BitVec 32 := 0#32
  let v148 : BitVec 1 := Scalar.cmpi .ne v147 c0_i32_59
  v148

def k0_dev27 : Nat :=
  let c0_i32_973 : BitVec 32 := 0#32
  let c26_i32_971 : BitVec 32 := 26#32
  let c1_i32_972 : BitVec 32 := 1#32
  let v1297 : BitVec 32 := Scalar.muli c26_i32_971 c1_i32_972
  let v1298 : BitVec 32 := Scalar.addi c0_i32_973 v1297
  v1298.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v149 : BitVec 1 := Scalar.cmpi .ne v2 c27_i32
  let v150 : BitVec 32 := Scalar.extui v149
  let c0_i32_60 : BitVec 32 := 0#32
  let v151 : BitVec 1 := Scalar.cmpi .ne v150 c0_i32_60
  v151

def k0_dev28 : Nat :=
  let c0_i32_973 : BitVec 32 := 0#32
  let c27_i32_971 : BitVec 32 := 27#32
  let c1_i32_972 : BitVec 32 := 1#32
  let v1297 : BitVec 32 := Scalar.muli c27_i32_971 c1_i32_972
  let v1298 : BitVec 32 := Scalar.addi c0_i32_973 v1297
  v1298.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v152 : BitVec 1 := Scalar.cmpi .ne v2 c28_i32
  let v153 : BitVec 32 := Scalar.extui v152
  let c0_i32_61 : BitVec 32 := 0#32
  let v154 : BitVec 1 := Scalar.cmpi .ne v153 c0_i32_61
  v154

def k0_dev29 : Nat :=
  let c0_i32_973 : BitVec 32 := 0#32
  let c28_i32_971 : BitVec 32 := 28#32
  let c1_i32_972 : BitVec 32 := 1#32
  let v1297 : BitVec 32 := Scalar.muli c28_i32_971 c1_i32_972
  let v1298 : BitVec 32 := Scalar.addi c0_i32_973 v1297
  v1298.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v155 : BitVec 1 := Scalar.cmpi .ne v2 c29_i32
  let v156 : BitVec 32 := Scalar.extui v155
  let c0_i32_62 : BitVec 32 := 0#32
  let v157 : BitVec 1 := Scalar.cmpi .ne v156 c0_i32_62
  v157

def k0_dev30 : Nat :=
  let c0_i32_973 : BitVec 32 := 0#32
  let c29_i32_971 : BitVec 32 := 29#32
  let c1_i32_972 : BitVec 32 := 1#32
  let v1297 : BitVec 32 := Scalar.muli c29_i32_971 c1_i32_972
  let v1298 : BitVec 32 := Scalar.addi c0_i32_973 v1297
  v1298.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v158 : BitVec 1 := Scalar.cmpi .ne v2 c30_i32
  let v159 : BitVec 32 := Scalar.extui v158
  let c0_i32_63 : BitVec 32 := 0#32
  let v160 : BitVec 1 := Scalar.cmpi .ne v159 c0_i32_63
  v160

def k0_dev31 : Nat :=
  let c0_i32_973 : BitVec 32 := 0#32
  let c30_i32_971 : BitVec 32 := 30#32
  let c1_i32_972 : BitVec 32 := 1#32
  let v1297 : BitVec 32 := Scalar.muli c30_i32_971 c1_i32_972
  let v1298 : BitVec 32 := Scalar.addi c0_i32_973 v1297
  v1298.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v161 : BitVec 1 := Scalar.cmpi .ne v2 c31_i32
  let v162 : BitVec 32 := Scalar.extui v161
  let c0_i32_64 : BitVec 32 := 0#32
  let v163 : BitVec 1 := Scalar.cmpi .ne v162 c0_i32_64
  v163

def k0_dev32 : Nat :=
  let c0_i32_973 : BitVec 32 := 0#32
  let c31_i32_971 : BitVec 32 := 31#32
  let c1_i32_972 : BitVec 32 := 1#32
  let v1297 : BitVec 32 := Scalar.muli c31_i32_971 c1_i32_972
  let v1298 : BitVec 32 := Scalar.addi c0_i32_973 v1297
  v1298.toNat
def k0_dev33 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_4 : BitVec 32 := 2#32
  let v13 : BitVec 32 := Scalar.muli v12 c2_i32_4
  let v14 : BitVec 32 := Scalar.subi v2 v13
  let c1_i32_5 : BitVec 32 := 1#32
  let v15 : BitVec 32 := Scalar.addi v14 c1_i32_5
  let c1_i32_66 : BitVec 32 := 1#32
  let v164 : BitVec 32 := Scalar.muli v15 c1_i32_66
  let v165 : BitVec 32 := Scalar.addi c0_i32_67 v164
  v165.toNat
def k0_off2 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![256, v16.toNat]
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![512, v16.toNat]
def k0_off4 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![768, v16.toNat]
def k0_off5 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![1024, v16.toNat]
def k0_off6 (d0 : Dev nD) : Fin 2 → Nat :=
  let c1280_i32 : BitVec 32 := 1280#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![1280, v16.toNat]
def k0_off7 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![1536, v16.toNat]
def k0_off8 (d0 : Dev nD) : Fin 2 → Nat :=
  let c1792_i32 : BitVec 32 := 1792#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![1792, v16.toNat]
def k0_off9 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![2048, v16.toNat]
def k0_off10 (d0 : Dev nD) : Fin 2 → Nat :=
  let c2304_i32 : BitVec 32 := 2304#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![2304, v16.toNat]
def k0_off11 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![2560, v16.toNat]
def k0_off12 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![2816, v16.toNat]
def k0_off13 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![3072, v16.toNat]
def k0_off14 (d0 : Dev nD) : Fin 2 → Nat :=
  let c3328_i32 : BitVec 32 := 3328#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![3328, v16.toNat]
def k0_off15 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![3584, v16.toNat]
def k0_off16 (d0 : Dev nD) : Fin 2 → Nat :=
  let c3840_i32 : BitVec 32 := 3840#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4096_i32 : BitVec 32 := 4096#32
  let v16 : BitVec 32 := Scalar.muli v12 c4096_i32
  ![3840, v16.toNat]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_608 : BitVec 32 := 0#32
  let v720 : BitVec 1 := Scalar.cmpi .ne v2 c0_i32_608
  let v721 : BitVec 32 := Scalar.extui v720
  let c0_i32_609 : BitVec 32 := 0#32
  let v722 : BitVec 1 := Scalar.cmpi .ne v721 c0_i32_609
  v722

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev34 : Nat :=
  let c0_i32_973 : BitVec 32 := 0#32
  let c0_i32_971 : BitVec 32 := 0#32
  let c1_i32_972 : BitVec 32 := 1#32
  let v1297 : BitVec 32 := Scalar.muli c0_i32_971 c1_i32_972
  let v1298 : BitVec 32 := Scalar.addi c0_i32_973 v1297
  v1298.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_610 : BitVec 32 := 1#32
  let v723 : BitVec 1 := Scalar.cmpi .ne v2 c1_i32_610
  let v724 : BitVec 32 := Scalar.extui v723
  let c0_i32_611 : BitVec 32 := 0#32
  let v725 : BitVec 1 := Scalar.cmpi .ne v724 c0_i32_611
  v725

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev35 : Nat :=
  let c0_i32_973 : BitVec 32 := 0#32
  let c1_i32_971 : BitVec 32 := 1#32
  let c1_i32_972 : BitVec 32 := 1#32
  let v1297 : BitVec 32 := Scalar.muli c1_i32_971 c1_i32_972
  let v1298 : BitVec 32 := Scalar.addi c0_i32_973 v1297
  v1298.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_612 : BitVec 32 := 2#32
  let v726 : BitVec 1 := Scalar.cmpi .ne v2 c2_i32_612
  let v727 : BitVec 32 := Scalar.extui v726
  let c0_i32_613 : BitVec 32 := 0#32
  let v728 : BitVec 1 := Scalar.cmpi .ne v727 c0_i32_613
  v728

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev36 : Nat :=
  let c0_i32_973 : BitVec 32 := 0#32
  let c2_i32_971 : BitVec 32 := 2#32
  let c1_i32_972 : BitVec 32 := 1#32
  let v1297 : BitVec 32 := Scalar.muli c2_i32_971 c1_i32_972
  let v1298 : BitVec 32 := Scalar.addi c0_i32_973 v1297
  v1298.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_614 : BitVec 32 := 3#32
  let v729 : BitVec 1 := Scalar.cmpi .ne v2 c3_i32_614
  let v730 : BitVec 32 := Scalar.extui v729
  let c0_i32_615 : BitVec 32 := 0#32
  let v731 : BitVec 1 := Scalar.cmpi .ne v730 c0_i32_615
  v731

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev37 : Nat :=
  let c0_i32_973 : BitVec 32 := 0#32
  let c3_i32_971 : BitVec 32 := 3#32
  let c1_i32_972 : BitVec 32 := 1#32
  let v1297 : BitVec 32 := Scalar.muli c3_i32_971 c1_i32_972
  let v1298 : BitVec 32 := Scalar.addi c0_i32_973 v1297
  v1298.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_616 : BitVec 32 := 4#32
  let v732 : BitVec 1 := Scalar.cmpi .ne v2 c4_i32_616
  let v733 : BitVec 32 := Scalar.extui v732
  let c0_i32_617 : BitVec 32 := 0#32
  let v734 : BitVec 1 := Scalar.cmpi .ne v733 c0_i32_617
  v734

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev38 : Nat :=
  let c0_i32_973 : BitVec 32 := 0#32
  let c4_i32_971 : BitVec 32 := 4#32
  let c1_i32_972 : BitVec 32 := 1#32
  let v1297 : BitVec 32 := Scalar.muli c4_i32_971 c1_i32_972
  let v1298 : BitVec 32 := Scalar.addi c0_i32_973 v1297
  v1298.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_618 : BitVec 32 := 5#32
  let v735 : BitVec 1 := Scalar.cmpi .ne v2 c5_i32_618
  let v736 : BitVec 32 := Scalar.extui v735
  let c0_i32_619 : BitVec 32 := 0#32
  let v737 : BitVec 1 := Scalar.cmpi .ne v736 c0_i32_619
  v737

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev39 : Nat :=
  let c0_i32_973 : BitVec 32 := 0#32
  let c5_i32_971 : BitVec 32 := 5#32
  let c1_i32_972 : BitVec 32 := 1#32
  let v1297 : BitVec 32 := Scalar.muli c5_i32_971 c1_i32_972
  let v1298 : BitVec 32 := Scalar.addi c0_i32_973 v1297
  v1298.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_620 : BitVec 32 := 6#32
  let v738 : BitVec 1 := Scalar.cmpi .ne v2 c6_i32_620
  let v739 : BitVec 32 := Scalar.extui v738
  let c0_i32_621 : BitVec 32 := 0#32
  let v740 : BitVec 1 := Scalar.cmpi .ne v739 c0_i32_621
  v740

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev40 : Nat :=
  let c0_i32_973 : BitVec 32 := 0#32
  let c6_i32_971 : BitVec 32 := 6#32
  let c1_i32_972 : BitVec 32 := 1#32
  let v1297 : BitVec 32 := Scalar.muli c6_i32_971 c1_i32_972
  let v1298 : BitVec 32 := Scalar.addi c0_i32_973 v1297
  v1298.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_622 : BitVec 32 := 7#32
  let v741 : BitVec 1 := Scalar.cmpi .ne v2 c7_i32_622
  let v742 : BitVec 32 := Scalar.extui v741
  let c0_i32_623 : BitVec 32 := 0#32
  let v743 : BitVec 1 := Scalar.cmpi .ne v742 c0_i32_623
  v743

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev41 : Nat :=
  let c0_i32_973 : BitVec 32 := 0#32
  let c7_i32_971 : BitVec 32 := 7#32
  let c1_i32_972 : BitVec 32 := 1#32
  let v1297 : BitVec 32 := Scalar.muli c7_i32_971 c1_i32_972
  let v1298 : BitVec 32 := Scalar.addi c0_i32_973 v1297
  v1298.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_624 : BitVec 32 := 8#32
  let v744 : BitVec 1 := Scalar.cmpi .ne v2 c8_i32_624
  let v745 : BitVec 32 := Scalar.extui v744
  let c0_i32_625 : BitVec 32 := 0#32
  let v746 : BitVec 1 := Scalar.cmpi .ne v745 c0_i32_625
  v746

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev42 : Nat :=
  let c0_i32_973 : BitVec 32 := 0#32
  let c8_i32_971 : BitVec 32 := 8#32
  let c1_i32_972 : BitVec 32 := 1#32
  let v1297 : BitVec 32 := Scalar.muli c8_i32_971 c1_i32_972
  let v1298 : BitVec 32 := Scalar.addi c0_i32_973 v1297
  v1298.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_626 : BitVec 32 := 9#32
  let v747 : BitVec 1 := Scalar.cmpi .ne v2 c9_i32_626
  let v748 : BitVec 32 := Scalar.extui v747
  let c0_i32_627 : BitVec 32 := 0#32
  let v749 : BitVec 1 := Scalar.cmpi .ne v748 c0_i32_627
  v749

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev43 : Nat :=
  let c0_i32_973 : BitVec 32 := 0#32
  let c9_i32_971 : BitVec 32 := 9#32
  let c1_i32_972 : BitVec 32 := 1#32
  let v1297 : BitVec 32 := Scalar.muli c9_i32_971 c1_i32_972
  let v1298 : BitVec 32 := Scalar.addi c0_i32_973 v1297
  v1298.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_628 : BitVec 32 := 10#32
  let v750 : BitVec 1 := Scalar.cmpi .ne v2 c10_i32_628
  let v751 : BitVec 32 := Scalar.extui v750
  let c0_i32_629 : BitVec 32 := 0#32
  let v752 : BitVec 1 := Scalar.cmpi .ne v751 c0_i32_629
  v752

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev44 : Nat :=
  let c0_i32_973 : BitVec 32 := 0#32
  let c10_i32_971 : BitVec 32 := 10#32
  let c1_i32_972 : BitVec 32 := 1#32
  let v1297 : BitVec 32 := Scalar.muli c10_i32_971 c1_i32_972
  let v1298 : BitVec 32 := Scalar.addi c0_i32_973 v1297
  v1298.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_630 : BitVec 32 := 11#32
  let v753 : BitVec 1 := Scalar.cmpi .ne v2 c11_i32_630
  let v754 : BitVec 32 := Scalar.extui v753
  let c0_i32_631 : BitVec 32 := 0#32
  let v755 : BitVec 1 := Scalar.cmpi .ne v754 c0_i32_631
  v755

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev45 : Nat :=
  let c0_i32_973 : BitVec 32 := 0#32
  let c11_i32_971 : BitVec 32 := 11#32
  let c1_i32_972 : BitVec 32 := 1#32
  let v1297 : BitVec 32 := Scalar.muli c11_i32_971 c1_i32_972
  let v1298 : BitVec 32 := Scalar.addi c0_i32_973 v1297
  v1298.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_632 : BitVec 32 := 12#32
  let v756 : BitVec 1 := Scalar.cmpi .ne v2 c12_i32_632
  let v757 : BitVec 32 := Scalar.extui v756
  let c0_i32_633 : BitVec 32 := 0#32
  let v758 : BitVec 1 := Scalar.cmpi .ne v757 c0_i32_633
  v758

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev46 : Nat :=
  let c0_i32_973 : BitVec 32 := 0#32
  let c12_i32_971 : BitVec 32 := 12#32
  let c1_i32_972 : BitVec 32 := 1#32
  let v1297 : BitVec 32 := Scalar.muli c12_i32_971 c1_i32_972
  let v1298 : BitVec 32 := Scalar.addi c0_i32_973 v1297
  v1298.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_634 : BitVec 32 := 13#32
  let v759 : BitVec 1 := Scalar.cmpi .ne v2 c13_i32_634
  let v760 : BitVec 32 := Scalar.extui v759
  let c0_i32_635 : BitVec 32 := 0#32
  let v761 : BitVec 1 := Scalar.cmpi .ne v760 c0_i32_635
  v761

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev47 : Nat :=
  let c0_i32_973 : BitVec 32 := 0#32
  let c13_i32_971 : BitVec 32 := 13#32
  let c1_i32_972 : BitVec 32 := 1#32
  let v1297 : BitVec 32 := Scalar.muli c13_i32_971 c1_i32_972
  let v1298 : BitVec 32 := Scalar.addi c0_i32_973 v1297
  v1298.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_636 : BitVec 32 := 14#32
  let v762 : BitVec 1 := Scalar.cmpi .ne v2 c14_i32_636
  let v763 : BitVec 32 := Scalar.extui v762
  let c0_i32_637 : BitVec 32 := 0#32
  let v764 : BitVec 1 := Scalar.cmpi .ne v763 c0_i32_637
  v764

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev48 : Nat :=
  let c0_i32_973 : BitVec 32 := 0#32
  let c14_i32_971 : BitVec 32 := 14#32
  let c1_i32_972 : BitVec 32 := 1#32
  let v1297 : BitVec 32 := Scalar.muli c14_i32_971 c1_i32_972
  let v1298 : BitVec 32 := Scalar.addi c0_i32_973 v1297
  v1298.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_638 : BitVec 32 := 15#32
  let v765 : BitVec 1 := Scalar.cmpi .ne v2 c15_i32_638
  let v766 : BitVec 32 := Scalar.extui v765
  let c0_i32_639 : BitVec 32 := 0#32
  let v767 : BitVec 1 := Scalar.cmpi .ne v766 c0_i32_639
  v767

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev49 : Nat :=
  let c0_i32_973 : BitVec 32 := 0#32
  let c15_i32_971 : BitVec 32 := 15#32
  let c1_i32_972 : BitVec 32 := 1#32
  let v1297 : BitVec 32 := Scalar.muli c15_i32_971 c1_i32_972
  let v1298 : BitVec 32 := Scalar.addi c0_i32_973 v1297
  v1298.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_640 : BitVec 32 := 16#32
  let v768 : BitVec 1 := Scalar.cmpi .ne v2 c16_i32_640
  let v769 : BitVec 32 := Scalar.extui v768
  let c0_i32_641 : BitVec 32 := 0#32
  let v770 : BitVec 1 := Scalar.cmpi .ne v769 c0_i32_641
  v770

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev50 : Nat :=
  let c0_i32_973 : BitVec 32 := 0#32
  let c16_i32_971 : BitVec 32 := 16#32
  let c1_i32_972 : BitVec 32 := 1#32
  let v1297 : BitVec 32 := Scalar.muli c16_i32_971 c1_i32_972
  let v1298 : BitVec 32 := Scalar.addi c0_i32_973 v1297
  v1298.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_642 : BitVec 32 := 17#32
  let v771 : BitVec 1 := Scalar.cmpi .ne v2 c17_i32_642
  let v772 : BitVec 32 := Scalar.extui v771
  let c0_i32_643 : BitVec 32 := 0#32
  let v773 : BitVec 1 := Scalar.cmpi .ne v772 c0_i32_643
  v773

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev51 : Nat :=
  let c0_i32_973 : BitVec 32 := 0#32
  let c17_i32_971 : BitVec 32 := 17#32
  let c1_i32_972 : BitVec 32 := 1#32
  let v1297 : BitVec 32 := Scalar.muli c17_i32_971 c1_i32_972
  let v1298 : BitVec 32 := Scalar.addi c0_i32_973 v1297
  v1298.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_644 : BitVec 32 := 18#32
  let v774 : BitVec 1 := Scalar.cmpi .ne v2 c18_i32_644
  let v775 : BitVec 32 := Scalar.extui v774
  let c0_i32_645 : BitVec 32 := 0#32
  let v776 : BitVec 1 := Scalar.cmpi .ne v775 c0_i32_645
  v776

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev52 : Nat :=
  let c0_i32_973 : BitVec 32 := 0#32
  let c18_i32_971 : BitVec 32 := 18#32
  let c1_i32_972 : BitVec 32 := 1#32
  let v1297 : BitVec 32 := Scalar.muli c18_i32_971 c1_i32_972
  let v1298 : BitVec 32 := Scalar.addi c0_i32_973 v1297
  v1298.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_646 : BitVec 32 := 19#32
  let v777 : BitVec 1 := Scalar.cmpi .ne v2 c19_i32_646
  let v778 : BitVec 32 := Scalar.extui v777
  let c0_i32_647 : BitVec 32 := 0#32
  let v779 : BitVec 1 := Scalar.cmpi .ne v778 c0_i32_647
  v779

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev53 : Nat :=
  let c0_i32_973 : BitVec 32 := 0#32
  let c19_i32_971 : BitVec 32 := 19#32
  let c1_i32_972 : BitVec 32 := 1#32
  let v1297 : BitVec 32 := Scalar.muli c19_i32_971 c1_i32_972
  let v1298 : BitVec 32 := Scalar.addi c0_i32_973 v1297
  v1298.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_648 : BitVec 32 := 20#32
  let v780 : BitVec 1 := Scalar.cmpi .ne v2 c20_i32_648
  let v781 : BitVec 32 := Scalar.extui v780
  let c0_i32_649 : BitVec 32 := 0#32
  let v782 : BitVec 1 := Scalar.cmpi .ne v781 c0_i32_649
  v782

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev54 : Nat :=
  let c0_i32_973 : BitVec 32 := 0#32
  let c20_i32_971 : BitVec 32 := 20#32
  let c1_i32_972 : BitVec 32 := 1#32
  let v1297 : BitVec 32 := Scalar.muli c20_i32_971 c1_i32_972
  let v1298 : BitVec 32 := Scalar.addi c0_i32_973 v1297
  v1298.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_650 : BitVec 32 := 21#32
  let v783 : BitVec 1 := Scalar.cmpi .ne v2 c21_i32_650
  let v784 : BitVec 32 := Scalar.extui v783
  let c0_i32_651 : BitVec 32 := 0#32
  let v785 : BitVec 1 := Scalar.cmpi .ne v784 c0_i32_651
  v785

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev55 : Nat :=
  let c0_i32_973 : BitVec 32 := 0#32
  let c21_i32_971 : BitVec 32 := 21#32
  let c1_i32_972 : BitVec 32 := 1#32
  let v1297 : BitVec 32 := Scalar.muli c21_i32_971 c1_i32_972
  let v1298 : BitVec 32 := Scalar.addi c0_i32_973 v1297
  v1298.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_652 : BitVec 32 := 22#32
  let v786 : BitVec 1 := Scalar.cmpi .ne v2 c22_i32_652
  let v787 : BitVec 32 := Scalar.extui v786
  let c0_i32_653 : BitVec 32 := 0#32
  let v788 : BitVec 1 := Scalar.cmpi .ne v787 c0_i32_653
  v788

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev56 : Nat :=
  let c0_i32_973 : BitVec 32 := 0#32
  let c22_i32_971 : BitVec 32 := 22#32
  let c1_i32_972 : BitVec 32 := 1#32
  let v1297 : BitVec 32 := Scalar.muli c22_i32_971 c1_i32_972
  let v1298 : BitVec 32 := Scalar.addi c0_i32_973 v1297
  v1298.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_654 : BitVec 32 := 23#32
  let v789 : BitVec 1 := Scalar.cmpi .ne v2 c23_i32_654
  let v790 : BitVec 32 := Scalar.extui v789
  let c0_i32_655 : BitVec 32 := 0#32
  let v791 : BitVec 1 := Scalar.cmpi .ne v790 c0_i32_655
  v791

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev57 : Nat :=
  let c0_i32_973 : BitVec 32 := 0#32
  let c23_i32_971 : BitVec 32 := 23#32
  let c1_i32_972 : BitVec 32 := 1#32
  let v1297 : BitVec 32 := Scalar.muli c23_i32_971 c1_i32_972
  let v1298 : BitVec 32 := Scalar.addi c0_i32_973 v1297
  v1298.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_656 : BitVec 32 := 24#32
  let v792 : BitVec 1 := Scalar.cmpi .ne v2 c24_i32_656
  let v793 : BitVec 32 := Scalar.extui v792
  let c0_i32_657 : BitVec 32 := 0#32
  let v794 : BitVec 1 := Scalar.cmpi .ne v793 c0_i32_657
  v794

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev58 : Nat :=
  let c0_i32_973 : BitVec 32 := 0#32
  let c24_i32_971 : BitVec 32 := 24#32
  let c1_i32_972 : BitVec 32 := 1#32
  let v1297 : BitVec 32 := Scalar.muli c24_i32_971 c1_i32_972
  let v1298 : BitVec 32 := Scalar.addi c0_i32_973 v1297
  v1298.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_658 : BitVec 32 := 25#32
  let v795 : BitVec 1 := Scalar.cmpi .ne v2 c25_i32_658
  let v796 : BitVec 32 := Scalar.extui v795
  let c0_i32_659 : BitVec 32 := 0#32
  let v797 : BitVec 1 := Scalar.cmpi .ne v796 c0_i32_659
  v797

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev59 : Nat :=
  let c0_i32_973 : BitVec 32 := 0#32
  let c25_i32_971 : BitVec 32 := 25#32
  let c1_i32_972 : BitVec 32 := 1#32
  let v1297 : BitVec 32 := Scalar.muli c25_i32_971 c1_i32_972
  let v1298 : BitVec 32 := Scalar.addi c0_i32_973 v1297
  v1298.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_660 : BitVec 32 := 26#32
  let v798 : BitVec 1 := Scalar.cmpi .ne v2 c26_i32_660
  let v799 : BitVec 32 := Scalar.extui v798
  let c0_i32_661 : BitVec 32 := 0#32
  let v800 : BitVec 1 := Scalar.cmpi .ne v799 c0_i32_661
  v800

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev60 : Nat :=
  let c0_i32_973 : BitVec 32 := 0#32
  let c26_i32_971 : BitVec 32 := 26#32
  let c1_i32_972 : BitVec 32 := 1#32
  let v1297 : BitVec 32 := Scalar.muli c26_i32_971 c1_i32_972
  let v1298 : BitVec 32 := Scalar.addi c0_i32_973 v1297
  v1298.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_662 : BitVec 32 := 27#32
  let v801 : BitVec 1 := Scalar.cmpi .ne v2 c27_i32_662
  let v802 : BitVec 32 := Scalar.extui v801
  let c0_i32_663 : BitVec 32 := 0#32
  let v803 : BitVec 1 := Scalar.cmpi .ne v802 c0_i32_663
  v803

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev61 : Nat :=
  let c0_i32_973 : BitVec 32 := 0#32
  let c27_i32_971 : BitVec 32 := 27#32
  let c1_i32_972 : BitVec 32 := 1#32
  let v1297 : BitVec 32 := Scalar.muli c27_i32_971 c1_i32_972
  let v1298 : BitVec 32 := Scalar.addi c0_i32_973 v1297
  v1298.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_664 : BitVec 32 := 28#32
  let v804 : BitVec 1 := Scalar.cmpi .ne v2 c28_i32_664
  let v805 : BitVec 32 := Scalar.extui v804
  let c0_i32_665 : BitVec 32 := 0#32
  let v806 : BitVec 1 := Scalar.cmpi .ne v805 c0_i32_665
  v806

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev62 : Nat :=
  let c0_i32_973 : BitVec 32 := 0#32
  let c28_i32_971 : BitVec 32 := 28#32
  let c1_i32_972 : BitVec 32 := 1#32
  let v1297 : BitVec 32 := Scalar.muli c28_i32_971 c1_i32_972
  let v1298 : BitVec 32 := Scalar.addi c0_i32_973 v1297
  v1298.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_666 : BitVec 32 := 29#32
  let v807 : BitVec 1 := Scalar.cmpi .ne v2 c29_i32_666
  let v808 : BitVec 32 := Scalar.extui v807
  let c0_i32_667 : BitVec 32 := 0#32
  let v809 : BitVec 1 := Scalar.cmpi .ne v808 c0_i32_667
  v809

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev63 : Nat :=
  let c0_i32_973 : BitVec 32 := 0#32
  let c29_i32_971 : BitVec 32 := 29#32
  let c1_i32_972 : BitVec 32 := 1#32
  let v1297 : BitVec 32 := Scalar.muli c29_i32_971 c1_i32_972
  let v1298 : BitVec 32 := Scalar.addi c0_i32_973 v1297
  v1298.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_668 : BitVec 32 := 30#32
  let v810 : BitVec 1 := Scalar.cmpi .ne v2 c30_i32_668
  let v811 : BitVec 32 := Scalar.extui v810
  let c0_i32_669 : BitVec 32 := 0#32
  let v812 : BitVec 1 := Scalar.cmpi .ne v811 c0_i32_669
  v812

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev64 : Nat :=
  let c0_i32_973 : BitVec 32 := 0#32
  let c30_i32_971 : BitVec 32 := 30#32
  let c1_i32_972 : BitVec 32 := 1#32
  let v1297 : BitVec 32 := Scalar.muli c30_i32_971 c1_i32_972
  let v1298 : BitVec 32 := Scalar.addi c0_i32_973 v1297
  v1298.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_670 : BitVec 32 := 31#32
  let v813 : BitVec 1 := Scalar.cmpi .ne v2 c31_i32_670
  let v814 : BitVec 32 := Scalar.extui v813
  let c0_i32_671 : BitVec 32 := 0#32
  let v815 : BitVec 1 := Scalar.cmpi .ne v814 c0_i32_671
  v815

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_974 : BitVec 32 := 0#32
  ![v2.toNat, 0]
def k0_dev65 : Nat :=
  let c0_i32_973 : BitVec 32 := 0#32
  let c31_i32_971 : BitVec 32 := 31#32
  let c1_i32_972 : BitVec 32 := 1#32
  let v1297 : BitVec 32 := Scalar.muli c31_i32_971 c1_i32_972
  let v1298 : BitVec 32 := Scalar.addi c0_i32_973 v1297
  v1298.toNat
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32 : BitVec 32 := 128#32
  let v928 : BitVec 32 := Scalar.muli v12 c128_i32
  let v929 : Index := Scalar.indexCast v928
  let c0_744 : Index := 0#32
  ![v929.toNat, 0]
def k0_off82 (d0 : Dev nD) : Fin 2 → Nat :=
  let c1_i32_749 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v942 : BitVec 32 := Scalar.subi c1_i32_749 v12
  let c128_i32_750 : BitVec 32 := 128#32
  let v943 : BitVec 32 := Scalar.muli v942 c128_i32_750
  let v944 : Index := Scalar.indexCast v943
  let c0_751 : Index := 0#32
  ![v944.toNat, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_752 : BitVec 32 := 16#32
  let v948 : BitVec 32 := Scalar.muli v12 c16_i32_752
  let c0_i32_753 : BitVec 32 := 0#32
  let v949 : BitVec 32 := Scalar.addi v948 c0_i32_753
  let v950 : BitVec 1 := Scalar.cmpi .ne v949 v2
  let v951 : BitVec 32 := Scalar.extui v950
  let c0_i32_754 : BitVec 32 := 0#32
  let v952 : BitVec 1 := Scalar.cmpi .ne v951 c0_i32_754
  v952

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev66 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_752 : BitVec 32 := 16#32
  let v948 : BitVec 32 := Scalar.muli v12 c16_i32_752
  let c0_i32_753 : BitVec 32 := 0#32
  let v949 : BitVec 32 := Scalar.addi v948 c0_i32_753
  let c1_i32_972 : BitVec 32 := 1#32
  let v1298 : BitVec 32 := Scalar.muli v949 c1_i32_972
  let v1299 : BitVec 32 := Scalar.addi c0_i32_973 v1298
  v1299.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_755 : BitVec 32 := 16#32
  let v953 : BitVec 32 := Scalar.muli v12 c16_i32_755
  let c1_i32_756 : BitVec 32 := 1#32
  let v954 : BitVec 32 := Scalar.addi v953 c1_i32_756
  let v955 : BitVec 1 := Scalar.cmpi .ne v954 v2
  let v956 : BitVec 32 := Scalar.extui v955
  let c0_i32_757 : BitVec 32 := 0#32
  let v957 : BitVec 1 := Scalar.cmpi .ne v956 c0_i32_757
  v957

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev67 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_755 : BitVec 32 := 16#32
  let v953 : BitVec 32 := Scalar.muli v12 c16_i32_755
  let c1_i32_756 : BitVec 32 := 1#32
  let v954 : BitVec 32 := Scalar.addi v953 c1_i32_756
  let c1_i32_972 : BitVec 32 := 1#32
  let v1298 : BitVec 32 := Scalar.muli v954 c1_i32_972
  let v1299 : BitVec 32 := Scalar.addi c0_i32_973 v1298
  v1299.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_758 : BitVec 32 := 16#32
  let v958 : BitVec 32 := Scalar.muli v12 c16_i32_758
  let c2_i32_759 : BitVec 32 := 2#32
  let v959 : BitVec 32 := Scalar.addi v958 c2_i32_759
  let v960 : BitVec 1 := Scalar.cmpi .ne v959 v2
  let v961 : BitVec 32 := Scalar.extui v960
  let c0_i32_760 : BitVec 32 := 0#32
  let v962 : BitVec 1 := Scalar.cmpi .ne v961 c0_i32_760
  v962

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev68 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_758 : BitVec 32 := 16#32
  let v958 : BitVec 32 := Scalar.muli v12 c16_i32_758
  let c2_i32_759 : BitVec 32 := 2#32
  let v959 : BitVec 32 := Scalar.addi v958 c2_i32_759
  let c1_i32_972 : BitVec 32 := 1#32
  let v1298 : BitVec 32 := Scalar.muli v959 c1_i32_972
  let v1299 : BitVec 32 := Scalar.addi c0_i32_973 v1298
  v1299.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_761 : BitVec 32 := 16#32
  let v963 : BitVec 32 := Scalar.muli v12 c16_i32_761
  let c3_i32_762 : BitVec 32 := 3#32
  let v964 : BitVec 32 := Scalar.addi v963 c3_i32_762
  let v965 : BitVec 1 := Scalar.cmpi .ne v964 v2
  let v966 : BitVec 32 := Scalar.extui v965
  let c0_i32_763 : BitVec 32 := 0#32
  let v967 : BitVec 1 := Scalar.cmpi .ne v966 c0_i32_763
  v967

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev69 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_761 : BitVec 32 := 16#32
  let v963 : BitVec 32 := Scalar.muli v12 c16_i32_761
  let c3_i32_762 : BitVec 32 := 3#32
  let v964 : BitVec 32 := Scalar.addi v963 c3_i32_762
  let c1_i32_972 : BitVec 32 := 1#32
  let v1298 : BitVec 32 := Scalar.muli v964 c1_i32_972
  let v1299 : BitVec 32 := Scalar.addi c0_i32_973 v1298
  v1299.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_764 : BitVec 32 := 16#32
  let v968 : BitVec 32 := Scalar.muli v12 c16_i32_764
  let c4_i32_765 : BitVec 32 := 4#32
  let v969 : BitVec 32 := Scalar.addi v968 c4_i32_765
  let v970 : BitVec 1 := Scalar.cmpi .ne v969 v2
  let v971 : BitVec 32 := Scalar.extui v970
  let c0_i32_766 : BitVec 32 := 0#32
  let v972 : BitVec 1 := Scalar.cmpi .ne v971 c0_i32_766
  v972

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev70 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_764 : BitVec 32 := 16#32
  let v968 : BitVec 32 := Scalar.muli v12 c16_i32_764
  let c4_i32_765 : BitVec 32 := 4#32
  let v969 : BitVec 32 := Scalar.addi v968 c4_i32_765
  let c1_i32_972 : BitVec 32 := 1#32
  let v1298 : BitVec 32 := Scalar.muli v969 c1_i32_972
  let v1299 : BitVec 32 := Scalar.addi c0_i32_973 v1298
  v1299.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_767 : BitVec 32 := 16#32
  let v973 : BitVec 32 := Scalar.muli v12 c16_i32_767
  let c5_i32_768 : BitVec 32 := 5#32
  let v974 : BitVec 32 := Scalar.addi v973 c5_i32_768
  let v975 : BitVec 1 := Scalar.cmpi .ne v974 v2
  let v976 : BitVec 32 := Scalar.extui v975
  let c0_i32_769 : BitVec 32 := 0#32
  let v977 : BitVec 1 := Scalar.cmpi .ne v976 c0_i32_769
  v977

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev71 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_767 : BitVec 32 := 16#32
  let v973 : BitVec 32 := Scalar.muli v12 c16_i32_767
  let c5_i32_768 : BitVec 32 := 5#32
  let v974 : BitVec 32 := Scalar.addi v973 c5_i32_768
  let c1_i32_972 : BitVec 32 := 1#32
  let v1298 : BitVec 32 := Scalar.muli v974 c1_i32_972
  let v1299 : BitVec 32 := Scalar.addi c0_i32_973 v1298
  v1299.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_770 : BitVec 32 := 16#32
  let v978 : BitVec 32 := Scalar.muli v12 c16_i32_770
  let c6_i32_771 : BitVec 32 := 6#32
  let v979 : BitVec 32 := Scalar.addi v978 c6_i32_771
  let v980 : BitVec 1 := Scalar.cmpi .ne v979 v2
  let v981 : BitVec 32 := Scalar.extui v980
  let c0_i32_772 : BitVec 32 := 0#32
  let v982 : BitVec 1 := Scalar.cmpi .ne v981 c0_i32_772
  v982

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev72 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_770 : BitVec 32 := 16#32
  let v978 : BitVec 32 := Scalar.muli v12 c16_i32_770
  let c6_i32_771 : BitVec 32 := 6#32
  let v979 : BitVec 32 := Scalar.addi v978 c6_i32_771
  let c1_i32_972 : BitVec 32 := 1#32
  let v1298 : BitVec 32 := Scalar.muli v979 c1_i32_972
  let v1299 : BitVec 32 := Scalar.addi c0_i32_973 v1298
  v1299.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_773 : BitVec 32 := 16#32
  let v983 : BitVec 32 := Scalar.muli v12 c16_i32_773
  let c7_i32_774 : BitVec 32 := 7#32
  let v984 : BitVec 32 := Scalar.addi v983 c7_i32_774
  let v985 : BitVec 1 := Scalar.cmpi .ne v984 v2
  let v986 : BitVec 32 := Scalar.extui v985
  let c0_i32_775 : BitVec 32 := 0#32
  let v987 : BitVec 1 := Scalar.cmpi .ne v986 c0_i32_775
  v987

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev73 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_773 : BitVec 32 := 16#32
  let v983 : BitVec 32 := Scalar.muli v12 c16_i32_773
  let c7_i32_774 : BitVec 32 := 7#32
  let v984 : BitVec 32 := Scalar.addi v983 c7_i32_774
  let c1_i32_972 : BitVec 32 := 1#32
  let v1298 : BitVec 32 := Scalar.muli v984 c1_i32_972
  let v1299 : BitVec 32 := Scalar.addi c0_i32_973 v1298
  v1299.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_776 : BitVec 32 := 16#32
  let v988 : BitVec 32 := Scalar.muli v12 c16_i32_776
  let c8_i32_777 : BitVec 32 := 8#32
  let v989 : BitVec 32 := Scalar.addi v988 c8_i32_777
  let v990 : BitVec 1 := Scalar.cmpi .ne v989 v2
  let v991 : BitVec 32 := Scalar.extui v990
  let c0_i32_778 : BitVec 32 := 0#32
  let v992 : BitVec 1 := Scalar.cmpi .ne v991 c0_i32_778
  v992

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev74 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_776 : BitVec 32 := 16#32
  let v988 : BitVec 32 := Scalar.muli v12 c16_i32_776
  let c8_i32_777 : BitVec 32 := 8#32
  let v989 : BitVec 32 := Scalar.addi v988 c8_i32_777
  let c1_i32_972 : BitVec 32 := 1#32
  let v1298 : BitVec 32 := Scalar.muli v989 c1_i32_972
  let v1299 : BitVec 32 := Scalar.addi c0_i32_973 v1298
  v1299.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_779 : BitVec 32 := 16#32
  let v993 : BitVec 32 := Scalar.muli v12 c16_i32_779
  let c9_i32_780 : BitVec 32 := 9#32
  let v994 : BitVec 32 := Scalar.addi v993 c9_i32_780
  let v995 : BitVec 1 := Scalar.cmpi .ne v994 v2
  let v996 : BitVec 32 := Scalar.extui v995
  let c0_i32_781 : BitVec 32 := 0#32
  let v997 : BitVec 1 := Scalar.cmpi .ne v996 c0_i32_781
  v997

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev75 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_779 : BitVec 32 := 16#32
  let v993 : BitVec 32 := Scalar.muli v12 c16_i32_779
  let c9_i32_780 : BitVec 32 := 9#32
  let v994 : BitVec 32 := Scalar.addi v993 c9_i32_780
  let c1_i32_972 : BitVec 32 := 1#32
  let v1298 : BitVec 32 := Scalar.muli v994 c1_i32_972
  let v1299 : BitVec 32 := Scalar.addi c0_i32_973 v1298
  v1299.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_782 : BitVec 32 := 16#32
  let v998 : BitVec 32 := Scalar.muli v12 c16_i32_782
  let c10_i32_783 : BitVec 32 := 10#32
  let v999 : BitVec 32 := Scalar.addi v998 c10_i32_783
  let v1000 : BitVec 1 := Scalar.cmpi .ne v999 v2
  let v1001 : BitVec 32 := Scalar.extui v1000
  let c0_i32_784 : BitVec 32 := 0#32
  let v1002 : BitVec 1 := Scalar.cmpi .ne v1001 c0_i32_784
  v1002

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev76 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_782 : BitVec 32 := 16#32
  let v998 : BitVec 32 := Scalar.muli v12 c16_i32_782
  let c10_i32_783 : BitVec 32 := 10#32
  let v999 : BitVec 32 := Scalar.addi v998 c10_i32_783
  let c1_i32_972 : BitVec 32 := 1#32
  let v1298 : BitVec 32 := Scalar.muli v999 c1_i32_972
  let v1299 : BitVec 32 := Scalar.addi c0_i32_973 v1298
  v1299.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_785 : BitVec 32 := 16#32
  let v1003 : BitVec 32 := Scalar.muli v12 c16_i32_785
  let c11_i32_786 : BitVec 32 := 11#32
  let v1004 : BitVec 32 := Scalar.addi v1003 c11_i32_786
  let v1005 : BitVec 1 := Scalar.cmpi .ne v1004 v2
  let v1006 : BitVec 32 := Scalar.extui v1005
  let c0_i32_787 : BitVec 32 := 0#32
  let v1007 : BitVec 1 := Scalar.cmpi .ne v1006 c0_i32_787
  v1007

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev77 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_785 : BitVec 32 := 16#32
  let v1003 : BitVec 32 := Scalar.muli v12 c16_i32_785
  let c11_i32_786 : BitVec 32 := 11#32
  let v1004 : BitVec 32 := Scalar.addi v1003 c11_i32_786
  let c1_i32_972 : BitVec 32 := 1#32
  let v1298 : BitVec 32 := Scalar.muli v1004 c1_i32_972
  let v1299 : BitVec 32 := Scalar.addi c0_i32_973 v1298
  v1299.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_788 : BitVec 32 := 16#32
  let v1008 : BitVec 32 := Scalar.muli v12 c16_i32_788
  let c12_i32_789 : BitVec 32 := 12#32
  let v1009 : BitVec 32 := Scalar.addi v1008 c12_i32_789
  let v1010 : BitVec 1 := Scalar.cmpi .ne v1009 v2
  let v1011 : BitVec 32 := Scalar.extui v1010
  let c0_i32_790 : BitVec 32 := 0#32
  let v1012 : BitVec 1 := Scalar.cmpi .ne v1011 c0_i32_790
  v1012

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev78 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_788 : BitVec 32 := 16#32
  let v1008 : BitVec 32 := Scalar.muli v12 c16_i32_788
  let c12_i32_789 : BitVec 32 := 12#32
  let v1009 : BitVec 32 := Scalar.addi v1008 c12_i32_789
  let c1_i32_972 : BitVec 32 := 1#32
  let v1298 : BitVec 32 := Scalar.muli v1009 c1_i32_972
  let v1299 : BitVec 32 := Scalar.addi c0_i32_973 v1298
  v1299.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_791 : BitVec 32 := 16#32
  let v1013 : BitVec 32 := Scalar.muli v12 c16_i32_791
  let c13_i32_792 : BitVec 32 := 13#32
  let v1014 : BitVec 32 := Scalar.addi v1013 c13_i32_792
  let v1015 : BitVec 1 := Scalar.cmpi .ne v1014 v2
  let v1016 : BitVec 32 := Scalar.extui v1015
  let c0_i32_793 : BitVec 32 := 0#32
  let v1017 : BitVec 1 := Scalar.cmpi .ne v1016 c0_i32_793
  v1017

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev79 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_791 : BitVec 32 := 16#32
  let v1013 : BitVec 32 := Scalar.muli v12 c16_i32_791
  let c13_i32_792 : BitVec 32 := 13#32
  let v1014 : BitVec 32 := Scalar.addi v1013 c13_i32_792
  let c1_i32_972 : BitVec 32 := 1#32
  let v1298 : BitVec 32 := Scalar.muli v1014 c1_i32_972
  let v1299 : BitVec 32 := Scalar.addi c0_i32_973 v1298
  v1299.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_794 : BitVec 32 := 16#32
  let v1018 : BitVec 32 := Scalar.muli v12 c16_i32_794
  let c14_i32_795 : BitVec 32 := 14#32
  let v1019 : BitVec 32 := Scalar.addi v1018 c14_i32_795
  let v1020 : BitVec 1 := Scalar.cmpi .ne v1019 v2
  let v1021 : BitVec 32 := Scalar.extui v1020
  let c0_i32_796 : BitVec 32 := 0#32
  let v1022 : BitVec 1 := Scalar.cmpi .ne v1021 c0_i32_796
  v1022

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev80 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_794 : BitVec 32 := 16#32
  let v1018 : BitVec 32 := Scalar.muli v12 c16_i32_794
  let c14_i32_795 : BitVec 32 := 14#32
  let v1019 : BitVec 32 := Scalar.addi v1018 c14_i32_795
  let c1_i32_972 : BitVec 32 := 1#32
  let v1298 : BitVec 32 := Scalar.muli v1019 c1_i32_972
  let v1299 : BitVec 32 := Scalar.addi c0_i32_973 v1298
  v1299.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_797 : BitVec 32 := 16#32
  let v1023 : BitVec 32 := Scalar.muli v12 c16_i32_797
  let c15_i32_798 : BitVec 32 := 15#32
  let v1024 : BitVec 32 := Scalar.addi v1023 c15_i32_798
  let v1025 : BitVec 1 := Scalar.cmpi .ne v1024 v2
  let v1026 : BitVec 32 := Scalar.extui v1025
  let c0_i32_799 : BitVec 32 := 0#32
  let v1027 : BitVec 1 := Scalar.cmpi .ne v1026 c0_i32_799
  v1027

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  ![v33.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_974 : BitVec 32 := 0#32
  ![v1297.toNat, 0]
def k0_dev81 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_797 : BitVec 32 := 16#32
  let v1023 : BitVec 32 := Scalar.muli v12 c16_i32_797
  let c15_i32_798 : BitVec 32 := 15#32
  let v1024 : BitVec 32 := Scalar.addi v1023 c15_i32_798
  let c1_i32_972 : BitVec 32 := 1#32
  let v1298 : BitVec 32 := Scalar.muli v1024 c1_i32_972
  let v1299 : BitVec 32 := Scalar.addi c0_i32_973 v1298
  v1299.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_13 : BitVec 32 := 0#32
  let v35 : BitVec 1 := Scalar.cmpi .sgt v2 c0_i32_13
  let v36 : BitVec 32 := Scalar.extui v35
  let c0_i32_14 : BitVec 32 := 0#32
  let v37 : BitVec 1 := Scalar.cmpi .slt v2 c0_i32_14
  let v38 : BitVec 32 := Scalar.extui v37
  let v39 : BitVec 32 := Scalar.subi v36 v38
  let c16_i32 : BitVec 32 := 16#32
  let c0_i32_15 : BitVec 32 := 0#32
  let v40 : BitVec 1 := Scalar.cmpi .sgt c16_i32 c0_i32_15
  let v41 : BitVec 32 := Scalar.extui v40
  let c0_i32_16 : BitVec 32 := 0#32
  let v42 : BitVec 1 := Scalar.cmpi .slt c16_i32 c0_i32_16
  let v43 : BitVec 32 := Scalar.extui v42
  let v44 : BitVec 32 := Scalar.subi v41 v43
  let v45 : BitVec 1 := Scalar.cmpi .ne v39 v44
  let v46 : BitVec 32 := Scalar.remsi v2 c16_i32
  let c0_i32_17 : BitVec 32 := 0#32
  let v47 : BitVec 1 := Scalar.cmpi .ne v46 c0_i32_17
  let v48 : BitVec 1 := Scalar.andi v45 v47
  let v34 : BitVec 32 := Scalar.divsi v2 c16_i32
  let c1_i32_18 : BitVec 32 := 1#32
  let v49 : BitVec 32 := Scalar.subi v34 c1_i32_18
  let v50 : BitVec 32 := Scalar.select v48 v49 v34
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v51 : BitVec 1 := Scalar.cmpi .eq v50 v12
  let v1032 : BitVec 32 := Scalar.extui v51
  let c0_i32_803 : BitVec 32 := 0#32
  let v1033 : BitVec 1 := Scalar.cmpi .ne v1032 c0_i32_803
  v1033

def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_802 : BitVec 32 := 256#32
  let v1031 : BitVec 32 := Scalar.muli v33 c256_i32_802
  let c0_i32_970 : BitVec 32 := 0#32
  ![v1031.toNat, 0]
def k0_off116 (d0 : Dev nD) : Fin 2 → Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_800 : BitVec 32 := 16#32
  let v1028 : BitVec 32 := Scalar.muli v12 c16_i32_800
  let v1029 : BitVec 32 := Scalar.subi v2 v1028
  let c256_i32_801 : BitVec 32 := 256#32
  let v1030 : BitVec 32 := Scalar.muli v1029 c256_i32_801
  ![0, v1030.toNat]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_13 : BitVec 32 := 0#32
  let v35 : BitVec 1 := Scalar.cmpi .sgt v2 c0_i32_13
  let v36 : BitVec 32 := Scalar.extui v35
  let c0_i32_14 : BitVec 32 := 0#32
  let v37 : BitVec 1 := Scalar.cmpi .slt v2 c0_i32_14
  let v38 : BitVec 32 := Scalar.extui v37
  let v39 : BitVec 32 := Scalar.subi v36 v38
  let c16_i32 : BitVec 32 := 16#32
  let c0_i32_15 : BitVec 32 := 0#32
  let v40 : BitVec 1 := Scalar.cmpi .sgt c16_i32 c0_i32_15
  let v41 : BitVec 32 := Scalar.extui v40
  let c0_i32_16 : BitVec 32 := 0#32
  let v42 : BitVec 1 := Scalar.cmpi .slt c16_i32 c0_i32_16
  let v43 : BitVec 32 := Scalar.extui v42
  let v44 : BitVec 32 := Scalar.subi v41 v43
  let v45 : BitVec 1 := Scalar.cmpi .ne v39 v44
  let v46 : BitVec 32 := Scalar.remsi v2 c16_i32
  let c0_i32_17 : BitVec 32 := 0#32
  let v47 : BitVec 1 := Scalar.cmpi .ne v46 c0_i32_17
  let v48 : BitVec 1 := Scalar.andi v45 v47
  let v34 : BitVec 32 := Scalar.divsi v2 c16_i32
  let c1_i32_18 : BitVec 32 := 1#32
  let v49 : BitVec 32 := Scalar.subi v34 c1_i32_18
  let v50 : BitVec 32 := Scalar.select v48 v49 v34
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v51 : BitVec 1 := Scalar.cmpi .eq v50 v12
  let v1114 : BitVec 32 := Scalar.extui v51
  let c0_i32_852 : BitVec 32 := 0#32
  let v1115 : BitVec 1 := Scalar.cmpi .ne v1114 c0_i32_852
  v1115

def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_802 : BitVec 32 := 256#32
  let v1031 : BitVec 32 := Scalar.muli v33 c256_i32_802
  let c0_i32_970 : BitVec 32 := 0#32
  ![v1031.toNat, 0]
def k0_off118 (d0 : Dev nD) : Fin 2 → Nat :=
  let c0_i32_971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_800 : BitVec 32 := 16#32
  let v1028 : BitVec 32 := Scalar.muli v12 c16_i32_800
  let v1029 : BitVec 32 := Scalar.subi v2 v1028
  let c256_i32_801 : BitVec 32 := 256#32
  let v1030 : BitVec 32 := Scalar.muli v1029 c256_i32_801
  ![0, v1030.toNat]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_918 : BitVec 32 := 16#32
  let v1212 : BitVec 32 := Scalar.muli v12 c16_i32_918
  let c0_i32_919 : BitVec 32 := 0#32
  let v1213 : BitVec 32 := Scalar.addi v1212 c0_i32_919
  let v1214 : BitVec 1 := Scalar.cmpi .ne v1213 v2
  let v1215 : BitVec 32 := Scalar.extui v1214
  let c0_i32_920 : BitVec 32 := 0#32
  let v1216 : BitVec 1 := Scalar.cmpi .ne v1215 c0_i32_920
  v1216

def k0_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_921 : BitVec 32 := 16#32
  let v1217 : BitVec 32 := Scalar.muli v12 c16_i32_921
  let c1_i32_922 : BitVec 32 := 1#32
  let v1218 : BitVec 32 := Scalar.addi v1217 c1_i32_922
  let v1219 : BitVec 1 := Scalar.cmpi .ne v1218 v2
  let v1220 : BitVec 32 := Scalar.extui v1219
  let c0_i32_923 : BitVec 32 := 0#32
  let v1221 : BitVec 1 := Scalar.cmpi .ne v1220 c0_i32_923
  v1221

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_924 : BitVec 32 := 16#32
  let v1222 : BitVec 32 := Scalar.muli v12 c16_i32_924
  let c2_i32_925 : BitVec 32 := 2#32
  let v1223 : BitVec 32 := Scalar.addi v1222 c2_i32_925
  let v1224 : BitVec 1 := Scalar.cmpi .ne v1223 v2
  let v1225 : BitVec 32 := Scalar.extui v1224
  let c0_i32_926 : BitVec 32 := 0#32
  let v1226 : BitVec 1 := Scalar.cmpi .ne v1225 c0_i32_926
  v1226

def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_927 : BitVec 32 := 16#32
  let v1227 : BitVec 32 := Scalar.muli v12 c16_i32_927
  let c3_i32_928 : BitVec 32 := 3#32
  let v1228 : BitVec 32 := Scalar.addi v1227 c3_i32_928
  let v1229 : BitVec 1 := Scalar.cmpi .ne v1228 v2
  let v1230 : BitVec 32 := Scalar.extui v1229
  let c0_i32_929 : BitVec 32 := 0#32
  let v1231 : BitVec 1 := Scalar.cmpi .ne v1230 c0_i32_929
  v1231

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_930 : BitVec 32 := 16#32
  let v1232 : BitVec 32 := Scalar.muli v12 c16_i32_930
  let c4_i32_931 : BitVec 32 := 4#32
  let v1233 : BitVec 32 := Scalar.addi v1232 c4_i32_931
  let v1234 : BitVec 1 := Scalar.cmpi .ne v1233 v2
  let v1235 : BitVec 32 := Scalar.extui v1234
  let c0_i32_932 : BitVec 32 := 0#32
  let v1236 : BitVec 1 := Scalar.cmpi .ne v1235 c0_i32_932
  v1236

def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_933 : BitVec 32 := 16#32
  let v1237 : BitVec 32 := Scalar.muli v12 c16_i32_933
  let c5_i32_934 : BitVec 32 := 5#32
  let v1238 : BitVec 32 := Scalar.addi v1237 c5_i32_934
  let v1239 : BitVec 1 := Scalar.cmpi .ne v1238 v2
  let v1240 : BitVec 32 := Scalar.extui v1239
  let c0_i32_935 : BitVec 32 := 0#32
  let v1241 : BitVec 1 := Scalar.cmpi .ne v1240 c0_i32_935
  v1241

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_936 : BitVec 32 := 16#32
  let v1242 : BitVec 32 := Scalar.muli v12 c16_i32_936
  let c6_i32_937 : BitVec 32 := 6#32
  let v1243 : BitVec 32 := Scalar.addi v1242 c6_i32_937
  let v1244 : BitVec 1 := Scalar.cmpi .ne v1243 v2
  let v1245 : BitVec 32 := Scalar.extui v1244
  let c0_i32_938 : BitVec 32 := 0#32
  let v1246 : BitVec 1 := Scalar.cmpi .ne v1245 c0_i32_938
  v1246

def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_939 : BitVec 32 := 16#32
  let v1247 : BitVec 32 := Scalar.muli v12 c16_i32_939
  let c7_i32_940 : BitVec 32 := 7#32
  let v1248 : BitVec 32 := Scalar.addi v1247 c7_i32_940
  let v1249 : BitVec 1 := Scalar.cmpi .ne v1248 v2
  let v1250 : BitVec 32 := Scalar.extui v1249
  let c0_i32_941 : BitVec 32 := 0#32
  let v1251 : BitVec 1 := Scalar.cmpi .ne v1250 c0_i32_941
  v1251

def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_942 : BitVec 32 := 16#32
  let v1252 : BitVec 32 := Scalar.muli v12 c16_i32_942
  let c8_i32_943 : BitVec 32 := 8#32
  let v1253 : BitVec 32 := Scalar.addi v1252 c8_i32_943
  let v1254 : BitVec 1 := Scalar.cmpi .ne v1253 v2
  let v1255 : BitVec 32 := Scalar.extui v1254
  let c0_i32_944 : BitVec 32 := 0#32
  let v1256 : BitVec 1 := Scalar.cmpi .ne v1255 c0_i32_944
  v1256

def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_945 : BitVec 32 := 16#32
  let v1257 : BitVec 32 := Scalar.muli v12 c16_i32_945
  let c9_i32_946 : BitVec 32 := 9#32
  let v1258 : BitVec 32 := Scalar.addi v1257 c9_i32_946
  let v1259 : BitVec 1 := Scalar.cmpi .ne v1258 v2
  let v1260 : BitVec 32 := Scalar.extui v1259
  let c0_i32_947 : BitVec 32 := 0#32
  let v1261 : BitVec 1 := Scalar.cmpi .ne v1260 c0_i32_947
  v1261

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_948 : BitVec 32 := 16#32
  let v1262 : BitVec 32 := Scalar.muli v12 c16_i32_948
  let c10_i32_949 : BitVec 32 := 10#32
  let v1263 : BitVec 32 := Scalar.addi v1262 c10_i32_949
  let v1264 : BitVec 1 := Scalar.cmpi .ne v1263 v2
  let v1265 : BitVec 32 := Scalar.extui v1264
  let c0_i32_950 : BitVec 32 := 0#32
  let v1266 : BitVec 1 := Scalar.cmpi .ne v1265 c0_i32_950
  v1266

def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_951 : BitVec 32 := 16#32
  let v1267 : BitVec 32 := Scalar.muli v12 c16_i32_951
  let c11_i32_952 : BitVec 32 := 11#32
  let v1268 : BitVec 32 := Scalar.addi v1267 c11_i32_952
  let v1269 : BitVec 1 := Scalar.cmpi .ne v1268 v2
  let v1270 : BitVec 32 := Scalar.extui v1269
  let c0_i32_953 : BitVec 32 := 0#32
  let v1271 : BitVec 1 := Scalar.cmpi .ne v1270 c0_i32_953
  v1271

def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_954 : BitVec 32 := 16#32
  let v1272 : BitVec 32 := Scalar.muli v12 c16_i32_954
  let c12_i32_955 : BitVec 32 := 12#32
  let v1273 : BitVec 32 := Scalar.addi v1272 c12_i32_955
  let v1274 : BitVec 1 := Scalar.cmpi .ne v1273 v2
  let v1275 : BitVec 32 := Scalar.extui v1274
  let c0_i32_956 : BitVec 32 := 0#32
  let v1276 : BitVec 1 := Scalar.cmpi .ne v1275 c0_i32_956
  v1276

def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_957 : BitVec 32 := 16#32
  let v1277 : BitVec 32 := Scalar.muli v12 c16_i32_957
  let c13_i32_958 : BitVec 32 := 13#32
  let v1278 : BitVec 32 := Scalar.addi v1277 c13_i32_958
  let v1279 : BitVec 1 := Scalar.cmpi .ne v1278 v2
  let v1280 : BitVec 32 := Scalar.extui v1279
  let c0_i32_959 : BitVec 32 := 0#32
  let v1281 : BitVec 1 := Scalar.cmpi .ne v1280 c0_i32_959
  v1281

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_960 : BitVec 32 := 16#32
  let v1282 : BitVec 32 := Scalar.muli v12 c16_i32_960
  let c14_i32_961 : BitVec 32 := 14#32
  let v1283 : BitVec 32 := Scalar.addi v1282 c14_i32_961
  let v1284 : BitVec 1 := Scalar.cmpi .ne v1283 v2
  let v1285 : BitVec 32 := Scalar.extui v1284
  let c0_i32_962 : BitVec 32 := 0#32
  let v1286 : BitVec 1 := Scalar.cmpi .ne v1285 c0_i32_962
  v1286

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c16_i32_963 : BitVec 32 := 16#32
  let v1287 : BitVec 32 := Scalar.muli v12 c16_i32_963
  let c15_i32_964 : BitVec 32 := 15#32
  let v1288 : BitVec 32 := Scalar.addi v1287 c15_i32_964
  let v1289 : BitVec 1 := Scalar.cmpi .ne v1288 v2
  let v1290 : BitVec 32 := Scalar.extui v1289
  let c0_i32_965 : BitVec 32 := 0#32
  let v1291 : BitVec 1 := Scalar.cmpi .ne v1290 c0_i32_965
  v1291

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7 : BitVec 32 := 0#32
  let v18 : BitVec 1 := Scalar.cmpi .sgt v2 c0_i32_7
  let v19 : BitVec 32 := Scalar.extui v18
  let c0_i32_8 : BitVec 32 := 0#32
  let v20 : BitVec 1 := Scalar.cmpi .slt v2 c0_i32_8
  let v21 : BitVec 32 := Scalar.extui v20
  let v22 : BitVec 32 := Scalar.subi v19 v21
  let c2_i32_6 : BitVec 32 := 2#32
  let c0_i32_9 : BitVec 32 := 0#32
  let v23 : BitVec 1 := Scalar.cmpi .sgt c2_i32_6 c0_i32_9
  let v24 : BitVec 32 := Scalar.extui v23
  let c0_i32_10 : BitVec 32 := 0#32
  let v25 : BitVec 1 := Scalar.cmpi .slt c2_i32_6 c0_i32_10
  let v26 : BitVec 32 := Scalar.extui v25
  let v27 : BitVec 32 := Scalar.subi v24 v26
  let v28 : BitVec 1 := Scalar.cmpi .ne v22 v27
  let v29 : BitVec 32 := Scalar.remsi v2 c2_i32_6
  let c0_i32_11 : BitVec 32 := 0#32
  let v30 : BitVec 1 := Scalar.cmpi .ne v29 c0_i32_11
  let v31 : BitVec 1 := Scalar.andi v28 v30
  let v17 : BitVec 32 := Scalar.divsi v2 c2_i32_6
  let c1_i32_12 : BitVec 32 := 1#32
  let v32 : BitVec 32 := Scalar.subi v17 c1_i32_12
  let v33 : BitVec 32 := Scalar.select v31 v32 v17
  let c256_i32_970 : BitVec 32 := 256#32
  let v1297 : BitVec 32 := Scalar.muli v33 c256_i32_970
  let c0_i32_975 : BitVec 32 := 0#32
  ![v1297.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Cells.lean ====
/-
# The mesh, the semaphore cells and who pays whom

32 devices; a device's partner is the other device of its pair, its parity says which half of the columns it computes.
Every semaphore of the kernel is named by `CK`; `csem` is the machine's cell of the name.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.ShareLeaves
public import Idealize.ShloMosaic.Lib.Ring
public import Idealize.ShloMosaic.Lib.Tactic
public import Mathlib.Tactic.DeriveFintype

@[expose] public section

noncomputable section

namespace Cert.QuantProof

open Cert.KernelIdeal Cert.KernelIdeal.Gen
open Idealize.ShloMosaic
open Idealize.ShloMosaic.TcCoe

/-! ## The mesh -/

/-- The other device of the pair. -/
def partner (c : Dev nD) : Dev nD := ⟨if c.val % 2 = 0 then c.val + 1 else c.val - 1, by have := c.isLt; have : nD = 32 := rfl; split <;> omega⟩
/-- Which half of the columns the device computes. -/
def par (c : Dev nD) : ℕ := c.val % 2
/-- The pair the device is in. -/
def pair (c : Dev nD) : Fin 16 := ⟨c.val / 2, by have := c.isLt; have : nD = 32 := rfl; omega⟩
/-- The device whose result holds column block `j` of the half that `c` computes. -/
def dest (c : Dev nD) (j : Fin 16) : Dev nD := ⟨c.val % 2 * 16 + j.val, by have := j.isLt; show _ < 32; omega⟩
/-- The device of pair `s` that computes the half holding `c`'s column block. -/
def sender (c : Dev nD) (s : Fin 16) : Dev nD := ⟨2 * s.val + c.val / 16, by have := c.isLt; have := s.isLt; have : nD = 32 := rfl; show _ < 32; omega⟩
/-- The place of `c`'s column block within its half. -/
def col (c : Dev nD) : Fin 16 := ⟨c.val % 16, Nat.mod_lt _ (by decide)⟩
/-- The device keeps one of its own column blocks. -/
abbrev Self (c : Dev nD) : Prop := dest c (col c) = c

theorem partner_partner (c : Dev nD) : partner (partner c) = c := by revert c; decide
theorem partner_ne (c : Dev nD) : partner c ≠ c := by revert c; decide
theorem sender_dest (c : Dev nD) (j : Fin 16) : sender (dest c j) (pair c) = c := by revert c j; decide
theorem col_dest (c : Dev nD) (j : Fin 16) : col (dest c j) = j := by revert c j; decide
theorem dest_sender (c : Dev nD) (s : Fin 16) : dest (sender c s) (col c) = c := by revert c s; decide
theorem pair_sender (c : Dev nD) (s : Fin 16) : pair (sender c s) = s := by revert c s; decide
theorem dest_inj (c : Dev nD) : Function.Injective (dest c) := fun i j h => by rw [← col_dest c i, ← col_dest c j, h]
theorem sender_inj (c : Dev nD) : Function.Injective (sender c) := fun i j h => by rw [← pair_sender c i, ← pair_sender c j, h]
/-- Of the column blocks of its half, the device's own can only be block `col c`. -/
theorem dest_eq_self {c : Dev nD} {j : Fin 16} (h : dest c j = c) : j = col c := by rw [← col_dest c j, h]
theorem sender_eq_self {c : Dev nD} {s : Fin 16} (h : sender c s = c) : s = pair c := by rw [← pair_sender c s, h]
theorem self_iff_sender (c : Dev nD) : Self c ↔ sender c (pair c) = c := by revert c; decide

/-! ## The semaphores -/

/-- The semaphores of one device: the barrier; the two of the weight tiles; the block of `x`, sent and received; the local
    copy; the maxima, sent to and received from each device; the column blocks, sent and received. -/
inductive CK where
  | bar | ws (s : Fin 2) | xs | xr | self | as (p : Fin 32) | ar (p : Fin 32) | cs (j : Fin 16) | cr (s : Fin 16)
deriving DecidableEq, Fintype

/-- The place of a DMA semaphore in the pool. -/
def CK.ix : CK → ℕ
  | .bar => 0
  | .ws s => 2 + s.val
  | .xs => 4 | .xr => 5 | .self => 6
  | .as p => 7 + p.val | .ar p => 39 + p.val | .cs j => 71 + j.val | .cr s => 87 + s.val

theorem CK.ix_lt (k : CK) : k.ix < 103 := by
  cases k <;> (try rename_i s; have := s.isLt) <;> simp only [CK.ix] <;> omega

/-- The runtime's barrier semaphore. -/
abbrev barS : Sem sig := (SemArray.scalar (sig.barrier 0 rfl) : Sems sig S_).sem

/-- The DMA semaphore at place `n` of the pool. -/
abbrev dsem (n : ℕ) (h : n < 103) : DmaSem sig := (⟨n, h⟩ : Fin 103)

def csem (k : CK) : SemLoc sig := if k = .bar then .reg barS else .dma (dsem k.ix k.ix_lt)

theorem csem_bar : csem .bar = .reg barS := if_pos rfl
theorem csem_dma {k : CK} (h : k ≠ .bar) : csem k = .dma (dsem k.ix k.ix_lt) := if_neg h

theorem CK.ix_inj {k l : CK} (hk : k ≠ .bar) (hl : l ≠ .bar) (h : k.ix = l.ix) : k = l := by
  cases k <;> cases l <;> simp only [CK.ix, ne_eq, not_true_eq_false, reduceCtorEq, not_false_eq_true] at h hk hl ⊢ <;>
    first
      | (rename_i a b; have := a.isLt; have := b.isLt; first | (congr 1; exact Fin.ext (by omega)) | (exfalso; omega))
      | (rename_i a; have := a.isLt; exfalso; omega)
      | (exfalso; omega)

theorem csem_inj : Function.Injective csem := fun k l h => by
  unfold csem at h
  split at h <;> split at h
  · simp_all
  · cases h
  · cases h
  · rename_i hk hl
    have := SemLoc.dma.inj h
    exact CK.ix_inj hk hl (congrArg Fin.val this)

/-- The cell of the name on a device. -/
abbrev cell (c : Dev nD) (k : CK) : GSem nD τ sig := ((c : Thread nD τ), csem k)

theorem cell_inj {c d : Dev nD} {k l : CK} (h : cell c k = cell d l) : c = d ∧ k = l := by
  have h1 := (Prod.mk.inj h).1
  have h2 := (Prod.mk.inj h).2
  exact ⟨congrArg Prod.fst h1, csem_inj h2⟩

open Classical in
/-- The name of a cell, if it has one. -/
def nameOf (s : SemLoc sig) : Option CK := if h : ∃ k, csem k = s then some h.choose else none

theorem nameOf_csem (k : CK) : nameOf (csem k) = some k := by
  unfold nameOf
  have h : ∃ k', csem k' = csem k := ⟨k, rfl⟩
  rw [dif_pos h]
  exact congrArg some (csem_inj h.choose_spec)

/-! A single semaphore of an array of the kernel's, by its place. -/

theorem sem_of_slice {n b : ℕ} {d : Fin 1 → ℕ} {h : b + (⟨1, d⟩ : Shape).numel ≤ n} {off : Fin 1 → ℕ} {inb : ∀ a, off a + S1.size a ≤ (⟨1, d⟩ : Shape).size a}
    (hs : (Rect.unit (s := (⟨1, d⟩ : Shape)) off S1.size inb).shape.Squeezes S_) (hlt : b + off 0 < n) :
    (((SemArray.consecutive b (⟨1, d⟩ : Shape) h).slice (Rect.unit off S1.size inb)).squeeze S_ hs).sem = ⟨b + off 0, hlt⟩ := by
  refine Fin.ext ?_
  show b + ((⟨1, d⟩ : Shape).rowMajor _ : ℕ) = b + off 0
  congr 1
  rw [Shape.rowMajor_val_one, ValueKit.rect_emb_unit_val]
  have := (Shape.reshapeEquiv (s := (Rect.unit (s := (⟨1, d⟩ : Shape)) off S1.size inb).shape) hs.numel_eq (fun i => i.elim0) (0 : Fin 1)).isLt
  have h1 : (Rect.unit (s := (⟨1, d⟩ : Shape)) off S1.size inb).shape.size (0 : Fin 1) = 1 := rfl
  omega

end Cert.QuantProof
-- ==== Proof.Contents.lean ====
/-
# What every buffer holds

The contents of the kernel's buffers as functions of the memory at launch, for any float values: the block of `x` rounded,
the tiles of `w`, the two partial products of a device, the maximum everyone agrees on, the rounded quotients and the result.
-/
module

public import proofs.«01_k».proof.Proof.Cells
public import Idealize.ShloMosaic.Lib.Pointwise.Index

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Dev nD)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The views -/

abbrev xM : Memref sig .tc .vmem S128x4096 .f32 := Memref.whole cc0_stg0_0
abbrev wM : Memref sig .tc .hbm S4096x8192 .f32 := Memref.whole main_arg1
abbrev oM : Memref sig .tc .vmem S4096x256 .f32 := Memref.whole cc0_stg1_0
abbrev wfM : Memref sig .tc .vmem S2x256x4096 .f32 := Memref.whole cc0_scratch0
abbrev wbM : Memref sig .tc .vmem S8x256x4096 .bf16 := Memref.whole cc0_scratch1
abbrev xoM : Memref sig .tc .vmem S128x4096 .bf16 := Memref.whole cc0_scratch2
abbrev xrM : Memref sig .tc .vmem S128x4096 .bf16 := Memref.whole cc0_scratch3
abbrev yoM : Memref sig .tc .vmem S128x4096 .f32 := Memref.whole cc0_scratch4
abbrev yrM : Memref sig .tc .vmem S128x4096 .f32 := Memref.whole cc0_scratch5
abbrev yqM : Memref sig .tc .vmem S256x4096 .i8 := Memref.whole cc0_scratch6
abbrev ybM : Memref sig .tc .vmem S4096x256 .i8 := Memref.whole cc0_scratch7
abbrev maM : Memref sig .tc .vmem S1x128 .f32 := Memref.whole cc0_scratch8
abbrev abM : Memref sig .tc .vmem S32x128 .f32 := Memref.whole cc0_scratch9

theorem slot_inb (s : Fin 2) : ∀ a, (![s.val, 0, 0] : Fin 3 → ℕ) a + S1x256x4096.size a ≤ S2x256x4096.size a := by revert s; decide
theorem row_inb (p : Fin 32) : ∀ a, (![p.val, 0] : Fin 2 → ℕ) a + S1x128.size a ≤ S32x128.size a := by revert p; decide
theorem chk_inb (j : Fin 16) : ∀ a, (![0, j.val * 256] : Fin 2 → ℕ) a + S256x256.size a ≤ S256x4096.size a := by revert j; decide
theorem blk_inb (s : Fin 16) : ∀ a, (![s.val * 256, 0] : Fin 2 → ℕ) a + S256x256.size a ≤ S4096x256.size a := by revert s; decide

/-- Slot `s` of the two the tiles of `w` are copied to. -/
abbrev slotM (s : Fin 2) : Memref sig .tc .vmem S256x4096 .f32 :=
  (wfM.slice (Rect.unit (s := S2x256x4096) ![s.val, 0, 0] S1x256x4096.size (slot_inb s)) (fun _ => rfl)).squeeze S256x4096 squeezes_S1x256x4096_S256x4096
/-- Row `p` of the buffer of maxima. -/
abbrev rowM (p : Fin 32) : Memref sig .tc .vmem S1x128 .f32 := abM.slice (Rect.unit (s := S32x128) ![p.val, 0] S1x128.size (row_inb p)) (fun _ => rfl)
/-- Column block `j` of the rounded quotients. -/
abbrev chkM (j : Fin 16) : Memref sig .tc .vmem S256x256 .i8 := yqM.slice (Rect.unit (s := S256x4096) ![0, j.val * 256] S256x256.size (chk_inb j)) (fun _ => rfl)
/-- Row block `s` of the column block gathered. -/
abbrev blkM (s : Fin 16) : Memref sig .tc .vmem S256x256 .i8 := ybM.slice (Rect.unit (s := S4096x256) ![s.val * 256, 0] S256x256.size (blk_inb s)) (fun _ => rfl)

/-! ## Contents -/

variable (m : (ℓ : Loc nD τ sig) → Buf (Elt F) ℓ)

/-- The device's block of `x`. -/
def xstg (c : Dev nD) : (cc0_stg0_0 : Ref sig .tc).ty.Contents (Elt F) :=
  (win0_0.blk (0 : Fin 1)).view.read (Elt F) (m ((c : Thread nD τ).loc main_arg0))
/-- The block rounded. -/
def xb (c : Dev nD) : Vec F S128x4096 .bf16 := k0_pay3 (xstg m c)
/-- The device's `w`. -/
def wFull (c : Dev nD) : Vec F S4096x8192 .f32 := m ((c : Thread nD τ).loc main_arg1)
/-- Entry of tile `k` of the half of `w` that the device reads. -/
def wAt (c : Dev nD) (k : ℕ) (a : Fin 256) (b : Fin 4096) : Elt F .f32 :=
  wFull m c (ix2 ⟨(k * 256 + a.val) % 4096, Nat.mod_lt _ (by decide)⟩ ⟨c.val % 2 * 4096 + b.val, by have := b.isLt; omega⟩)
/-- A slot holding tile `k`. -/
def WF (c : Dev nD) (k : ℕ) : Vec F S2x256x4096 .f32 := fun i => wAt m c k (i 1) (i 2)
/-- Tile `k`, and it rounded. -/
def wv (c : Dev nD) (k : ℕ) : Vec F S1x256x4096 .f32 := fun i => wAt m c k (i 1) (i 2)
def wbv (c : Dev nD) (k : ℕ) : Vec F S1x256x4096 .bf16 := k0_pay4 (wv m c k)
/-- Column block `k` of a rounded block of `x`. -/
def xcol (x : Vec F S128x4096 .bf16) (k : ℕ) : Vec F S128x256 .bf16 :=
  fun i => x (ix2 (i 0) ⟨(k * 256 + (i 1).val) % 4096, Nat.mod_lt _ (by decide)⟩)
/-- The sum of the first `n + 1` block products. -/
def acc (c : Dev nD) (x : Vec F S128x4096 .bf16) : ℕ → Vec F S128x4096 .f32
  | 0 => k0_pay5 (xcol x 0) (wbv m c 0)
  | n + 1 => k0_pay7 (xcol x (n + 1)) (wbv m c (n + 1)) (acc c x n)
/-- The half product of the device's own block of `x`, and of its partner's. -/
def yOwn (c : Dev nD) : Vec F S128x4096 .f32 := acc m c (xb m c) 15
def yRem (c : Dev nD) : Vec F S128x4096 .f32 := acc m c (xb m (partner c)) 15
/-- The largest magnitude among a device's entries. -/
def amaxS (c : Dev nD) : F .f32 := k0_pay55 (k0_pay54 (yOwn m c)) (yRem m c)
def amaxRow (c : Dev nD) : Vec F S1x128 .f32 := k0_pay56 (k0_pay54 (yOwn m c)) (yRem m c)
/-- The maxima gathered: row `d` device `d`'s, the device's own row zero. -/
def GG (c : Dev nD) : Vec F S32x128 .f32 := fun i =>
  if (i 0).val = c.val then k0_pay2 i else amaxRow m (⟨(i 0).val, (i 0).isLt⟩ : Fin 32) (ix2 0 (i 1))
/-- The scale. -/
def sc (c : Dev nD) : F .f32 := k0_pay57 (amaxS m c) (GG m c)
def qOwn (c : Dev nD) : Vec F S128x4096 .i8 := k0_pay59 (yOwn m c) (k0_pay58 (amaxS m c) (GG m c))
def qRem (c : Dev nD) : Vec F S128x4096 .i8 := k0_pay60 (sc m c) (yRem m c)
/-- The rounded quotients of the pair's rows. -/
def QQ (c : Dev nD) : Vec F S256x4096 .i8 := fun i =>
  if (i 0).val / 128 = par c then qOwn m c (ix2 ⟨(i 0).val % 128, Nat.mod_lt _ (by decide)⟩ (i 1))
  else qRem m c (ix2 ⟨(i 0).val % 128, Nat.mod_lt _ (by decide)⟩ (i 1))
/-- The device's column block of the rounded quotients. -/
def YY (c : Dev nD) : Vec F S4096x256 .i8 := fun i =>
  QQ m (sender c ⟨(i 0).val / 256, by have h : (i 0).val < 4096 := (i 0).isLt; omega⟩)
    (ix2 ⟨(i 0).val % 256, Nat.mod_lt _ (by decide)⟩ ⟨(col c).val * 256 + (i 1).val, by have h : (i 1).val < 256 := (i 1).isLt; have := (col c).isLt; omega⟩)
/-- The result. -/
def outAt (c : Dev nD) : Vec F S4096x256 .f32 := k0_pay1 (sc m c) (YY m c)

end Cert.QuantProof
-- ==== Proof.Schedule.lean ====
/-
# The schedule

Per semaphore: who pays it, how much, in which round, and what the payment hands to the device that waits on it. The barrier is
paid once by every other device, each handing over the places of its own that the waiting device will write. The semaphores of
the weight tiles run eight rounds; every other one runs one.
-/
module

public import proofs.«01_k».proof.Proof.Contents
public import Mathlib.Algebra.BigOperators.Intervals

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Ownership of the places that change hands -/

def slotPts (c : Dev nD) (s : Fin 2) (f : Buf (Elt F) ((slotM s).view.loc (c : Thread nD τ))) : sProp 𝕄 :=
  (slotM s).view.loc (c : Thread nD τ) ↦[(slotM s).view.set]{fullShare} f
def rowPts (c : Dev nD) (p : Fin 32) (f : Buf (Elt F) ((rowM p).view.loc (c : Thread nD τ))) : sProp 𝕄 :=
  (rowM p).view.loc (c : Thread nD τ) ↦[(rowM p).view.set]{fullShare} f
def chkPts (c : Dev nD) (j : Fin 16) (f : Buf (Elt F) ((chkM j).view.loc (c : Thread nD τ))) : sProp 𝕄 :=
  (chkM j).view.loc (c : Thread nD τ) ↦[(chkM j).view.set]{fullShare} f
def blkPts (c : Dev nD) (s : Fin 16) (f : Buf (Elt F) ((blkM s).view.loc (c : Thread nD τ))) : sProp 𝕄 :=
  (blkM s).view.loc (c : Thread nD τ) ↦[(blkM s).view.set]{fullShare} f
def xrPts (c : Dev nD) (f : Buf (Elt F) (xrM.view.loc (c : Thread nD τ))) : sProp 𝕄 :=
  xrM.view.loc (c : Thread nD τ) ↦[xrM.view.set]{fullShare} f
def xoPts (c : Dev nD) (q : PosShare TreeShare) (f : Buf (Elt F) (xoM.view.loc (c : Thread nD τ))) : sProp 𝕄 :=
  xoM.view.loc (c : Thread nD τ) ↦[xoM.view.set]{q} f
def maPts (c : Dev nD) (q : PosShare TreeShare) (f : Buf (Elt F) (maM.view.loc (c : Thread nD τ))) : sProp 𝕄 :=
  maM.view.loc (c : Thread nD τ) ↦[maM.view.set]{q} f

section
variable (c : Dev nD)
omit [FloatOps F]
instance slotPts_st (s f) : BI.Storable (upEmb : UEmb _ 𝕄) (slotPts c s f) := by unfold slotPts; infer_instance
instance rowPts_st (s f) : BI.Storable (upEmb : UEmb _ 𝕄) (rowPts c s f) := by unfold rowPts; infer_instance
instance chkPts_st (s f) : BI.Storable (upEmb : UEmb _ 𝕄) (chkPts c s f) := by unfold chkPts; infer_instance
instance blkPts_st (s f) : BI.Storable (upEmb : UEmb _ 𝕄) (blkPts c s f) := by unfold blkPts; infer_instance
instance xrPts_st (f) : BI.Storable (upEmb : UEmb _ 𝕄) (xrPts c f) := by unfold xrPts; infer_instance
instance xoPts_st (q f) : BI.Storable (upEmb : UEmb _ 𝕄) (xoPts c q f) := by unfold xoPts; infer_instance
instance maPts_st (q f) : BI.Storable (upEmb : UEmb _ 𝕄) (maPts c q f) := by unfold maPts; infer_instance
end

/-! ## Amounts -/

abbrev slotN : ℕ := (slotM 0).view.dmaCredit
abbrev xN : ℕ := xrM.view.dmaCredit
abbrev rowN : ℕ := maM.view.dmaCredit
abbrev blkN : ℕ := (blkM 0).view.dmaCredit
theorem slotN_pos : 0 < slotN := View.dmaCredit_pos _ (by decide)
theorem xN_pos : 0 < xN := View.dmaCredit_pos _ (by decide)
theorem rowN_pos : 0 < rowN := View.dmaCredit_pos _ (by decide)
theorem blkN_pos : 0 < blkN := View.dmaCredit_pos _ (by decide)

/-- The amount of one payment of the semaphore, given the credits of the four kinds of copy. -/
def amtOf (a b d e : ℕ) : CK → ℕ
  | .bar => 1 | .ws _ => a | .xs => b | .xr => b | .self => e
  | .as _ => d | .ar _ => d | .cs _ => e | .cr _ => e
theorem amtOf_pos {a b d e : ℕ} (ha : 0 < a) (hb : 0 < b) (hd : 0 < d) (he : 0 < e) (k : CK) : 0 < amtOf a b d e k := by
  cases k <;> first | exact Nat.one_pos | exact ha | exact hb | exact hd | exact he
/-- The amount of one payment of the semaphore. -/
abbrev amtK (k : CK) : ℕ := amtOf slotN xN rowN blkN k
theorem amtK_pos (k : CK) : 0 < amtK k := amtOf_pos slotN_pos xN_pos rowN_pos blkN_pos k

/-! ## Payloads -/

/-- The blocks `c` will write to on `p`: its row of the maxima, its row block if `p` holds a column block of `c`'s half, the
    block of `x` if `p` is the partner. -/
def barPay (c p : Dev nD) : sProp 𝕄 :=
  iprop((∃ f, rowPts p c f) ∗ (if dest c (col p) = p then iprop(∃ f, blkPts p (pair c) f) else iprop(emp))
    ∗ (if p = partner c then iprop(∃ f, xrPts p f) else iprop(emp)))

def payK (c : Dev nD) (k : CK) (r : ℕ) (d : Dev nD) : sProp 𝕄 := match k with
  | .bar => barPay c d
  | .ws s => slotPts c s (WF m c (2 * r + s.val))
  | .xs => xoPts c fullShare.right (xb m c)
  | .xr => xrPts c (xb m (partner c))
  | .self => iprop(blkPts c (pair c) (YY m c) ∗ chkPts c (col c) (QQ m c))
  | .as p => maPts c (ShareLeaves.leaf 5 fullShare p) (amaxRow m c)
  | .ar p => rowPts c p (GG m c)
  | .cs j => chkPts c j (QQ m c)
  | .cr s => blkPts c s (YY m c)

omit [FloatOps F] in
instance barPay_st (c p : Dev nD) : BI.Storable (upEmb : UEmb _ 𝕄) (barPay (F := F) c p) := by
  unfold barPay; split <;> split <;> infer_instance
instance payK_st (c : Dev nD) (k r d) : BI.Storable (upEmb : UEmb _ 𝕄) (payK m c k r d) := by
  unfold payK; cases k <;> infer_instance

/-- Who pays the semaphore in the round. -/
def dutiesK (c : Dev nD) (k : CK) (r : ℕ) : Finset (Dev nD) := match k with
  | .bar => if r = 0 then Finset.univ.erase c else ∅
  | .ws _ => if r < 8 then {0} else ∅
  | .xs => if r = 0 then {0} else ∅
  | .xr => if r = 0 then {0} else ∅
  | .self => if r = 0 ∧ Self c then {0} else ∅
  | .as p => if r = 0 ∧ p ≠ c then {0} else ∅
  | .ar p => if r = 0 ∧ p ≠ c then {0} else ∅
  | .cs j => if r = 0 ∧ dest c j ≠ c then {0} else ∅
  | .cr s => if r = 0 ∧ sender c s ≠ c then {0} else ∅

def Rd : Rounds.Schedule (GSem nD τ sig) (Dev nD) 𝕄 where
  duties g r := if g.1.2 = .tc then (match nameOf g.2 with | none => ∅ | some k => dutiesK g.1.1 k r) else ∅
  unitless _ := False
  amount g _ _ := match nameOf g.2 with | none => 1 | some k => amtK k
  payload g r d := match nameOf g.2 with | none => iprop(emp) | some k => payK m g.1.1 k r d
  amount_pos g _ _ _ := by
    cases nameOf g.2 with
    | none => exact Nat.one_pos
    | some k => exact amtK_pos k

instance Rd_st (g : GSem nD τ sig) (r : ℕ) (d : Dev nD) : BI.Storable (upEmb : UEmb _ 𝕄) ((Rd m).payload g r d) := by
  show BI.Storable upEmb (match nameOf g.2 with | none => iprop(emp) | some k => payK m g.1.1 k r d)
  split <;> infer_instance

section
variable (c : Dev nD) (k : CK)
theorem duties_cell (r : ℕ) : (Rd m).duties (cell c k) r = dutiesK c k r := by
  dsimp only [Rd]; rw [nameOf_csem]; exact if_pos rfl
theorem amount_cell (r : ℕ) (d) : (Rd m).amount (cell c k) r d = amtK k := by
  dsimp only [Rd]; rw [nameOf_csem]
theorem payload_cell (r : ℕ) (d) : (Rd m).payload (cell c k) r d = payK m c k r d := by
  dsimp only [Rd]; rw [nameOf_csem]
theorem expect_cell (r : ℕ) : (Rd m).expect (cell c k) r = (dutiesK c k r).card * amtK k := by
  unfold Schedule.expect Schedule.amountOf
  rw [duties_cell, Finset.sum_congr rfl fun d _ => amount_cell m c k r d, Finset.sum_const, smul_eq_mul]

/-- From which round on nothing is paid any more. -/
def lastK : ℕ := match k with | .ws _ => 8 | _ => 1
theorem duties_last : ∀ r, lastK k ≤ r → (Rd m).duties (cell c k) r = ∅ := fun r hr => by
  rw [duties_cell]
  cases k
  all_goals first | exact if_neg (fun h => absurd h (by change 1 ≤ r at hr; omega)) | exact if_neg (fun h => absurd h (by change 8 ≤ r at hr; omega))
/-- What a wait for a single payment brings. -/
theorem rest_one {r : ℕ} (h : dutiesK c k r = {0}) :
    bigSep ((Rd m).duties (cell c k) r \ ∅) (fun d => (Rd m).payload (cell c k) r d) = payK m c k r 0 := by
  rw [Finset.sdiff_empty, duties_cell, h, bigSep_singleton, payload_cell]
theorem expect_one {r : ℕ} (h : dutiesK c k r = {0}) : (Rd m).expect (cell c k) r = amtK k := by
  rw [expect_cell, h, Finset.card_singleton, one_mul]
/-- A cell nobody pays has nothing from round 0 on. -/
theorem duties_none (h : dutiesK c k 0 = ∅) : ∀ r, 0 ≤ r → (Rd m).duties (cell c k) r = ∅ := fun r _ => by
  rw [duties_cell]
  by_cases hr : r = 0
  · rw [hr, h]
  · rw [← duties_cell m]
    cases k
    case ws s =>
      have h' : (if (0 : ℕ) < 8 then {0} else ∅ : Finset (Dev nD)) = ∅ := h
      rw [if_pos (by decide)] at h'
      exact absurd h' (Finset.singleton_ne_empty _)
    all_goals exact duties_last m c _ r (by show 1 ≤ r; omega)
end

/-! ## What a device owes, and in which order it pays -/

/-- The `i`-th debt: the barrier of device `i`; the block of `x` to the partner; the maximum to each device; the column blocks. -/
def debt (c : Dev nD) (i : ℕ) : CellTallies nD τ sig Unit :=
  if h : i < 32 then (if (⟨i, h⟩ : Dev nD) = c then 0 else tallyAt (cell ⟨i, h⟩ .bar) () 1)
  else if i = 32 then tallyAt (cell (partner c) .xr) () xN
  else if h : i - 33 < 32 then (if (⟨i - 33, h⟩ : Dev nD) = c then 0 else tallyAt (cell ⟨i - 33, h⟩ (.ar c)) () rowN)
  else if h : i - 65 < 16 then (if dest c ⟨i - 65, h⟩ = c then 0 else tallyAt (cell (dest c ⟨i - 65, h⟩) (.cr (pair c))) () blkN)
  else 0

/-- What is owed once the first `n` debts are paid. -/
def owed (c : Dev nD) (n : ℕ) : CellTallies nD τ sig Unit := ∑ i ∈ Finset.Ico n 81, debt c i

theorem owed_step (c : Dev nD) {n : ℕ} (h : n < 81) : owed c n = owed c (n + 1) + debt c n := by
  unfold owed; rw [Finset.sum_eq_sum_Ico_succ_bot h, add_comm]
theorem owed_end (c : Dev nD) : owed c 81 = 0 := by unfold owed; rw [Finset.Ico_self, Finset.sum_empty]

def L (g : GSem nD τ sig) : Finset Unit := if g.1.2 = .tc then {()} else ∅
/-- The order of the waits: the barrier, then the block of `x`, the maxima, the column blocks; the rest first. -/
def levK : CK → ℕ
  | .bar => 1 | .xr => 2 | .ar _ => 3 | .cr _ => 4 | _ => 0
def lv (g : GSem nD τ sig) (_ : Unit) : ℕ := match nameOf g.2 with | none => 0 | some k => levK k
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = levK k := by unfold lv; rw [nameOf_csem]

/-- The level of the `i`-th debt. -/
def levD (i : ℕ) : ℕ := if i < 32 then 1 else if i = 32 then 2 else if i < 65 then 3 else 4

theorem debt_pos {c : Dev nD} {i : ℕ} {g : GSem nD τ sig} {u : Unit} (h : 0 < debt c i g u) : ∃ d k, g = cell d k ∧ levK k = levD i := by
  have key : ∀ (g' : GSem nD τ sig) (n : ℕ), 0 < (tallyAt g' () n : CellTallies nD τ sig Unit) g u → g = g' := fun g' n h' => by
    rw [tallyAt_apply] at h'
    by_contra hn
    rw [if_neg fun x => hn x.1] at h'
    exact Nat.lt_irrefl 0 h'
  unfold debt at h
  split at h
  · rename_i hi
    split at h
    · exact absurd h (Nat.lt_irrefl 0)
    · exact ⟨_, _, key _ _ h, by show _ = levD _; unfold levD; split_ifs <;> first | rfl | omega⟩
  split at h
  · rename_i h1 hi; exact ⟨_, _, key _ _ h, by show _ = levD _; unfold levD; split_ifs <;> first | rfl | omega⟩
  split at h
  · rename_i h1 h2 hi
    split at h
    · exact absurd h (Nat.lt_irrefl 0)
    · exact ⟨_, _, key _ _ h, by show _ = levD _; unfold levD; split_ifs <;> first | rfl | omega⟩
  split at h
  · rename_i h1 h2 h3 hi
    split at h
    · exact absurd h (Nat.lt_irrefl 0)
    · exact ⟨_, _, key _ _ h, by show _ = levD _; unfold levD; split_ifs <;> first | rfl | omega⟩
  · exact absurd h (Nat.lt_irrefl 0)

theorem owed_pos {c : Dev nD} {n : ℕ} {g : GSem nD τ sig} {u : Unit} (h : 0 < owed c n g u) :
    ∃ i d k, n ≤ i ∧ g = cell d k ∧ levK k = levD i := by
  unfold owed at h
  rw [Finset.sum_apply, Finsupp.finset_sum_apply] at h
  obtain ⟨i, hi, hp⟩ : ∃ i ∈ Finset.Ico n 81, 0 < debt c i g u := by
    by_contra hn
    push Not at hn
    rw [Finset.sum_eq_zero (fun i hi => Nat.le_zero.mp (hn i hi))] at h
    exact Nat.lt_irrefl 0 h
  obtain ⟨d, k, e⟩ := debt_pos hp
  exact ⟨i, d, k, (Finset.mem_Ico.mp hi).1, e⟩

theorem levD_mono {i j : ℕ} (h : i ≤ j) : levD i ≤ levD j := by unfold levD; split_ifs <;> omega

omit [FloatOps F] in
/-- A wait of lower level than every debt left is allowed. -/
theorem mayWait (c : Dev nD) (sm : SemLoc sig) (n : ℕ) (h : lv ((c : Thread nD τ), sm) () < levD n) :
    (levAts L lv : sProp 𝕄) ⊢ MayWait (c : Thread nD τ) sm () (owed c n) :=
  MayOwe.of_cut (L := L) (lev := lv) (lv ((c : Thread nD τ), sm) ()) (fun p hp => by rw [Finset.mem_singleton.mp hp, L_tc]; exact Finset.mem_singleton_self _)
    (fun g u hg => by obtain ⟨i, d, k, -, rfl, -⟩ := owed_pos hg; rw [L_tc]; exact Finset.mem_singleton_self _)
    (fun p hp => by rw [Finset.mem_singleton.mp hp])
    (fun g u hg => by
      obtain ⟨i, d, k, hi, rfl, hl⟩ := owed_pos hg
      rw [lv_cell, hl]
      exact lt_of_lt_of_le h (levD_mono hi))

omit [FloatOps F] in
/-- Once nothing is owed every wait is allowed. -/
theorem mayWait_end (c : Dev nD) (sm : SemLoc sig) : (levAts L lv : sProp 𝕄) ⊢ MayWait (c : Thread nD τ) sm () (owed c 81) := by
  rw [owed_end, MayWait_zero]; iintro -; iempintro

end Cert.QuantProof
-- ==== Proof.Steps.lean ====
/-
# Rules for the single operations

A device's running state is its record of the cells and what it still owes; every signal, copy and wait of the kernel is one of
a few rules over that state. The phases of the protocol that run over all devices are kept as one assertion indexed by the step.
-/
module

public import proofs.«01_k».proof.Proof.Schedule

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Phases over a finite range -/

/-- Step `n` of a phase: the places before `n` are past it, the others still ahead. -/
def Ph {N : ℕ} (A B : Fin N → sProp 𝕄) (n : ℕ) : sProp 𝕄 :=
  bigSep Finset.univ fun p : Fin N => if p.val < n then B p else A p
omit [FloatOps F] in
theorem ph_zero {N : ℕ} (A B : Fin N → sProp 𝕄) : Ph A B 0 = bigSep Finset.univ A := by
  unfold Ph; exact bigSep_congr fun p _ => if_neg (Nat.not_lt_zero _)
omit [FloatOps F] in
theorem ph_end {N : ℕ} (A B : Fin N → sProp 𝕄) : Ph A B N = bigSep Finset.univ B := by
  unfold Ph; exact bigSep_congr fun p _ => if_pos p.isLt
omit [FloatOps F] in
theorem ph_at {N : ℕ} (A B : Fin N → sProp 𝕄) (p : Fin N) :
    Ph A B p.val = iprop(A p ∗ bigSep (Finset.univ.erase p) fun q => if q.val < p.val then B q else A q) := by
  unfold Ph; rw [bigSep_univ_at _ p, if_neg (Nat.lt_irrefl _)]
omit [FloatOps F] in
theorem ph_succ {N : ℕ} (A B : Fin N → sProp 𝕄) (p : Fin N) :
    Ph A B (p.val + 1) = iprop(B p ∗ bigSep (Finset.univ.erase p) fun q => if q.val < p.val then B q else A q) := by
  unfold Ph; rw [bigSep_univ_at _ p, if_pos (Nat.lt_succ_self _)]
  congr 1
  refine bigSep_congr fun q hq => ?_
  have hne : q.val ≠ p.val := fun h => (Finset.mem_erase.mp hq).1 (Fin.ext h)
  by_cases h : q.val < p.val
  · rw [if_pos h, if_pos (Nat.lt_succ_of_lt h)]
  · rw [if_neg h, if_neg (by omega)]
omit [FloatOps F] in
/-- Taking the place of the current step leaves the next step, once the place is past it. -/
theorem ph_take {N n : ℕ} {A B : Fin N → sProp 𝕄} (p : Fin N) (hn : n = p.val) :
    Ph A B n ⊢ iprop(A p ∗ (B p -∗ Ph A B (n + 1))) := by
  subst hn; rw [ph_at, ph_succ]
  iintro ⟨HA, HR⟩
  isplitl [HA]; · iexact HA
  iintro HB
  isplitl [HB]; · iexact HB
  iexact HR
omit [FloatOps F] in
/-- A step whose place passes by itself. -/
theorem ph_skip {N n : ℕ} {A B : Fin N → sProp 𝕄} (p : Fin N) (hn : n = p.val) (h : A p ⊢ B p) :
    Ph A B n ⊢ Ph A B (n + 1) := by
  subst hn; rw [ph_at, ph_succ]; exact sep_mono_left h

/-! ## The running state -/

/-- The order of the cells. -/
def Levs : sProp 𝕄 := levAts L lv
omit [FloatOps F] in
instance levs_persistent : Persistent (Levs (F := F)) := by unfold Levs; infer_instance
/-- Every cell's record, and the order of the cells. -/
def Recs (K : Dev nD × CK → ℕ) : sProp 𝕄 :=
  iprop((bigSep Finset.univ fun x : Dev nD × CK => iprop(cellInv ER (Rd m) (K x) (cell x.1 x.2) ∗ reached ER (cell x.1 x.2) 0))
    ∗ Levs)
instance recs_persistent (K : Dev nD × CK → ℕ) : Persistent (Recs m K) := by unfold Recs; infer_instance
theorem recs_cell (K : Dev nD × CK → ℕ) (c : Dev nD) (k : CK) : Recs m K ⊢ cellInv ER (Rd m) (K (c, k)) (cell c k) := by
  unfold Recs
  rw [bigSep_univ_at _ (c, k)]
  iintro ⟨⟨⟨H, -⟩, -⟩, -⟩; iexact H
theorem recs_reached (K : Dev nD × CK → ℕ) (c : Dev nD) (k : CK) : Recs m K ⊢ reached ER (cell c k) 0 := by
  unfold Recs
  rw [bigSep_univ_at _ (c, k)]
  iintro ⟨⟨⟨-, H⟩, -⟩, -⟩; iexact H
/-- The records, and what the device still owes after its first `n` debts. -/
def Core (K : Dev nD × CK → ℕ) (c : Dev nD) (n : ℕ) : sProp 𝕄 :=
  iprop(Recs m K ∗ ∃ W : Waits sig Unit, owes (c : Thread nD τ) (owed c n) W)

/-- A cell of the device's own that nothing more will be paid to. -/
def Done (c : Dev nD) (k : CK) : sProp 𝕄 :=
  iprop(∃ R : ℕ, ⌜∀ r, R ≤ r → (Rd m).duties (cell c k) r = ∅⌝ ∗ atPos ER (cell c k) R ∅ 0)

/-- The weakest precondition of a piece of the kernel on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {m}
variable {K : Dev nD × CK → ℕ} {c : Dev nD} {n : ℕ}

theorem core_recs : Core m K c n ⊢ iprop(Recs m K ∗ Core m K c n) := by
  unfold Core
  iintro ⟨#HR, HO⟩
  isplitr; · iexact HR
  isplitr; · iexact HR
  iexact HO
/-- A debt of nothing is paid. -/
theorem core_skip (hn : n < 81) (h : debt c n = 0) : Core m K c n = Core m K c (n + 1) := by
  unfold Core; rw [owed_step c hn, h, add_zero]
theorem done_of {k : CK} {R : ℕ} (h : ∀ r, R ≤ r → (Rd m).duties (cell c k) r = ∅) : atPos ER (cell c k) R ∅ 0 ⊢ Done m c k := by
  unfold Done; iintro H; iexists R; isplitr
  · ipureintro; exact h
  · iexact H
theorem done_last {k : CK} : atPos ER (cell c k) (lastK k) ∅ 0 ⊢ Done m c k := done_of (duties_last m c k)
theorem done_none {k : CK} (h : dutiesK c k 0 = ∅) : atPos ER (cell c k) 0 ∅ 0 ⊢ Done m c k := done_of (duties_none m c k h)
/-- A finished cell gives its semaphore back at zero. -/
theorem done_close {k : CK} : iprop(Recs m K ∗ Done m c k) ⊢ iprop(|={Set.univ}=> semVal (cell c k) 0) := by
  iintro ⟨HR, HD⟩
  unfold Done
  icases HD with ⟨%R, %hR, Hat⟩
  ihave HI := recs_cell m K c k $$ [HR]
  · iexact HR
  iapply (Rounds.cell_close ER (Rd m) (Set.mem_univ (K (c, k))) (fun h => h) hR)
  isplitl [HI] <;> iassumption

/-! ## The rules -/

omit [FloatOps F] in
theorem levs_wait (c : Dev nD) (k : CK) (n : ℕ) (hl : levK k < levD n ∨ n = 81) :
    (Levs : sProp 𝕄) ⊢ MayWait (c : Thread nD τ) (csem k) () (owed c n) := by
  unfold Levs
  rcases hl with h | h
  · exact mayWait c (csem k) n (by rw [lv_cell]; exact h)
  · rw [h]; exact mayWait_end c (csem k)
/-- A device may wait at a level below every debt it has left. -/
theorem recs_wait (c : Dev nD) (k : CK) (n : ℕ) (hl : levK k < levD n ∨ n = 81) :
    Recs m K ⊢ MayWait (c : Thread nD τ) (csem k) () (owed c n) := by
  unfold Recs; iintro ⟨-, H⟩; iapply (levs_wait c k n hl); iexact H

/-- A wait for one payment. -/
theorem wait_core {α : Type} {Q : α → sProp 𝕄} {k : CK} {r : ℕ} {w : TpuEff nD τ sig (Elt F) Λ₀ .tc PUnit} {N : ℕ} {sm : SemLoc sig}
    {kk : PUnit → Prog (TpuEff nD τ sig (Elt F) Λ₀ .tc) α}
    (hw : ∀ K' : PUnit → sProp 𝕄, wpE (defs₀ (F := F)) 𝒱₀ (c : Thread nD τ) none Set.univ w K' = waitSpec (c : Thread nD τ) Set.univ sm N K')
    (hs : sm = csem k) (hN : N = amtK k) (hd : dutiesK c k r = {0}) (hl : levK k < levD n ∨ n = 81) :
    iprop(Core m K c n ∗ cred (tallyAt (cell c k) () N) ∗ atPos ER (cell c k) r ∅ 0)
      ⊢ iprop(((Core m K c n ∗ atPos ER (cell c k) (r + 1) ∅ 0 ∗ reached ER (cell c k) (r + 1) ∗ payK m c k r 0) -∗ wpc c (kk ⟨⟩) Q)
          -∗ wpc c (.op w kk) Q) := by
  subst hs
  unfold Core
  iintro ⟨⟨#HR, ⟨%W, HO⟩⟩, Hc, Hat⟩ Hk
  ihave #HI := recs_cell m K c k $$ HR
  ihave HM := recs_wait c k n hl $$ HR
  iapply (Rounds.wp_wait_rest_token 𝒱₀ ER (Rd m) (c : Thread nD τ) none (κ := K (c, k)) hw (Set.mem_univ _) () (O := owed c n) (W := W)
    (R := r) (m := 0) (T := ∅) (by rw [expect_one m c k hd, hN, Nat.zero_add])) $$ [Hc HO HM Hat]
  · isplitr; · iexact HI
    isplitl [Hc]; · iexact Hc
    isplitl [HO]; · iexact HO
    isplitl [HM]; · iexact HM
    iexact Hat
  iintro ⟨HO, Hat, Hr, Hp⟩
  iapply Hk
  isplitl [HO]
  · isplitr; · iexact HR
    iexists _; iexact HO
  isplitl [Hat]; · iexact Hat
  isplitl [Hr]; · iexact Hr
  iapply (Entails.of_eq (rest_one m c k hd))
  iexact Hp

/-- A copy to another device, paying a debt. -/
theorem send_core {α : Type} {Q : α → sProp 𝕄} {kS kR : CK} {d d' : Dev nD} {N : ℕ} {sS sR : SemLoc sig}
    {sp sp' : Space} {s : Shape} {e : EltTy} {src : Memref sig ((c : Thread nD τ).2.kind) sp s e} {dst : Memref sig ((Dev.tc (τ := τ) d').2.kind) sp' s e}
    {hsc : dst.view.ref.isScScratch = false} {hsrc : src.view.WordExact} {hdst : dst.view.WordExact}
    {hsem : DmaTarget.Typed sp sR (.remote (Dev.tc d') dst sS hsc)}
    {kk : PUnit → Prog (TpuEff nD τ sig (Elt F) Λ₀ .tc) α} {q : PosShare TreeShare}
    {fs : Buf (Elt F) (src.view.loc (c : Thread nD τ))} {fd : Buf (Elt F) (dst.view.loc (Dev.tc (τ := τ) d'))}
    (hd' : d' = d) (hsS : sS = csem kS) (hsR : sR = csem kR) (hn : n < 81) (hdebt : debt c n = tallyAt (cell d kR) () N)
    (hdS : dutiesK c kS 0 = {0}) (hdR : dutiesK d kR 0 = {0})
    (hN : dst.view.amount sR = N) (hNS : amtK kS = N) (hNR : amtK kR = N)
    (hp1 : (src.view.loc (c : Thread nD τ) ↦[src.view.set]{q} fs) ⊢ payK m c kS 0 0)
    (hp2 : (dst.view.loc (Dev.tc (τ := τ) d') ↦[dst.view.set]{fullShare} (dst.view.write (Elt F) fd (src.view.read (Elt F) fs) Finset.univ))
      ⊢ payK m d kR 0 0) :
    iprop(Core m K c n ∗ (src.view.loc (c : Thread nD τ) ↦[src.view.set]{q} fs)
        ∗ (dst.view.loc (Dev.tc (τ := τ) d') ↦[dst.view.set]{fullShare} fd)
        ∗ dutyTok ER (cell c kS) 0 0 ∗ dutyTok ER (cell d kR) 0 0)
      ⊢ iprop(((Core m K c (n + 1) ∗ cred (tallyAt (cell c kS) () N)) -∗ wpc c (kk ⟨⟩) Q)
          -∗ wpc c (.op (.enqueueDma src (.remote (Dev.tc d') dst sS hsc) sR hsrc hdst hsem) kk) Q) := by
  subst hd' hsS hsR
  unfold Core
  iintro ⟨⟨#HR, ⟨%W, HO⟩⟩, Hs, Hd, Ht1, Ht2⟩ Hk
  ihave #HI1 := recs_cell m K c kS $$ HR
  ihave #HI2 := recs_cell m K d' kR $$ HR
  ihave #Hr1 := recs_reached m K c kS $$ HR
  ihave #Hr2 := recs_reached m K d' kR $$ HR
  iapply (Rounds.wp_send_pointsTo 𝒱₀ ER (Rd m) (c : Thread nD τ) none (κ₁ := K (c, kS)) (κ₂ := K (d', kR)) (r₁ := 0) (r₂ := 0)
    (d₁ := 0) (d₂ := 0) (fd := fd) (O₀ := owed c n) (by rw [duties_cell, hdS]; exact Finset.mem_singleton_self _)
    (by rw [duties_cell, hdR]; exact Finset.mem_singleton_self _) () () N hN
    (by rw [amount_cell]; exact hNS) (by rw [amount_cell]; exact hNR) (owed c (n + 1)) (by rw [owed_step c hn, hdebt])
    (by rw [payload_cell]; exact hp1) (by rw [payload_cell]; exact hp2)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · isplitr; · iexact HR
    iexists _; iexact HO
  iexact Hc

/-- A copy within the device. -/
theorem copy_core {α : Type} {Q : α → sProp 𝕄} {k : CK} {r N : ℕ} {sm : SemLoc sig}
    {sp sp' : Space} {s : Shape} {e : EltTy} {src : Memref sig ((c : Thread nD τ).2.kind) sp s e} {dst : Memref sig ((c : Thread nD τ).2.kind) sp' s e}
    {hsrc : src.view.WordExact} {hdst : dst.view.WordExact}
    {hsem : DmaTarget.Typed (nD := nD) sp sm (.here dst)}
    {kk : PUnit → Prog (TpuEff nD τ sig (Elt F) Λ₀ .tc) α} {q : PosShare TreeShare}
    {fs : Buf (Elt F) (src.view.loc (c : Thread nD τ))} {fd : Buf (Elt F) (dst.view.loc (c : Thread nD τ))}
    (hs : sm = csem k) (hd : dutiesK c k r = {0})
    (hN : dst.view.amount sm = N) (hNS : amtK k = N)
    (hp : iprop((dst.view.loc (c : Thread nD τ) ↦[dst.view.set]{fullShare} (dst.view.write (Elt F) fd (src.view.read (Elt F) fs) Finset.univ))
      ∗ (src.view.loc (c : Thread nD τ) ↦[src.view.set]{q} fs)) ⊢ payK m c k r 0) :
    iprop(Recs m K ∗ (src.view.loc (c : Thread nD τ) ↦[src.view.set]{q} fs)
        ∗ (dst.view.loc (c : Thread nD τ) ↦[dst.view.set]{fullShare} fd)
        ∗ dutyTok ER (cell c k) r 0 ∗ reached ER (cell c k) r)
      ⊢ iprop((cred (tallyAt (cell c k) () N) -∗ wpc c (kk ⟨⟩) Q)
          -∗ wpc c (.op (.enqueueDma src (.here dst) sm hsrc hdst hsem) kk) Q) := by
  subst hs
  iintro ⟨#HR, Hs, Hd, Ht, Hr⟩ Hk
  ihave #HI := recs_cell m K c k $$ HR
  iapply (Rounds.wp_copy_pointsTo 𝒱₀ ER (Rd m) (c : Thread nD τ) none (κ := K (c, k)) (r := r) (d := 0)
    (by rw [duties_cell, hd]; exact Finset.mem_singleton_self _) () N hN (by rw [amount_cell]; exact hNS)
    (by rw [payload_cell]; exact hp)) $$ [Hs Hd Ht Hr]
  · isplitr; · iexact HI
    isplitl [Hs]; · iexact Hs
    isplitl [Hd]; · iexact Hd
    isplitl [Ht]; · iexact Ht
    iexact Hr
  iexact Hk

theorem lift_bind {E : Type → Type} {α β : Type} (e : E α) (k : α → Prog E β) : (Prog.lift e >>= k) = .op e k := rfl

end Cert.QuantProof
-- ==== Proof.Places.lean ====
/-
# Reading and writing the places

What a load through a rectangle reads, what a store leaves and what a copy lands, entry by entry.
-/
module

public import proofs.«01_k».proof.Proof.Contents
public import Idealize.ShloMosaic.Lib.ValueLayout

@[expose] public section

noncomputable section

namespace Cert.QuantProof

open Cert.KernelIdeal Cert.KernelIdeal.Gen
open Idealize.ShloMosaic
open Idealize.ShloMosaic.TcCoe

variable {F : FTy → Type} [FloatOps F]
variable (m : (ℓ : Loc nD τ sig) → Buf (Elt F) ℓ)

omit [FloatOps F] in
/-- Reading a rectangle of a whole buffer, at an entry whose place in the buffer is known. -/
theorem readAt_at {b : Ref sig .tc} {off size : Fin b.ty.shape.rank → ℕ} (inb : ∀ a, off a + size a ≤ b.ty.shape.size a)
    (f : b.ty.Contents (Elt F)) (x : (Rect.unit off size inb).shape.Idx) (i : b.ty.shape.Idx) (h : ∀ a, (i a : ℕ) = off a + (x a : ℕ)) :
    (Memref.whole b).view.readAt (Elt F) (Rect.unit off size inb).toLoadRect f x = f i := by
  have e : (Rect.unit off size inb).emb x = i := funext fun a => Fin.ext ((ValueKit.rect_emb_unit_val off size inb x a).trans (h a).symm)
  show f ((Rect.unit off size inb).emb x) = f i
  rw [e]

omit [FloatOps F] in
/-- Writing a rectangle of a whole buffer: at an entry inside, what is written. -/
theorem write_in {b : Ref sig .tc} {off size : Fin b.ty.shape.rank → ℕ} (inb : ∀ a, off a + size a ≤ b.ty.shape.size a)
    (f : b.ty.Contents (Elt F)) (w : (Rect.unit off size inb).shape.Idx → Elt F b.ty.elt) (x : (Rect.unit off size inb).shape.Idx) (i : b.ty.shape.Idx)
    (h : ∀ a, (i a : ℕ) = off a + (x a : ℕ)) :
    ((View.whole b).slice (Rect.unit off size inb)).write (Elt F) f w Finset.univ i = w x := by
  have e : ((View.whole b).slice (Rect.unit off size inb)).emb x = i := funext fun a => Fin.ext ((ValueKit.rect_emb_unit_val off size inb x a).trans (h a).symm)
  rw [← e, View.write_emb_of_mem _ _ (Finset.mem_univ _)]
  rfl

omit [FloatOps F] in
/-- Writing a rectangle of a whole buffer: an entry outside keeps its value. -/
theorem write_out {b : Ref sig .tc} {off size : Fin b.ty.shape.rank → ℕ} (inb : ∀ a, off a + size a ≤ b.ty.shape.size a)
    (f : b.ty.Contents (Elt F)) (w : (Rect.unit off size inb).shape.Idx → Elt F b.ty.elt) (i : b.ty.shape.Idx)
    (a : Fin b.ty.shape.rank) (h : (i a : ℕ) < off a ∨ off a + size a ≤ (i a : ℕ)) :
    ((View.whole b).slice (Rect.unit off size inb)).write (Elt F) f w Finset.univ i = f i := by
  refine View.write_of_not_mem _ _ _ fun hm => ?_
  rw [show ((View.whole b).slice (Rect.unit off size inb)).setOn Finset.univ = ((View.whole b).slice (Rect.unit off size inb)).set from rfl,
    View.set_slice_whole] at hm
  have := (Rect.mem_set_unit.mp hm) a
  omega

/-! ## Loads -/

omit [FloatOps F] in
theorem read_xo (f : Vec F S128x4096 .bf16) (j : ℕ) {off : Fin 2 → ℕ} (ho : off = ![0, j * 256]) (inb : ∀ a, off a + S128x256.size a ≤ S128x4096.size a) :
    xoM.view.readAt (Elt F) (Rect.unit (s := S128x4096) off S128x256.size inb).toLoadRect f = xcol f j := by
  subst ho
  funext x
  have h1 : j * 256 + 256 ≤ 4096 := inb 1
  have h2 : (x 1).val < 256 := (x 1).isLt
  exact readAt_at (b := cc0_scratch2) inb f x _ (fun a => by
    match a with
    | ⟨0, _⟩ => exact (Nat.zero_add _).symm
    | ⟨1, _⟩ => exact Nat.mod_eq_of_lt (by omega))

omit [FloatOps F] in
theorem read_xr (f : Vec F S128x4096 .bf16) (j : ℕ) {off : Fin 2 → ℕ} (ho : off = ![0, j * 256]) (inb : ∀ a, off a + S128x256.size a ≤ S128x4096.size a) :
    xrM.view.readAt (Elt F) (Rect.unit (s := S128x4096) off S128x256.size inb).toLoadRect f = xcol f j := by
  subst ho
  funext x
  have h1 : j * 256 + 256 ≤ 4096 := inb 1
  have h2 : (x 1).val < 256 := (x 1).isLt
  exact readAt_at (b := cc0_scratch3) inb f x _ (fun a => by
    match a with
    | ⟨0, _⟩ => exact (Nat.zero_add _).symm
    | ⟨1, _⟩ => exact Nat.mod_eq_of_lt (by omega))

omit [FloatOps F] in
theorem read_slot (c : Dev nD) (k : ℕ) (s : Fin 2) {off : Fin 3 → ℕ} (ho : off = ![s.val, 0, 0]) (inb : ∀ a, off a + S1x256x4096.size a ≤ S2x256x4096.size a) :
    wfM.view.readAt (Elt F) (Rect.unit (s := S2x256x4096) off S1x256x4096.size inb).toLoadRect (WF m c k) = wv m c k := by
  subst ho
  funext x
  have h0 : (x 0).val < 1 := (x 0).isLt
  refine readAt_at (b := cc0_scratch0) inb (WF m c k) x (ix3 s (x 1) (x 2)) (fun a => ?_)
  match a with
  | ⟨0, _⟩ => show s.val = s.val + (x 0).val; omega
  | ⟨1, _⟩ => exact (Nat.zero_add _).symm
  | ⟨2, _⟩ => exact (Nat.zero_add _).symm

/-- The buffer of rounded tiles holds the last eight of the first `n`. -/
def HasTiles (c : Dev nD) (n : ℕ) (f : Vec F S8x256x4096 .bf16) : Prop :=
  ∀ j, j < n → n ≤ j + 8 → ∀ (a : Fin 256) (b : Fin 4096), f (ix3 ⟨j % 8, Nat.mod_lt _ (by decide)⟩ a b) = wbv m c j (ix3 0 a b)

theorem read_tile {c : Dev nD} {n : ℕ} {f : Vec F S8x256x4096 .bf16} (hf : HasTiles m c n f) (j : ℕ) (h1 : j < n) (h2 : n ≤ j + 8)
    {off : Fin 3 → ℕ} (ho : off = ![j % 8, 0, 0]) (inb : ∀ a, off a + S1x256x4096.size a ≤ S8x256x4096.size a) :
    wbM.view.readAt (Elt F) (Rect.unit (s := S8x256x4096) off S1x256x4096.size inb).toLoadRect f = wbv m c j := by
  subst ho
  funext x
  have h0 : (x 0).val < 1 := (x 0).isLt
  have e : x = (ix3 0 (x 1) (x 2) : S1x256x4096.Idx) := funext fun a => by
    match a with
    | ⟨0, _⟩ => exact Fin.ext (by show (x 0).val = 0; omega)
    | ⟨1, _⟩ => rfl
    | ⟨2, _⟩ => rfl
  refine Eq.trans ?_ ((hf j h1 h2 (x 1) (x 2)).trans (congrArg (wbv m c j) e).symm)
  refine readAt_at (b := cc0_scratch1) inb f x (ix3 ⟨j % 8, Nat.mod_lt _ (by decide)⟩ (x 1) (x 2)) (fun a => ?_)
  match a with
  | ⟨0, _⟩ => show j % 8 = j % 8 + (x 0).val; omega
  | ⟨1, _⟩ => exact (Nat.zero_add _).symm
  | ⟨2, _⟩ => exact (Nat.zero_add _).symm

theorem write_tile {c : Dev nD} {n : ℕ} {f : Vec F S8x256x4096 .bf16} (hf : HasTiles m c n f)
    {off : Fin 3 → ℕ} (ho : off = ![n % 8, 0, 0]) (inb : ∀ a, off a + S1x256x4096.size a ≤ S8x256x4096.size a) :
    HasTiles m c (n + 1) ((wbM.access (Rect.unit (s := S8x256x4096) off S1x256x4096.size inb)).write (Elt F) f (wbv m c n) Finset.univ) := by
  subst ho
  intro j h1 h2 a b
  by_cases hj : j = n
  · subst hj
    refine write_in (b := cc0_scratch1) inb f (wbv m c j) (ix3 0 a b) _ (fun d => ?_)
    match d with
    | ⟨0, _⟩ => exact (Nat.add_zero _).symm
    | ⟨1, _⟩ => exact (Nat.zero_add _).symm
    | ⟨2, _⟩ => exact (Nat.zero_add _).symm
  · refine Eq.trans ?_ (hf j (by omega) (by omega) a b)
    refine write_out (b := cc0_scratch1) inb f (wbv m c n) _ 0 ?_
    show j % 8 < n % 8 ∨ n % 8 + 1 ≤ j % 8
    omega

/-! ## Copies -/

omit [FloatOps F] in
theorem slot_emb (s : Fin 2) (y : S256x4096.Idx) : (slotM s).view.emb y = (ix3 s (y 0) (y 1) : S2x256x4096.Idx) := by
  show (Rect.unit (s := S2x256x4096) ![s.val, 0, 0] S1x256x4096.size (slot_inb s)).emb (Shape.reshapeEquiv _ y) = _
  have hz := Shape.rowMajor_reshapeEquiv (s := S1x256x4096) (s' := S256x4096) squeezes_S1x256x4096_S256x4096.numel_eq y
  generalize hg : Shape.reshapeEquiv (s := S1x256x4096) (s' := S256x4096) squeezes_S1x256x4096_S256x4096.numel_eq y = z at hz
  have hv : (S1x256x4096.rowMajor z).val = (S256x4096.rowMajor y).val := by first | exact congrArg Fin.val hz | exact hz
  rw [Shape.rowMajor_val_three, Shape.rowMajor_val_two] at hv
  have h0 : (z 0).val < 1 := (z 0).isLt
  have h1 : (z 1).val < 256 := (z 1).isLt
  have h2 : (z 2).val < 4096 := (z 2).isLt
  have g0 : (y 0).val < 256 := (y 0).isLt
  have g1 : (y 1).val < 4096 := (y 1).isLt
  have hv' : ((z 0).val * 256 + (z 1).val) * 4096 + (z 2).val = (y 0).val * 4096 + (y 1).val := hv
  funext a
  refine Fin.ext ((ValueKit.rect_emb_unit_val _ _ _ _ _).trans ?_)
  match a with
  | ⟨0, _⟩ => show s.val + (z 0).val = s.val; omega
  | ⟨1, _⟩ => show 0 + (z 1).val = (y 0).val; omega
  | ⟨2, _⟩ => show 0 + (z 2).val = (y 1).val; omega

omit [FloatOps F] in
/-- Tile `k` of the device's half of `w`, landed in slot `s`. -/
theorem slot_landed (c : Dev nD) (k : ℕ) (s : Fin 2) {off : Fin 2 → ℕ} (ho : off = ![k * 256, c.val % 2 * 4096])
    (inb : ∀ a, off a + S256x4096.size a ≤ S4096x8192.size a) (fd : Vec F S2x256x4096 .f32) :
    ∀ i ∈ (slotM s).view.set, (slotM s).view.write (Elt F) fd ((wM.slice (Rect.unit (s := S4096x8192) off S256x4096.size inb) (fun _ => rfl)).view.read (Elt F) (wFull m c)) Finset.univ i
      = WF m c k i := by
  subst ho
  intro i hi
  obtain ⟨y, -, rfl⟩ := Finset.mem_map.mp hi
  rw [View.write_emb_of_mem _ _ (Finset.mem_univ _), slot_emb]
  have h1 : k * 256 + 256 ≤ 4096 := inb 0
  have h2 : (y 0).val < 256 := (y 0).isLt
  show wFull m c ((Rect.unit (s := S4096x8192) ![k * 256, c.val % 2 * 4096] S256x4096.size inb).emb y) = wAt m c k (y 0) (y 1)
  unfold wAt
  congr 1
  funext a
  refine Fin.ext ((ValueKit.rect_emb_unit_val _ _ _ _ _).trans ?_)
  match a with
  | ⟨0, _⟩ =>
    show k * 256 + (y 0).val = (k * 256 + (y 0).val) % 4096
    exact (Nat.mod_eq_of_lt (by omega)).symm
  | ⟨1, _⟩ => rfl

/-- Device `c`'s row landed in row `c` of the maxima of another device. -/
theorem row_landed (c p : Dev nD) (h : p ≠ c) (fd : Vec F S32x128 .f32) :
    ∀ i ∈ (rowM c).view.set, (rowM c).view.write (Elt F) fd (maM.view.read (Elt F) (amaxRow m c)) Finset.univ i = GG m p i := by
  intro i hi
  obtain ⟨y, -, rfl⟩ := Finset.mem_map.mp hi
  rw [View.write_emb_of_mem _ _ (Finset.mem_univ _)]
  have e0 : (((rowM c).view.emb y (0 : Fin 2) : Fin _) : ℕ) = c.val := by
    have := ValueKit.rect_emb_unit_val (s := S32x128) ![c.val, 0] S1x128.size (row_inb c) y 0
    have h0 : (y 0).val < 1 := (y 0).isLt
    have e : (![c.val, 0] : Fin 2 → ℕ) 0 = c.val := rfl
    rw [e] at this
    exact this.trans (by omega)
  have e1 : (((rowM c).view.emb y (1 : Fin 2) : Fin _) : ℕ) = (y 1).val :=
    (ValueKit.rect_emb_unit_val (s := S32x128) ![c.val, 0] S1x128.size (row_inb c) y 1).trans (Nat.zero_add _)
  show amaxRow m c y = GG m p ((rowM c).view.emb y)
  unfold GG
  rw [if_neg (by rw [e0]; exact fun h' => h (Fin.ext h'.symm))]
  have ed : (⟨((rowM c).view.emb y (0 : Fin 2)).val, ((rowM c).view.emb y (0 : Fin 2)).isLt⟩ : Fin 32) = c := Fin.ext e0
  rw [ed]
  congr 1
  funext a
  match a with
  | ⟨0, _⟩ => exact Fin.ext (by have h0 : (y 0).val < 1 := (y 0).isLt; show (y 0).val = 0; omega)
  | ⟨1, _⟩ => exact Fin.ext e1.symm

/-- Column block `j` of `c`'s quotients, landed in row block `pair c` of the device `d` that holds the block. -/
theorem blk_landed (c d : Dev nD) (j : Fin 16) (hd : dest c j = d) (fd : Vec F S4096x256 .i8) :
    ∀ i ∈ (blkM (pair c)).view.set, (blkM (pair c)).view.write (Elt F) fd ((chkM j).view.read (Elt F) (QQ m c)) Finset.univ i = YY m d i := by
  intro i hi
  obtain ⟨y, -, rfl⟩ := Finset.mem_map.mp hi
  rw [View.write_emb_of_mem _ _ (Finset.mem_univ _)]
  have h0 : (y 0).val < 256 := (y 0).isLt
  have h1 : (y 1).val < 256 := (y 1).isLt
  have e0 : (((blkM (pair c)).view.emb y (0 : Fin 2) : Fin _) : ℕ) = (pair c).val * 256 + (y 0).val :=
    ValueKit.rect_emb_unit_val (s := S4096x256) ![(pair c).val * 256, 0] S256x256.size (blk_inb (pair c)) y 0
  have e1 : (((blkM (pair c)).view.emb y (1 : Fin 2) : Fin _) : ℕ) = (y 1).val :=
    (ValueKit.rect_emb_unit_val (s := S4096x256) ![(pair c).val * 256, 0] S256x256.size (blk_inb (pair c)) y 1).trans (Nat.zero_add _)
  show QQ m c ((Rect.unit (s := S256x4096) ![0, j.val * 256] S256x256.size (chk_inb j)).emb y) = YY m d ((blkM (pair c)).view.emb y)
  unfold YY
  have es : (⟨((blkM (pair c)).view.emb y (0 : Fin 2)).val / 256, by have h : ((blkM (pair c)).view.emb y (0 : Fin 2)).val < 4096 := ((blkM (pair c)).view.emb y (0 : Fin 2)).isLt; omega⟩ : Fin 16) = pair c :=
    Fin.ext (by show _ / 256 = _; rw [e0]; omega)
  rw [es]
  rw [show sender d (pair c) = c by rw [← hd, sender_dest]]
  congr 1
  funext a
  refine Fin.ext ((ValueKit.rect_emb_unit_val _ _ _ _ _).trans ?_)
  match a with
  | ⟨0, _⟩ => show 0 + (y 0).val = ((blkM (pair c)).view.emb y (0 : Fin 2)).val % 256; rw [e0]; omega
  | ⟨1, _⟩ =>
    show j.val * 256 + (y 1).val = (col d).val * 256 + ((blkM (pair c)).view.emb y (1 : Fin 2)).val
    rw [e1, ← hd, col_dest]

/-! ## The two stores of the quotients -/

theorem quot_stored (c : Dev nD) (f : Vec F S256x4096 .i8) {o1 o2 : Fin 2 → ℕ} (h1 : o1 = ![c.val % 2 * 128, 0]) (h2 : o2 = ![(1 - c.val % 2) * 128, 0])
    (i1 : ∀ a, o1 a + S128x4096.size a ≤ S256x4096.size a) (i2 : ∀ a, o2 a + S128x4096.size a ≤ S256x4096.size a) :
    (yqM.access (Rect.unit (s := S256x4096) o2 S128x4096.size i2)).write (Elt F)
      ((yqM.access (Rect.unit (s := S256x4096) o1 S128x4096.size i1)).write (Elt F) f (qOwn m c) Finset.univ) (qRem m c) Finset.univ = QQ m c := by
  subst h1 h2
  funext i
  have hi : (i 0).val < 256 := (i 0).isLt
  unfold QQ par
  by_cases hp : (i 0).val / 128 = c.val % 2
  · rw [if_pos hp]
    refine (write_out (b := cc0_scratch6) i2 _ (qRem m c) i 0 ?_).trans ?_
    · show (i 0).val < (1 - c.val % 2) * 128 ∨ (1 - c.val % 2) * 128 + 128 ≤ (i 0).val
      omega
    refine write_in (b := cc0_scratch6) i1 f (qOwn m c) _ i (fun a => ?_)
    match a with
    | ⟨0, _⟩ => show (i 0).val = c.val % 2 * 128 + (i 0).val % 128; omega
    | ⟨1, _⟩ => exact (Nat.zero_add _).symm
  · rw [if_neg hp]
    refine write_in (b := cc0_scratch6) i2 _ (qRem m c) _ i (fun a => ?_)
    match a with
    | ⟨0, _⟩ => show (i 0).val = (1 - c.val % 2) * 128 + (i 0).val % 128; omega
    | ⟨1, _⟩ => exact (Nat.zero_add _).symm

end Cert.QuantProof
-- ==== Proof.Proto.lean ====
/-
# The steps of the protocol

Each signal, copy and wait of the kernel, under the condition the kernel puts on it, as one step of the phase it belongs to.
-/
module

public import proofs.«01_k».proof.Proof.Steps
public import proofs.«01_k».proof.Proof.Places

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## Copies and waits as they stand in the kernel -/

theorem send_plain {Q : α → sProp 𝕄} {R S S' : sProp 𝕄} (kS kR : CK) (d : Dev nD) {d' : Dev nD} {N : ℕ} {sS sR : DmaSem sig}
    {sp sp' : Space} {s : Shape} {e : EltTy} {src : Memref sig .tc sp s e} {dst : Memref sig .tc sp' s e}
    (srcM : Memref sig .tc sp s e) (dstM : Memref sig .tc sp' s e)
    {hsc : dst.view.ref.isScScratch = false} {hsrc : src.view.WordExact} {hdst : dst.view.WordExact}
    {hsem : DmaTarget.Typed sp (.dma sR) (.remote (Dev.tc d') dst (.dma sS) hsc)}
    {q : PosShare TreeShare} {fs : Buf (Elt F) (srcM.view.loc (c : Thread nD τ))}
    (hS : src = srcM) (hD : dst = dstM)
    (hd' : d' = d) (hsS : SemLoc.dma sS = csem kS) (hsR : SemLoc.dma sR = csem kR) (hn : n < 81) (hdebt : debt c n = tallyAt (cell d kR) () N)
    (hdS : dutiesK c kS 0 = {0}) (hdR : dutiesK d kR 0 = {0})
    (hN : dstM.view.dmaCredit = N) (hNS : amtK kS = N) (hNR : amtK kR = N)
    (hp1 : (srcM.view.loc (c : Thread nD τ) ↦[srcM.view.set]{q} fs) ⊢ payK m c kS 0 0)
    (hp2 : ∀ fd : Buf (Elt F) (dstM.view.loc (d : Thread nD τ)),
      (dstM.view.loc (d : Thread nD τ) ↦[dstM.view.set]{fullShare} (dstM.view.write (Elt F) fd (srcM.view.read (Elt F) fs) Finset.univ)) ⊢ payK m d kR 0 0)
    (hst : S ⊢ iprop((srcM.view.loc (c : Thread nD τ) ↦[srcM.view.set]{q} fs)
        ∗ (∃ fd : Buf (Elt F) (dstM.view.loc (d : Thread nD τ)), dstM.view.loc (d : Thread nD τ) ↦[dstM.view.set]{fullShare} fd)
        ∗ dutyTok ER (cell c kS) 0 0 ∗ dutyTok ER (cell d kR) 0 0 ∗ (cred (tallyAt (cell c kS) () N) -∗ S')))
    (H : iprop(Core m K c (n + 1) ∗ S' ∗ R) ⊢ wpc c k Q) :
    iprop(Core m K c n ∗ S ∗ R)
      ⊢ wpc c (Prog.lift (.enqueueDma src (.remote (Dev.tc d') dst (.dma sS) hsc) (.dma sR) hsrc hdst hsem) >>= fun _ => k) Q := by
  subst hS hD hd'
  rw [lift_bind]
  iintro ⟨HC, HS, HR⟩
  ihave HS' := hst $$ HS
  icases HS' with ⟨Hs, ⟨%fd, Hd⟩, Ht1, Ht2, Hk⟩
  iapply (send_core (K := K) (fd := fd) (d := d') (kS := kS) (kR := kR) rfl hsS hsR hn hdebt hdS hdR hN hNS hNR hp1 (hp2 fd)) $$ [HC Hs Hd Ht1 Ht2]
  · isplitl [HC]; · iexact HC
    isplitl [Hs]; · iexact Hs
    isplitl [Hd]; · iexact Hd
    isplitl [Ht1]; · iexact Ht1
    iexact Ht2
  iintro ⟨HC, Hc⟩
  iapply H
  isplitl [HC]; · iexact HC
  isplitl [Hk Hc]
  · iapply Hk; iexact Hc
  iexact HR

theorem send_dite {Q : α → sProp 𝕄} {R S S' : sProp 𝕄} (kS kR : CK) (d : Dev nD) {P : Prop} [Decidable P] {d' : P → Dev nD} {N : ℕ} {sS sR : P → DmaSem sig}
    {sp sp' : Space} {s : Shape} {e : EltTy} {src : P → Memref sig .tc sp s e} {dst : P → Memref sig .tc sp' s e}
    (srcM : Memref sig .tc sp s e) (dstM : Memref sig .tc sp' s e)
    {hsc : ∀ h, (dst h).view.ref.isScScratch = false} {hsrc : ∀ h, (src h).view.WordExact} {hdst : ∀ h, (dst h).view.WordExact}
    {hsem : ∀ h, DmaTarget.Typed sp (.dma (sR h)) (.remote (Dev.tc (d' h)) (dst h) (.dma (sS h)) (hsc h))}
    {q : PosShare TreeShare} {fs : Buf (Elt F) (srcM.view.loc (c : Thread nD τ))}
    (hS : ∀ h, src h = srcM) (hD : ∀ h, dst h = dstM)
    (hd' : ∀ h, d' h = d) (hsS : ∀ h, SemLoc.dma (sS h) = csem kS) (hsR : ∀ h, SemLoc.dma (sR h) = csem kR) (hn : n < 81)
    (hdebt : P → debt c n = tallyAt (cell d kR) () N)
    (hdS : P → dutiesK c kS 0 = {0}) (hdR : P → dutiesK d kR 0 = {0})
    (hN : dstM.view.dmaCredit = N) (hNS : amtK kS = N) (hNR : amtK kR = N)
    (hp1 : (srcM.view.loc (c : Thread nD τ) ↦[srcM.view.set]{q} fs) ⊢ payK m c kS 0 0)
    (hp2 : P → ∀ fd : Buf (Elt F) (dstM.view.loc (d : Thread nD τ)),
      (dstM.view.loc (d : Thread nD τ) ↦[dstM.view.set]{fullShare} (dstM.view.write (Elt F) fd (srcM.view.read (Elt F) fs) Finset.univ)) ⊢ payK m d kR 0 0)
    (hst : P → (S ⊢ iprop((srcM.view.loc (c : Thread nD τ) ↦[srcM.view.set]{q} fs)
        ∗ (∃ fd : Buf (Elt F) (dstM.view.loc (d : Thread nD τ)), dstM.view.loc (d : Thread nD τ) ↦[dstM.view.set]{fullShare} fd)
        ∗ dutyTok ER (cell c kS) 0 0 ∗ dutyTok ER (cell d kR) 0 0 ∗ (cred (tallyAt (cell c kS) () N) -∗ S'))))
    (hdebt0 : ¬P → debt c n = 0) (hsk : ¬P → (S ⊢ S'))
    (H : iprop(Core m K c (n + 1) ∗ S' ∗ R) ⊢ wpc c k Q) :
    iprop(Core m K c n ∗ S ∗ R)
      ⊢ wpc c (dite P (fun h => Prog.lift (.enqueueDma (src h) (.remote (Dev.tc (d' h)) (dst h) (.dma (sS h)) (hsc h)) (.dma (sR h)) (hsrc h) (hdst h) (hsem h)) >>= fun _ => k)
          (fun _ => k)) Q := by
  by_cases h : P
  · rw [dif_pos h]
    exact send_plain kS kR d srcM dstM (hS h) (hD h) (hd' h) (hsS h) (hsR h) hn (hdebt h) (hdS h) (hdR h) hN hNS hNR hp1 (hp2 h) (hst h) H
  · rw [dif_neg h, core_skip hn (hdebt0 h)]
    exact (sep_mono_right (sep_mono_left (hsk h))).trans H

theorem wait_plain {Q : α → sProp 𝕄} {R S S' : sProp 𝕄} (kk : CK) (r : ℕ) {N : ℕ} {sem : DmaSem sig} {sp sp' : Space} {s s' : Shape} {e e' : EltTy} {src : Memref sig .tc sp' s' e'}
    {dst : Memref sig .tc sp s e} {hsrc : src.view.WordExact} {hdst : dst.view.WordExact}
    (hs : SemLoc.dma sem = csem kk) (hN : dst.view.dmaCredit = N) (hN' : amtK kk = N) (hd : dutiesK c kk r = {0}) (hl : levK kk < levD n ∨ n = 81)
    (hst : S ⊢ iprop(cred (tallyAt (cell c kk) () N) ∗ atPos ER (cell c kk) r ∅ 0
      ∗ ((atPos ER (cell c kk) (r + 1) ∅ 0 ∗ reached ER (cell c kk) (r + 1) ∗ payK m c kk r 0) -∗ S')))
    (H : iprop(Core m K c n ∗ S' ∗ R) ⊢ wpc c k Q) :
    iprop(Core m K c n ∗ S ∗ R) ⊢ wpc c (Prog.lift (.waitDma2 sem src dst hsrc hdst) >>= fun _ => k) Q := by
  rw [lift_bind]
  iintro ⟨HC, HS, HR⟩
  ihave HS' := hst $$ HS
  icases HS' with ⟨Hc, Hat, Hk⟩
  iapply (wait_core (K := K) (k := kk) (r := r) (N := N) (sm := .dma sem) (by intro K'; rw [← hN]; exact wpE_waitDma2_eq 𝒱₀ (c : Thread nD τ) none Set.univ K') hs
    hN'.symm hd hl) $$ [HC Hc Hat]
  · isplitl [HC]; · iexact HC
    isplitl [Hc]; · iexact Hc
    iexact Hat
  iintro ⟨HC, Hat, Hr, Hp⟩
  iapply H
  isplitl [HC]; · iexact HC
  isplitl [Hk Hat Hr Hp]
  · iapply Hk
    isplitl [Hat]; · iexact Hat
    isplitl [Hr]; · iexact Hr
    iexact Hp
  iexact HR

theorem wait_dite {Q : α → sProp 𝕄} {R S S' : sProp 𝕄} (kk : CK) {P : Prop} [Decidable P] {N : ℕ} {sem : P → DmaSem sig} {sp sp' : Space} {s s' : Shape} {e e' : EltTy}
    {src : P → Memref sig .tc sp' s' e'}
    {dst : P → Memref sig .tc sp s e} {hsrc : ∀ h, (src h).view.WordExact} {hdst : ∀ h, (dst h).view.WordExact}
    (hs : ∀ h, SemLoc.dma (sem h) = csem kk) (hN : ∀ h, (dst h).view.dmaCredit = N) (hN' : amtK kk = N) (hd : P → dutiesK c kk 0 = {0})
    (hl : levK kk < levD n ∨ n = 81)
    (hst : P → (S ⊢ iprop(cred (tallyAt (cell c kk) () N) ∗ atPos ER (cell c kk) 0 ∅ 0
      ∗ ((atPos ER (cell c kk) 1 ∅ 0 ∗ payK m c kk 0 0) -∗ S'))))
    (hsk : ¬P → (S ⊢ S'))
    (H : iprop(Core m K c n ∗ S' ∗ R) ⊢ wpc c k Q) :
    iprop(Core m K c n ∗ S ∗ R) ⊢ wpc c (dite P (fun h => Prog.lift (.waitDma2 (sem h) (src h) (dst h) (hsrc h) (hdst h)) >>= fun _ => k) (fun _ => k)) Q := by
  by_cases h : P
  · rw [dif_pos h]
    refine wait_plain kk 0 (hs h) (hN h) hN' (hd h) hl ((hst h).trans ?_) H
    iintro ⟨Hc, Hat, Hk⟩
    isplitl [Hc]; · iexact Hc
    isplitl [Hat]; · iexact Hat
    iintro ⟨Hat, -, Hp⟩
    iapply Hk
    isplitl [Hat]; · iexact Hat
    iexact Hp
  · rw [dif_neg h]
    exact (sep_mono_right (sep_mono_left (hsk h))).trans H

/-! ## Debts and duties -/

omit [FloatOps F] in
theorem debt_bar (c p : Dev nD) : debt c p.val = if p = c then 0 else tallyAt (cell p .bar) () 1 := by
  unfold debt; rw [dif_pos (show p.val < 32 from p.isLt)]
theorem debt_x (c : Dev nD) : debt c 32 = tallyAt (cell (partner c) .xr) () xN := by
  unfold debt; rw [dif_neg (by omega), if_pos rfl]
theorem debt_ar (c : Dev nD) (p : Fin 32) : debt c (33 + p.val) = if (p : Dev nD) = c then 0 else tallyAt (cell p (.ar c)) () rowN := by
  have hp := p.isLt
  have e : (⟨33 + p.val - 33, by omega⟩ : Fin 32) = p := Fin.ext (by show 33 + p.val - 33 = p.val; omega)
  unfold debt; rw [dif_neg (by omega), if_neg (by omega), dif_pos (show 33 + p.val - 33 < 32 by omega)]
  show (if (⟨33 + p.val - 33, _⟩ : Fin 32) = c then 0 else tallyAt (cell ⟨33 + p.val - 33, _⟩ (.ar c)) () rowN) = _
  rw [e]
theorem debt_cr (c : Dev nD) (j : Fin 16) : debt c (65 + j.val) = if dest c j = c then 0 else tallyAt (cell (dest c j) (.cr (pair c))) () blkN := by
  have hp := j.isLt
  have e : (⟨65 + j.val - 65, by omega⟩ : Fin 16) = j := Fin.ext (by show 65 + j.val - 65 = j.val; omega)
  unfold debt; rw [dif_neg (by omega), if_neg (by omega), dif_neg (by omega), dif_pos (show 65 + j.val - 65 < 16 by omega), e]

/-! ## The phases -/

variable (m)
section
variable (c : Dev nD)
/-- To do for the signal to `p`'s barrier. -/
def sigA (p : Fin 32) : sProp 𝕄 := if p = c then iprop(emp) else iprop(dutyTok ER (cell p .bar) 0 c ∗ barPay p c)
def sigB (p : Fin 32) : sProp 𝕄 := iprop(emp)
/-- The leaf of the device's maximum that is sent to `p`. -/
def leafPts (p : Fin 32) : sProp 𝕄 := maPts c (ShareLeaves.leaf 5 fullShare p) (amaxRow m c)
theorem leafPts_eq (p : Fin 32) :
    leafPts m c p = (maM.view.loc (c : Thread nD τ) ↦[maM.view.set]{ShareLeaves.leaf 5 fullShare p} amaxRow m c) := rfl
omit [FloatOps F] in
theorem chkPts_eq (j : Fin 16) (f : Buf (Elt F) ((chkM j).view.loc (c : Thread nD τ))) :
    chkPts c j f = ((chkM j).view.loc (c : Thread nD τ) ↦[(chkM j).view.set]{fullShare} f) := rfl
/-- To do for, and what is left after, the maximum sent to `p`. -/
def asA (p : Fin 32) : sProp 𝕄 :=
  iprop(leafPts m c p ∗ (if p = c then iprop(emp) else iprop((∃ f, rowPts p c f) ∗ dutyTok ER (cell c (.as p)) 0 0 ∗ dutyTok ER (cell p (.ar c)) 0 0)))
def asB (p : Fin 32) : sProp 𝕄 := if p = c then leafPts m c p else cred (tallyAt (cell c (.as p)) () rowN)
/-- Before and after the wait for the maximum of `p`. -/
def arA (p : Fin 32) : sProp 𝕄 :=
  iprop(atPos ER (cell c (.ar p)) 0 ∅ 0 ∗ (if p = c then rowPts c p (GG m c) else cred (tallyAt (cell c (.ar p)) () rowN)))
def arB (p : Fin 32) : sProp 𝕄 := iprop(Done m c (.ar p) ∗ rowPts c p (GG m c))
/-- To do for, and what is left after, column block `j` sent. -/
def csA (j : Fin 16) : sProp 𝕄 :=
  iprop(chkPts c j (QQ m c) ∗ (if dest c j = c then iprop(emp)
    else iprop((∃ f, blkPts (dest c j) (pair c) f) ∗ dutyTok ER (cell c (.cs j)) 0 0 ∗ dutyTok ER (cell (dest c j) (.cr (pair c))) 0 0)))
def csB (j : Fin 16) : sProp 𝕄 := if dest c j = c then chkPts c j (QQ m c) else cred (tallyAt (cell c (.cs j)) () blkN)
/-- Before and after the wait for the row block of pair `s`. -/
def crA (s : Fin 16) : sProp 𝕄 :=
  iprop(atPos ER (cell c (.cr s)) 0 ∅ 0 ∗ (if sender c s = c then iprop(emp) else cred (tallyAt (cell c (.cr s)) () blkN)))
def crB (s : Fin 16) : sProp 𝕄 := iprop(Done m c (.cr s) ∗ (if sender c s = c then iprop(emp) else blkPts c s (YY m c)))
/-- Before and after the wait for the copy of the maximum to `p` to be through. -/
def awA (p : Fin 32) : sProp 𝕄 := iprop(atPos ER (cell c (.as p)) 0 ∅ 0 ∗ asB m c p)
def awB (p : Fin 32) : sProp 𝕄 := iprop(Done m c (.as p) ∗ leafPts m c p)
/-- Before and after the wait for the copy of column block `j` to be through. -/
def cwA (j : Fin 16) : sProp 𝕄 := iprop(atPos ER (cell c (.cs j)) 0 ∅ 0 ∗ (if dest c j = c then iprop(emp) else cred (tallyAt (cell c (.cs j)) () blkN)))
def cwB (j : Fin 16) : sProp 𝕄 := iprop(Done m c (.cs j) ∗ (if dest c j = c then iprop(emp) else chkPts c j (QQ m c)))
end
variable {m}

omit [FloatOps F] in
theorem sigA_ne {p : Fin 32} (h : p ≠ c) : sigA (F := F) c p = iprop(dutyTok ER (cell p .bar) 0 c ∗ barPay p c) := if_neg h
theorem asA_ne {p : Fin 32} (h : p ≠ c) : asA m c p = iprop(leafPts m c p ∗ ((∃ f, rowPts p c f) ∗ dutyTok ER (cell c (.as p)) 0 0 ∗ dutyTok ER (cell p (.ar c)) 0 0)) := by
  unfold asA; rw [if_neg h]
theorem asB_ne {p : Fin 32} (h : p ≠ c) : asB m c p = cred (tallyAt (cell c (.as p)) () rowN) := if_neg h
theorem asA_eq {p : Fin 32} (h : p = c) : asA m c p ⊢ asB m c p := by
  unfold asA asB; rw [if_pos h, if_pos h]; iintro ⟨H, -⟩; iexact H
theorem arA_ne {p : Fin 32} (h : p ≠ c) : arA m c p = iprop(atPos ER (cell c (.ar p)) 0 ∅ 0 ∗ cred (tallyAt (cell c (.ar p)) () rowN)) := by
  unfold arA; rw [if_neg h]
theorem arA_eq {p : Fin 32} (h : p = c) : arA m c p ⊢ arB m c p := by
  unfold arA arB; rw [if_pos h]
  exact sep_mono_left (done_none (by show (if 0 = 0 ∧ p ≠ c then {0} else ∅ : Finset (Dev nD)) = ∅; exact if_neg fun x => x.2 h))
theorem csA_ne {j : Fin 16} (h : dest c j ≠ c) : csA m c j = iprop(chkPts c j (QQ m c) ∗ ((∃ f, blkPts (dest c j) (pair c) f)
    ∗ dutyTok ER (cell c (.cs j)) 0 0 ∗ dutyTok ER (cell (dest c j) (.cr (pair c))) 0 0)) := by
  unfold csA; rw [if_neg h]
theorem csB_ne {j : Fin 16} (h : dest c j ≠ c) : csB m c j = cred (tallyAt (cell c (.cs j)) () blkN) := if_neg h
theorem csA_eq {j : Fin 16} (h : dest c j = c) : csA m c j ⊢ csB m c j := by
  unfold csA csB; rw [if_pos h, if_pos h]; iintro ⟨H, -⟩; iexact H
theorem crA_ne {s : Fin 16} (h : sender c s ≠ c) : crA (F := F) c s = iprop(atPos ER (cell c (.cr s)) 0 ∅ 0 ∗ cred (tallyAt (cell c (.cr s)) () blkN)) := by
  unfold crA; rw [if_neg h]
theorem crB_ne {s : Fin 16} (h : sender c s ≠ c) : crB m c s = iprop(Done m c (.cr s) ∗ blkPts c s (YY m c)) := by
  unfold crB; rw [if_neg h]
theorem crA_eq {s : Fin 16} (h : sender c s = c) : crA c s ⊢ crB m c s := by
  unfold crA crB; rw [if_pos h, if_pos h]
  exact sep_mono_left (done_none (by show (if 0 = 0 ∧ sender c s ≠ c then {0} else ∅ : Finset (Dev nD)) = ∅; exact if_neg fun x => x.2 h))
theorem awA_ne {p : Fin 32} (h : p ≠ c) : awA m c p = iprop(atPos ER (cell c (.as p)) 0 ∅ 0 ∗ cred (tallyAt (cell c (.as p)) () rowN)) := by
  unfold awA; rw [asB_ne h]
theorem awA_eq {p : Fin 32} (h : p = c) : awA m c p ⊢ awB m c p := by
  unfold awA awB asB; rw [if_pos h]
  exact sep_mono_left (done_none (by show (if 0 = 0 ∧ p ≠ c then {0} else ∅ : Finset (Dev nD)) = ∅; exact if_neg fun x => x.2 h))
theorem cwA_ne {j : Fin 16} (h : dest c j ≠ c) : cwA (F := F) c j = iprop(atPos ER (cell c (.cs j)) 0 ∅ 0 ∗ cred (tallyAt (cell c (.cs j)) () blkN)) := by
  unfold cwA; rw [if_neg h]
theorem cwB_ne {j : Fin 16} (h : dest c j ≠ c) : cwB m c j = iprop(Done m c (.cs j) ∗ chkPts c j (QQ m c)) := by
  unfold cwB; rw [if_neg h]
theorem cwA_eq {j : Fin 16} (h : dest c j = c) : cwA c j ⊢ cwB m c j := by
  unfold cwA cwB; rw [if_pos h, if_pos h]
  exact sep_mono_left (done_none (by show (if 0 = 0 ∧ dest c j ≠ c then {0} else ∅ : Finset (Dev nD)) = ∅; exact if_neg fun x => x.2 h))

/-! ## The steps -/

/-- The signal to the barrier of `p`. -/
theorem sig_step {Q : α → sProp 𝕄} {R : sProp 𝕄} (p : Fin 32) (hn : n = p.val) {P : Prop} [Decidable P] {dst : P → Dev nD}
    (hP : P ↔ p ≠ c) (hd : ∀ h, dst h = p)
    (H : iprop(Core m K c (n + 1) ∗ Ph (sigA c) sigB (n + 1) ∗ R) ⊢ wpc c k Q) :
    iprop(Core m K c n ∗ Ph (sigA c) sigB n ∗ R) ⊢ wpc c (dite P (fun h => semSignalWord (dst h) barS 1#32 >>= fun _ => k) (fun _ => k)) Q := by
  have hn81 : n < 81 := by have := p.isLt; omega
  by_cases h : P
  · have hne := hP.mp h
    rw [dif_pos h]
    show _ ⊢ wpc c (.op (.semSignal ((dst h : Dev nD), .tc) barS ((1 : ℕ) : ℤ).toNat) fun _ => k) Q
    rw [hd h]
    iintro ⟨HC, HP, HR⟩
    ihave HP' := (ph_take p hn) $$ HP
    icases HP' with ⟨HA, Hk⟩
    ihave HA' := (Entails.of_eq (sigA_ne hne)) $$ HA
    icases HA' with ⟨Ht, Hpay⟩
    unfold Core
    icases HC with ⟨#HRc, ⟨%W, HO⟩⟩
    ihave #HI := recs_cell m K p .bar $$ HRc
    ihave #Hr := recs_reached m K p .bar $$ HRc
    iapply (Rounds.wp_signal 𝒱₀ ER (Rd m) (c : Thread nD τ) none (dst := (p : Thread nD τ)) (κ := K (p, .bar)) (r := 0) (d := c) (k' := 1)
      (by show c ∈ (Rd m).duties (cell p .bar) 0
          rw [duties_cell]; exact Finset.mem_erase.mpr ⟨fun e => hne e.symm, Finset.mem_univ _⟩)
      (amount_cell m p .bar 0 c) () (owed c (n + 1)) (O₀ := owed c n) (by rw [owed_step c hn81, hn, debt_bar, if_neg hne]; rfl)) $$ [HO Ht Hpay]
    · isplitr; · iexact HI
      isplitl [HO]; · iexact HO
      isplitl [Ht]; · iexact Ht
      isplitl [Hpay]
      · iapply (Entails.of_eq (show barPay p c = (Rd m).payload ((p : Thread nD τ), SemLoc.reg barS) 0 c from (payload_cell m p .bar 0 c).symm)); iexact Hpay
      iexact Hr
    iintro HO
    iapply H
    unfold Core
    isplitl [HO]
    · isplitr; · iexact HRc
      iexists W; iexact HO
    isplitl [Hk]
    · iapply Hk; unfold sigB; iempintro
    iexact HR
  · have he : p = c := by_contra fun x => h (hP.mpr x)
    rw [dif_neg h, core_skip hn81 (by rw [hn, debt_bar, if_pos he])]
    refine (sep_mono_right (sep_mono_left (ph_skip p hn ?_))).trans H
    unfold sigA sigB; rw [if_pos he]

/-- The wait for every other device's signal. -/
theorem bar_step {Q : α → sProp 𝕄} {R : sProp 𝕄} (hd : (Finset.univ.erase c).card = 31 := by simp)
    (H : iprop(Core m K c 32 ∗ ((bigSep (Finset.univ.erase c) fun p => barPay c p) ∗ Done m c .bar) ∗ R) ⊢ wpc c k Q) :
    iprop(Core m K c 32 ∗ (cred (tallyAt (cell c .bar) () 31) ∗ atPos ER (cell c .bar) 0 ∅ 0) ∗ R)
      ⊢ wpc c (semWaitWord barS 31#32 >>= fun _ => k) Q := by
  show _ ⊢ wpc c (.op (.semWait barS ((31 : ℕ) : ℤ).toNat) fun _ => k) Q
  iintro ⟨HC, ⟨Hc, Hat⟩, HR⟩
  unfold Core
  icases HC with ⟨#HRc, ⟨%W, HO⟩⟩
  ihave #HI := recs_cell m K c .bar $$ HRc
  ihave HM := recs_wait c .bar 32 (Or.inl (by decide)) $$ HRc
  iapply (Rounds.wp_wait_rest_token 𝒱₀ ER (Rd m) (c : Thread nD τ) none (κ := K (c, .bar)) (wpE_semWait_eq 𝒱₀ (c : Thread nD τ) none Set.univ)
    (Set.mem_univ _) () (O := owed c 32) (W := W) (R := 0) (m := 0) (T := ∅)
    (by show 0 + 31 = (Rd m).expect (cell c .bar) 0
        rw [expect_cell]
        show 0 + 31 = (Finset.univ.erase c).card * 1
        rw [hd])) $$ [Hc HO HM Hat]
  · isplitr; · iexact HI
    isplitl [Hc]; · iexact Hc
    isplitl [HO]; · iexact HO
    isplitl [HM]; · iexact HM
    iexact Hat
  iintro ⟨HO, Hat, -, Hp⟩
  iapply H
  unfold Core
  isplitl [HO]
  · isplitr; · iexact HRc
    iexists _; iexact HO
  isplitl [Hat Hp]
  · isplitl [Hp]
    · iapply (Entails.of_eq (show bigSep ((Rd m).duties (cell c .bar) 0 \ ∅) (fun d => (Rd m).payload (cell c .bar) 0 d)
          = bigSep (Finset.univ.erase c) (fun p => barPay c p) by
            rw [Finset.sdiff_empty, duties_cell]; exact bigSep_congr fun d _ => payload_cell m c .bar 0 d))
      iexact Hp
    · iapply (done_last (m := m) (c := c) (k := .bar)); iexact Hat
  iexact HR

/-- The views the kernel names. -/
theorem row_of {off : Fin 2 → ℕ} {inb : ∀ a, off a + S1x128.size a ≤ S32x128.size a} (p : Fin 32) (ho : off = ![p.val, 0]) :
    abM.slice (Rect.unit (s := S32x128) off S1x128.size inb) (fun _ => rfl) = rowM p := by subst ho; rfl
theorem chk_of {off : Fin 2 → ℕ} {inb : ∀ a, off a + S256x256.size a ≤ S256x4096.size a} (j : Fin 16) (ho : off = ![0, j.val * 256]) :
    yqM.slice (Rect.unit (s := S256x4096) off S256x256.size inb) (fun _ => rfl) = chkM j := by subst ho; rfl
theorem blk_of {off : Fin 2 → ℕ} {inb : ∀ a, off a + S256x256.size a ≤ S4096x256.size a} (s : Fin 16) (ho : off = ![s.val * 256, 0]) :
    ybM.slice (Rect.unit (s := S4096x256) off S256x256.size inb) (fun _ => rfl) = blkM s := by subst ho; rfl
/-- The semaphore at a place of one of the arrays. -/
theorem sem_at {b : ℕ} {d : Fin 1 → ℕ} {h : b + (⟨1, d⟩ : Shape).numel ≤ 103} {off : Fin 1 → ℕ} {inb : ∀ a, off a + S1.size a ≤ (⟨1, d⟩ : Shape).size a}
    (hs : (Rect.unit (s := (⟨1, d⟩ : Shape)) off S1.size inb).shape.Squeezes S_) {kk : CK} (hk : kk ≠ .bar) (hlt : b + off 0 = kk.ix) :
    SemLoc.dma (sig := sig) (((SemArray.consecutive b (⟨1, d⟩ : Shape) h).slice (Rect.unit off S1.size inb)).squeeze S_ hs).sem = csem kk := by
  rw [csem_dma hk, sem_of_slice hs (by rw [hlt]; exact kk.ix_lt)]
  congr 1
  exact Fin.ext hlt

theorem as_amt (p : Fin 32) : amtK (.as p) = rowN := rfl
theorem ar_amt (p : Fin 32) : amtK (.ar p) = rowN := rfl
theorem cs_amt (j : Fin 16) : amtK (.cs j) = blkN := rfl
theorem cr_amt (s : Fin 16) : amtK (.cr s) = blkN := rfl
theorem row_credit (p : Fin 32) : (rowM p).view.dmaCredit = rowN := rfl
theorem chk_credit (j : Fin 16) : (chkM j).view.dmaCredit = blkN := rfl
theorem blk_credit (s : Fin 16) : (blkM s).view.dmaCredit = blkN := rfl

omit [FloatOps F] in
theorem as_duty {p : Fin 32} (h : p ≠ c) : dutiesK c (.as p) 0 = {0} := if_pos ⟨rfl, h⟩
theorem ar_duty {p : Fin 32} (h : p ≠ c) : dutiesK c (.ar p) 0 = {0} := if_pos ⟨rfl, h⟩
theorem cs_duty {j : Fin 16} (h : dest c j ≠ c) : dutiesK c (.cs j) 0 = {0} := if_pos ⟨rfl, h⟩
theorem cr_duty {s : Fin 16} (h : sender c s ≠ c) : dutiesK c (.cr s) 0 = {0} := if_pos ⟨rfl, h⟩

/-- The maximum sent to `p`. -/
theorem as_step {Q : α → sProp 𝕄} {R : sProp 𝕄} {n' : ℕ} (p : Fin 32) (hn' : n' = p.val) (hn : n = 33 + p.val) {P : Prop} [Decidable P] {d' : P → Dev nD}
    {sS sR : P → DmaSem sig} {src : P → Memref sig .tc .vmem S1x128 .f32} {dst : P → Memref sig .tc .vmem S1x128 .f32}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (d' h)) (dst h) (.dma (sS h)) (hsc h))}
    (hP : P ↔ p ≠ c) (hS : ∀ h, src h = maM) (hD : ∀ h, dst h = rowM c) (hd' : ∀ h, d' h = p)
    (hsS : ∀ h, SemLoc.dma (sS h) = csem (.as p)) (hsR : ∀ h, SemLoc.dma (sR h) = csem (.ar c))
    (H : iprop(Core m K c (n + 1) ∗ Ph (asA m c) (asB m c) (n' + 1) ∗ R) ⊢ wpc c k Q) :
    iprop(Core m K c n ∗ Ph (asA m c) (asB m c) n' ∗ R)
      ⊢ wpc c (dite P (fun h => Prog.lift (.enqueueDma (src h) (.remote (Dev.tc (d' h)) (dst h) (.dma (sS h)) (hsc h)) (.dma (sR h)) (hsrc h) (hdst h) (hsem h)) >>= fun _ => k)
          (fun _ => k)) Q := by
  have hp := p.isLt
  refine send_dite (.as p) (.ar c) p maM (rowM c) (N := rowN) (q := ShareLeaves.leaf 5 fullShare p) (fs := amaxRow m c) hS hD hd' hsS hsR (by omega)
    (fun h => by rw [hn, debt_ar, if_neg (hP.mp h)]) (fun h => as_duty (hP.mp h)) (fun h => ar_duty (fun e => hP.mp h e.symm))
    (row_credit c) (as_amt p) (ar_amt c) Entails.refl
    (fun h fd => Entails.of_eq (pointsTo_congr (row_landed m c p (hP.mp h) fd)))
    (fun h => ?_) (fun h => by rw [hn, debt_ar, if_pos (by_contra fun x => h (hP.mpr x))])
    (fun h => ph_skip p hn' (asA_eq (by_contra fun x => h (hP.mpr x)))) H
  refine (ph_take p hn').trans ?_
  rw [asA_ne (hP.mp h), asB_ne (hP.mp h)]
  iintro ⟨⟨Hl, Hrow, Ht1, Ht2⟩, Hk⟩
  isplitl [Hl]; · iapply (Entails.of_eq (leafPts_eq m c p)); iexact Hl
  isplitl [Hrow]; · iexact Hrow
  isplitl [Ht1]; · iexact Ht1
  isplitl [Ht2]; · iexact Ht2
  iexact Hk

/-- The wait for the maximum of `p`. -/
theorem ar_step {Q : α → sProp 𝕄} {R : sProp 𝕄} {n' : ℕ} (p : Fin 32) (hn' : n' = p.val) {P : Prop} [Decidable P]
    {sem : P → DmaSem sig} {sp sp' : Space} {s s' : Shape} {e e' : EltTy} {src : P → Memref sig .tc sp' s' e'} {dst : P → Memref sig .tc sp s e}
    {hsrc : ∀ h, (src h).view.WordExact} {hdst : ∀ h, (dst h).view.WordExact}
    (hP : P ↔ p ≠ c) (hN : ∀ h, (dst h).view.dmaCredit = rowN) (hs : ∀ h, SemLoc.dma (sem h) = csem (.ar p))
    (H : iprop(Core m K c 65 ∗ Ph (arA m c) (arB m c) (n' + 1) ∗ R) ⊢ wpc c k Q) :
    iprop(Core m K c 65 ∗ Ph (arA m c) (arB m c) n' ∗ R)
      ⊢ wpc c (dite P (fun h => Prog.lift (.waitDma2 (sem h) (src h) (dst h) (hsrc h) (hdst h)) >>= fun _ => k) (fun _ => k)) Q := by
  refine wait_dite (.ar p) (N := rowN) hs hN (ar_amt p) (fun h => ar_duty (hP.mp h)) (Or.inl (show 3 < levD 65 by decide)) (fun h => ?_)
    (fun h => ph_skip p hn' (arA_eq (by_contra fun x => h (hP.mpr x)))) H
  refine (ph_take p hn').trans ?_
  rw [arA_ne (hP.mp h)]
  iintro ⟨⟨Hat, Hc⟩, Hk⟩
  isplitl [Hc]; · iexact Hc
  isplitl [Hat]; · iexact Hat
  iintro ⟨Hat, Hp⟩
  iapply Hk
  unfold arB
  isplitl [Hat]; · iapply (done_last (m := m) (c := c) (k := .ar p)); iexact Hat
  iapply (Entails.of_eq (show payK m c (.ar p) 0 0 = rowPts c p (GG m c) from rfl)); iexact Hp

/-- The wait for the copy of the maximum to `p` to be through. -/
theorem aw_step {Q : α → sProp 𝕄} {R : sProp 𝕄} {n' : ℕ} (p : Fin 32) (hn' : n' = p.val) {P : Prop} [Decidable P]
    {sem : P → DmaSem sig} {sp sp' : Space} {s s' : Shape} {e e' : EltTy} {src : P → Memref sig .tc sp' s' e'} {dst : P → Memref sig .tc sp s e}
    {hsrc : ∀ h, (src h).view.WordExact} {hdst : ∀ h, (dst h).view.WordExact}
    (hP : P ↔ p ≠ c) (hN : ∀ h, (dst h).view.dmaCredit = rowN) (hs : ∀ h, SemLoc.dma (sem h) = csem (.as p))
    (H : iprop(Core m K c 81 ∗ Ph (awA m c) (awB m c) (n' + 1) ∗ R) ⊢ wpc c k Q) :
    iprop(Core m K c 81 ∗ Ph (awA m c) (awB m c) n' ∗ R)
      ⊢ wpc c (dite P (fun h => Prog.lift (.waitDma2 (sem h) (src h) (dst h) (hsrc h) (hdst h)) >>= fun _ => k) (fun _ => k)) Q := by
  refine wait_dite (.as p) (N := rowN) hs hN (as_amt p) (fun h => as_duty (hP.mp h)) (Or.inr rfl) (fun h => ?_)
    (fun h => ph_skip p hn' (awA_eq (by_contra fun x => h (hP.mpr x)))) H
  refine (ph_take p hn').trans ?_
  rw [awA_ne (hP.mp h)]
  iintro ⟨⟨Hat, Hc⟩, Hk⟩
  isplitl [Hc]; · iexact Hc
  isplitl [Hat]; · iexact Hat
  iintro ⟨Hat, Hp⟩
  iapply Hk
  unfold awB
  isplitl [Hat]; · iapply (done_last (m := m) (c := c) (k := .as p)); iexact Hat
  iapply (Entails.of_eq (show payK m c (.as p) 0 0 = leafPts m c p from rfl)); iexact Hp

/-- Column block `j` sent. -/
theorem cs_step {Q : α → sProp 𝕄} {R : sProp 𝕄} {n' : ℕ} (j : Fin 16) (hn' : n' = j.val) (hn : n = 65 + j.val) {P : Prop} [Decidable P] {d' : P → Dev nD}
    {sS sR : P → DmaSem sig} {src : P → Memref sig .tc .vmem S256x256 .i8} {dst : P → Memref sig .tc .vmem S256x256 .i8}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (d' h)) (dst h) (.dma (sS h)) (hsc h))}
    (hP : P ↔ dest c j ≠ c) (hS : ∀ h, src h = chkM j) (hD : ∀ h, dst h = blkM (pair c)) (hd' : ∀ h, d' h = dest c j)
    (hsS : ∀ h, SemLoc.dma (sS h) = csem (.cs j)) (hsR : ∀ h, SemLoc.dma (sR h) = csem (.cr (pair c)))
    (H : iprop(Core m K c (n + 1) ∗ Ph (csA m c) (csB m c) (n' + 1) ∗ R) ⊢ wpc c k Q) :
    iprop(Core m K c n ∗ Ph (csA m c) (csB m c) n' ∗ R)
      ⊢ wpc c (dite P (fun h => Prog.lift (.enqueueDma (src h) (.remote (Dev.tc (d' h)) (dst h) (.dma (sS h)) (hsc h)) (.dma (sR h)) (hsrc h) (hdst h) (hsem h)) >>= fun _ => k)
          (fun _ => k)) Q := by
  have hp := j.isLt
  refine send_dite (.cs j) (.cr (pair c)) (dest c j) (chkM j) (blkM (pair c)) (N := blkN) (q := fullShare) (fs := QQ m c) hS hD hd' hsS hsR (by omega)
    (fun h => by rw [hn, debt_cr, if_neg (hP.mp h)]) (fun h => cs_duty (hP.mp h))
    (fun h => cr_duty (by rw [sender_dest]; exact fun e => hP.mp h e.symm))
    (blk_credit _) (cs_amt j) (cr_amt _) Entails.refl
    (fun h fd => Entails.of_eq (pointsTo_congr (blk_landed m c (dest c j) j rfl fd)))
    (fun h => ?_) (fun h => by rw [hn, debt_cr, if_pos (by_contra fun x => h (hP.mpr x))])
    (fun h => ph_skip j hn' (csA_eq (by_contra fun x => h (hP.mpr x)))) H
  refine (ph_take j hn').trans ?_
  rw [csA_ne (hP.mp h), csB_ne (hP.mp h)]
  iintro ⟨⟨Hl, Hrow, Ht1, Ht2⟩, Hk⟩
  isplitl [Hl]; · iapply (Entails.of_eq (chkPts_eq c j (QQ m c))); iexact Hl
  isplitl [Hrow]; · iexact Hrow
  isplitl [Ht1]; · iexact Ht1
  isplitl [Ht2]; · iexact Ht2
  iexact Hk

/-- The wait for the row block of pair `s`. -/
theorem cr_step {Q : α → sProp 𝕄} {R : sProp 𝕄} {n' : ℕ} (p : Fin 16) (hn' : n' = p.val) {P : Prop} [Decidable P]
    {sem : P → DmaSem sig} {sp sp' : Space} {s s' : Shape} {e e' : EltTy} {src : P → Memref sig .tc sp' s' e'} {dst : P → Memref sig .tc sp s e}
    {hsrc : ∀ h, (src h).view.WordExact} {hdst : ∀ h, (dst h).view.WordExact}
    (hP : P ↔ sender c p ≠ c) (hN : ∀ h, (dst h).view.dmaCredit = blkN) (hs : ∀ h, SemLoc.dma (sem h) = csem (.cr p))
    (H : iprop(Core m K c 81 ∗ Ph (crA c) (crB m c) (n' + 1) ∗ R) ⊢ wpc c k Q) :
    iprop(Core m K c 81 ∗ Ph (crA c) (crB m c) n' ∗ R)
      ⊢ wpc c (dite P (fun h => Prog.lift (.waitDma2 (sem h) (src h) (dst h) (hsrc h) (hdst h)) >>= fun _ => k) (fun _ => k)) Q := by
  refine wait_dite (.cr p) (N := blkN) hs hN (cr_amt p) (fun h => cr_duty (hP.mp h)) (Or.inr rfl) (fun h => ?_)
    (fun h => ph_skip p hn' (crA_eq (by_contra fun x => h (hP.mpr x)))) H
  refine (ph_take p hn').trans ?_
  rw [crA_ne (hP.mp h), crB_ne (hP.mp h)]
  iintro ⟨⟨Hat, Hc⟩, Hk⟩
  isplitl [Hc]; · iexact Hc
  isplitl [Hat]; · iexact Hat
  iintro ⟨Hat, Hp⟩
  iapply Hk
  isplitl [Hat]; · iapply (done_last (m := m) (c := c) (k := .cr p)); iexact Hat
  iapply (Entails.of_eq (show payK m c (.cr p) 0 0 = blkPts c p (YY m c) from rfl)); iexact Hp

/-- The wait for the copy of column block `j` to be through. -/
theorem cw_step {Q : α → sProp 𝕄} {R : sProp 𝕄} {n' : ℕ} (j : Fin 16) (hn' : n' = j.val) {P : Prop} [Decidable P]
    {sem : P → DmaSem sig} {sp sp' : Space} {s s' : Shape} {e e' : EltTy} {src : P → Memref sig .tc sp' s' e'} {dst : P → Memref sig .tc sp s e}
    {hsrc : ∀ h, (src h).view.WordExact} {hdst : ∀ h, (dst h).view.WordExact}
    (hP : P ↔ dest c j ≠ c) (hN : ∀ h, (dst h).view.dmaCredit = blkN) (hs : ∀ h, SemLoc.dma (sem h) = csem (.cs j))
    (H : iprop(Core m K c 81 ∗ Ph (cwA c) (cwB m c) (n' + 1) ∗ R) ⊢ wpc c k Q) :
    iprop(Core m K c 81 ∗ Ph (cwA c) (cwB m c) n' ∗ R)
      ⊢ wpc c (dite P (fun h => Prog.lift (.waitDma2 (sem h) (src h) (dst h) (hsrc h) (hdst h)) >>= fun _ => k) (fun _ => k)) Q := by
  refine wait_dite (.cs j) (N := blkN) hs hN (cs_amt j) (fun h => cs_duty (hP.mp h)) (Or.inr rfl) (fun h => ?_)
    (fun h => ph_skip j hn' (cwA_eq (by_contra fun x => h (hP.mpr x)))) H
  refine (ph_take j hn').trans ?_
  rw [cwA_ne (hP.mp h), cwB_ne (hP.mp h)]
  iintro ⟨⟨Hat, Hc⟩, Hk⟩
  isplitl [Hc]; · iexact Hc
  isplitl [Hat]; · iexact Hat
  iintro ⟨Hat, Hp⟩
  iapply Hk
  isplitl [Hat]; · iapply (done_last (m := m) (c := c) (k := .cs j)); iexact Hat
  iapply (Entails.of_eq (show payK m c (.cs j) 0 0 = chkPts c j (QQ m c) from rfl)); iexact Hp

end Cert.QuantProof
-- ==== Proof.Compute.lean ====
/-
# The steps of the products

The state while the two half products are summed: the tiles of `w` still to copy, the two slots they are copied to, the rounded
tiles kept, the rounded blocks of `x`, and the two sums. Each copy, wait, load and store of that part of the kernel is one rule.
-/
module

public import proofs.«01_k».proof.Proof.Proto

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## The state -/

variable (m)
section
variable (c : Dev nD)
/-- What the copy of tile `k` of `w` needs. -/
def wA (k : Fin 16) : sProp 𝕄 :=
  iprop(dutyTok ER (cell c (.ws ⟨k.val % 2, Nat.mod_lt _ (by decide)⟩)) (k.val / 2) 0
    ∗ (wM.view.loc (c : Thread nD τ) ↦[Finset.univ]{ShareLeaves.leaf 4 fullShare.left k} wFull m c))
def wB (k : Fin 16) : sProp 𝕄 := iprop(emp)
/-- A slot between two copies. -/
def SlotFree (s : Fin 2) (r : ℕ) : sProp 𝕄 :=
  iprop(atPos ER (cell c (.ws s)) r ∅ 0 ∗ reached ER (cell c (.ws s)) r ∗ ∃ f, slotPts c s f)
/-- A slot a tile is being copied to. -/
def SlotBusy (s : Fin 2) (r : ℕ) : sProp 𝕄 :=
  iprop(atPos ER (cell c (.ws s)) r ∅ 0 ∗ cred (tallyAt (cell c (.ws s)) () slotN))
/-- A slot holding tile `k`. -/
def SlotFull (s : Fin 2) (r k : ℕ) : sProp 𝕄 :=
  iprop(atPos ER (cell c (.ws s)) r ∅ 0 ∗ reached ER (cell c (.ws s)) r ∗ slotPts c s (WF m c k))
/-- The rounded tiles up to tile `n`. -/
def Wb (n : ℕ) : sProp 𝕄 := iprop(∃ f, ⌜HasTiles m c n f⌝ ∗ (wbM.view.loc (c : Thread nD τ) ↦[Finset.univ]{fullShare} f))
def yoPts (f : Vec F S128x4096 .f32) : sProp 𝕄 := yoM.view.loc (c : Thread nD τ) ↦[Finset.univ]{fullShare} f
def yrPts (f : Vec F S128x4096 .f32) : sProp 𝕄 := yrM.view.loc (c : Thread nD τ) ↦[Finset.univ]{fullShare} f
/-- The whole state. -/
def CS (K : Dev nD × CK → ℕ) (n kw : ℕ) (s0 s1 : sProp 𝕄) (kb : ℕ) (X6 : sProp 𝕄) (f7 f8 : Vec F S128x4096 .f32) : sProp 𝕄 :=
  iprop(Core m K c n ∗ Ph (wA m c) wB kw ∗ s0 ∗ s1 ∗ Wb m c kb ∗ xoPts c fullShare.left (xb m c) ∗ X6 ∗ yoPts c f7 ∗ yrPts c f8)
end
variable {m}

theorem full_free {s : Fin 2} {r k : ℕ} : SlotFull m c s r k ⊢ SlotFree c s r := by
  unfold SlotFull SlotFree
  iintro ⟨Ha, Hr, Hp⟩
  isplitl [Ha]; · iexact Ha
  isplitl [Hr]; · iexact Hr
  iexists _; iexact Hp

theorem ret_step {β : Type} {Q : β → sProp 𝕄} {P : sProp 𝕄} {v : β} (H : P ⊢ Q v) : P ⊢ wpc (F := F) c (pure v) Q := by
  refine H.trans ?_
  show _ ⊢ iprop(|={Set.univ}=> Q v)
  iintro H
  imodintro
  iexact H

theorem bind_step {β : Type} {Q : β → sProp 𝕄} {P : sProp 𝕄} {p : Prog (TpuEff nD τ sig (Elt F) Λ₀ .tc) α} {k : α → Prog (TpuEff nD τ sig (Elt F) Λ₀ .tc) β}
    (H : P ⊢ wpc c p fun a => wpc c (k a) Q) : P ⊢ wpc c (p >>= k) Q := by
  show P ⊢ wp frame _ Set.univ (p >>= k) Q
  rw [wp_bind]; exact H

/-! ## Copies of the tiles of `w` -/

theorem slot_of (s : Fin 2) {off : Fin 3 → ℕ} {inb : ∀ a, off a + S1x256x4096.size a ≤ S2x256x4096.size a} (ho : off = ![s.val, 0, 0])
    {sq : (Rect.unit (s := S2x256x4096) off S1x256x4096.size inb).shape.Squeezes S256x4096} :
    (wfM.slice (Rect.unit (s := S2x256x4096) off S1x256x4096.size inb) (fun _ => rfl)).squeeze S256x4096 sq = slotM s := by subst ho; rfl
theorem credit_buf {sp : Space} {s : Shape} {e : EltTy} (v w : View sig .tc sp s e) (h : v.buf = w.buf) : v.dmaCredit = w.dmaCredit := by
  unfold View.dmaCredit; rw [h]
theorem slot_credit (s : Fin 2) : (slotM s).view.dmaCredit = slotN := credit_buf _ _ rfl
theorem amtOf_ws (a b d e : ℕ) (s : Fin 2) : amtOf a b d e (.ws s) = a := rfl
theorem ws_amt (s : Fin 2) : amtK (.ws s) = slotN := amtOf_ws _ _ _ _ s
omit [FloatOps F] in
theorem ws_duty {s : Fin 2} {r : ℕ} (h : r < 8) : dutiesK c (.ws s) r = {0} := if_pos h

/-- The copy of tile `k` starts. -/
theorem w_start {Q : α → sProp 𝕄} {R : sProp 𝕄} {kw : ℕ} (kt : Fin 16) (s : Fin 2) (r : ℕ) (hkw : kw = kt.val) (hk : kt.val = 2 * r + s.val)
    {sem : DmaSem sig} {off : Fin 2 → ℕ} {inb : ∀ a, off a + S256x4096.size a ≤ S4096x8192.size a} (ho : off = ![kt.val * 256, c.val % 2 * 4096])
    {dst : Memref sig .tc .vmem S256x4096 .f32} (hD : dst = slotM s) (hs : SemLoc.dma sem = csem (.ws s)) {hsrc : _} {hdst : dst.view.WordExact} {hsem : _}
    (H : iprop(Core m K c n ∗ (SlotBusy c s r ∗ Ph (wA m c) wB (kw + 1)) ∗ R) ⊢ wpc c k Q) :
    iprop(Core m K c n ∗ (SlotFree c s r ∗ Ph (wA m c) wB kw) ∗ R)
      ⊢ wpc c (Prog.lift (.enqueueDma (wM.slice (Rect.unit (s := S4096x8192) off S256x4096.size inb) (fun _ => rfl)) (.here dst) (.dma sem) hsrc hdst hsem) >>= fun _ => k) Q := by
  subst hD
  have hr : r < 8 := by have := kt.isLt; omega
  have es : (⟨kt.val % 2, Nat.mod_lt _ (by decide)⟩ : Fin 2) = s := Fin.ext (by show kt.val % 2 = s.val; have := s.isLt; omega)
  have er : kt.val / 2 = r := by have := s.isLt; omega
  rw [lift_bind]
  iintro ⟨HC, ⟨HS, HP⟩, HR⟩
  ihave HP' := (ph_take kt hkw) $$ HP
  icases HP' with ⟨HA, Hk⟩
  ihave HA' := (Entails.of_eq (show wA m c kt = iprop(dutyTok ER (cell c (.ws s)) r 0
    ∗ (wM.view.loc (c : Thread nD τ) ↦[Finset.univ]{ShareLeaves.leaf 4 fullShare.left kt} wFull m c)) by unfold wA; rw [es, er])) $$ HA
  icases HA' with ⟨Ht, Hw⟩
  ihave Hw' := (pointsTo_split_subset (Finset.subset_univ
    ((wM.slice (Rect.unit (s := S4096x8192) off S256x4096.size inb) (fun _ => rfl)).view.set))).1 $$ Hw
  icases Hw' with ⟨Hw, -⟩
  unfold SlotFree
  icases HS with ⟨Hat, Hr, ⟨%f, Hd⟩⟩
  ihave HC' := core_recs $$ HC
  icases HC' with ⟨HRc, HC⟩
  iapply (copy_core (K := K) (k := .ws s) (r := r) (N := slotN) (src := wM.slice (Rect.unit (s := S4096x8192) off S256x4096.size inb) (fun _ => rfl)) (dst := slotM s)
    (fs := wFull m c) (fd := f) (q := ShareLeaves.leaf 4 fullShare.left kt) hs (ws_duty hr) (slot_credit s) (ws_amt s) (sep_elim_left.trans (Entails.of_eq (by
      show _ = slotPts c s (WF m c (2 * r + s.val))
      rw [← hk]
      exact pointsTo_congr (slot_landed m c kt.val s ho inb f))))) $$ [HRc Hw Hd Ht Hr]
  · isplitl [HRc]; · iexact HRc
    isplitl [Hw]; · iexact Hw
    isplitl [Hd]; · iapply (Entails.of_eq (show slotPts c s f = ((slotM s).view.loc (c : Thread nD τ) ↦[(slotM s).view.set]{fullShare} f) from rfl)); iexact Hd
    isplitl [Ht]; · iexact Ht
    iexact Hr
  iintro Hc
  iapply H
  isplitl [HC]; · iexact HC
  isplitl [Hat Hc Hk]
  · isplitl [Hat Hc]
    · unfold SlotBusy; isplitl [Hat]; · iexact Hat
      iexact Hc
    · iapply Hk; unfold wB; iempintro
  iexact HR

/-- The wait for tile `k`. -/
theorem w_wait {Q : α → sProp 𝕄} {R : sProp 𝕄} (s : Fin 2) (r kt : ℕ) (hk : kt = 2 * r + s.val) (hr : r < 8) (hl : 0 < levD n ∨ n = 81)
    {sem : DmaSem sig} {sp sp' : Space} {s1 s2 : Shape} {e e' : EltTy} {src : Memref sig .tc sp' s2 e'}
    {dst : Memref sig .tc sp s1 e} {hsrc : src.view.WordExact} {hdst : dst.view.WordExact}
    (hs : SemLoc.dma sem = csem (.ws s)) (hN : dst.view.dmaCredit = slotN)
    (H : iprop(Core m K c n ∗ SlotFull m c s (r + 1) kt ∗ R) ⊢ wpc c k Q) :
    iprop(Core m K c n ∗ SlotBusy c s r ∗ R) ⊢ wpc c (Prog.lift (.waitDma2 sem src dst hsrc hdst) >>= fun _ => k) Q := by
  refine wait_plain (.ws s) r hs hN (ws_amt s) (ws_duty hr) hl ?_ H
  unfold SlotBusy SlotFull
  iintro ⟨Hat, Hc⟩
  isplitl [Hc]; · iexact Hc
  isplitl [Hat]; · iexact Hat
  iintro ⟨Hat, Hr, Hp⟩
  isplitl [Hat]; · iexact Hat
  isplitl [Hr]; · iexact Hr
  iapply (Entails.of_eq (show payK m c (.ws s) r 0 = slotPts c s (WF m c kt) by subst hk; rfl))
  iexact Hp

/-! ## Loads and stores -/

theorem ld_step {Q : α → sProp 𝕄} {R : sProp 𝕄} {cs : CoreSpace} {s : Shape} {e : EltTy} {M : Memref sig .tc cs s e} {r : LoadRect s} {hl : M.view.LoadsAt r}
    {kk : (r.shape.Idx → Elt F e) → Prog (TpuEff nD τ sig (Elt F) Λ₀ .tc) α} {T : Finset (Idx (M.view.loc (c : Thread nD τ)))} {q : PosShare TreeShare}
    {f : Buf (Elt F) (M.view.loc (c : Thread nD τ))} (hS : M.view.setOn r.set ⊆ T)
    (H : iprop((M.view.loc (c : Thread nD τ) ↦[T]{q} f) ∗ R) ⊢ wpc c (kk (M.view.readAt (Elt F) r f)) Q) :
    iprop((M.view.loc (c : Thread nD τ) ↦[T]{q} f) ∗ R) ⊢ wpc c (Prog.lift (.load M r hl) >>= kk) Q := by
  rw [lift_bind]
  iintro ⟨Hp, HR⟩
  iapply (wp_load 𝒱₀ (c : Thread nD τ) none Set.univ (m := M) hS) $$ Hp
  iintro Hp
  iapply H
  isplitl [Hp]; · iexact Hp
  iexact HR

theorem st_step {Q : α → sProp 𝕄} {R : sProp 𝕄} {cs : CoreSpace} {s : Shape} {e : EltTy} {M : Memref sig .tc cs s e} {r : Rect s} {w : r.shape.Idx → Elt F e}
    {hx : (M.access r).Stores Finset.univ} {hm : _}
    {T : Finset (Idx (M.view.loc (c : Thread nD τ)))}
    {f : Buf (Elt F) (M.view.loc (c : Thread nD τ))} (hS : (M.access r).setOn Finset.univ ⊆ T)
    (H : iprop((M.view.loc (c : Thread nD τ) ↦[T]{fullShare} ((M.access r).write (Elt F) f w Finset.univ)) ∗ R) ⊢ wpc c k Q) :
    iprop((M.view.loc (c : Thread nD τ) ↦[T]{fullShare} f) ∗ R) ⊢ wpc c (Prog.lift (.store M r w Finset.univ hx hm) >>= fun _ => k) Q := by
  rw [lift_bind]
  iintro ⟨Hp, HR⟩
  iapply (wp_store 𝒱₀ (c : Thread nD τ) none Set.univ (m := M) (r := r) (Mk := Finset.univ) hS) $$ Hp
  iintro Hp
  iapply H
  isplitl [Hp]; · iexact Hp
  iexact HR

theorem slot_set (s : Fin 2) {off : Fin 3 → ℕ} (ho : off = ![s.val, 0, 0]) (inb : ∀ a, off a + S1x256x4096.size a ≤ S2x256x4096.size a) :
    wfM.view.setOn (Rect.unit (s := S2x256x4096) off S1x256x4096.size inb).toLoadRect.set ⊆ (slotM s).view.set := by
  subst ho
  have e : (slotM s).view.set = ((View.whole cc0_scratch0).slice (Rect.unit (s := S2x256x4096) ![s.val, 0, 0] S1x256x4096.size (slot_inb s))).set :=
    View.set_reshape _ _
  rw [e]
  rw [View.set_slice]
  exact Finset.Subset.refl _

end Cert.QuantProof
-- ==== Proof.Ops.lean ====
/-
# The steps of the products, over the whole state

Each copy, wait, load and store while the products are summed, as a step of the state that lists everything held.
-/
module

public import proofs.«01_k».proof.Proof.Compute

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

theorem slotPts_eq (c : Dev nD) (s : Fin 2) (f : Buf (Elt F) ((slotM s).view.loc (c : Thread nD τ))) :
    slotPts c s f = (wfM.view.loc (c : Thread nD τ) ↦[(slotM s).view.set]{fullShare} f) := rfl

theorem ent_trans {P1 P2 P3 : sProp 𝕄} (h1 : P1 ⊢ P2) (h2 : P2 ⊢ P3) : P1 ⊢ P3 := h1.trans h2
theorem rd_yoM (f : Vec F S128x4096 .f32) {off : Fin 2 → ℕ} (ho : off = fun _ => 0) (inb : ∀ a, off a + S128x4096.size a ≤ S128x4096.size a) :
    yoM.view.readAt (Elt F) (Rect.unit (s := S128x4096) off S128x4096.size inb).toLoadRect f = f := Memref.readAt_unit_zero (Elt F) cc0_scratch4 ho inb f
theorem wr_yoM (f w : Vec F S128x4096 .f32) {off : Fin 2 → ℕ} (ho : off = fun _ => 0) (inb : ∀ a, off a + S128x4096.size a ≤ S128x4096.size a) :
    (yoM.access (Rect.unit (s := S128x4096) off S128x4096.size inb)).write (Elt F) f w Finset.univ = w :=
  Memref.write_access_unit_zero_univ (Elt F) cc0_scratch4 ho inb f w
theorem rd_yrM (f : Vec F S128x4096 .f32) {off : Fin 2 → ℕ} (ho : off = fun _ => 0) (inb : ∀ a, off a + S128x4096.size a ≤ S128x4096.size a) :
    yrM.view.readAt (Elt F) (Rect.unit (s := S128x4096) off S128x4096.size inb).toLoadRect f = f := Memref.readAt_unit_zero (Elt F) cc0_scratch5 ho inb f
theorem wr_yrM (f w : Vec F S128x4096 .f32) {off : Fin 2 → ℕ} (ho : off = fun _ => 0) (inb : ∀ a, off a + S128x4096.size a ≤ S128x4096.size a) :
    (yrM.access (Rect.unit (s := S128x4096) off S128x4096.size inb)).write (Elt F) f w Finset.univ = w :=
  Memref.write_access_unit_zero_univ (Elt F) cc0_scratch5 ho inb f w
theorem ld_sub {cs : CoreSpace} {s : Shape} {e : EltTy} (M : Memref sig .tc cs s e) (r : LoadRect s) : M.view.setOn r.set ⊆ M.view.set :=
  View.setOn_subset_set _ _

variable {kw kb : ℕ} {f7 f8 : Vec F S128x4096 .f32}

/-- The copy of tile `kt` to slot 0 starts. -/
theorem cs_start0 {Q : α → sProp 𝕄} {R S0 S1 X6 : sProp 𝕄} (kt : Fin 16) (r : ℕ) (hkw : kw = kt.val) (hk : kt.val = 2 * r + 0) (hfr : S0 ⊢ SlotFree c 0 r)
    {sem : DmaSem sig} {off : Fin 2 → ℕ} {inb : ∀ a, off a + S256x4096.size a ≤ S4096x8192.size a} (ho : off = ![kt.val * 256, c.val % 2 * 4096])
    {dst : Memref sig .tc .vmem S256x4096 .f32} (hD : dst = slotM 0) (hs : SemLoc.dma sem = csem (.ws 0)) {hsrc : _} {hdst : dst.view.WordExact} {hsem : _}
    (H : iprop(CS m c K n (kw + 1) (SlotBusy c 0 r) S1 kb X6 f7 f8 ∗ R) ⊢ wpc c k Q) :
    iprop(CS m c K n kw S0 S1 kb X6 f7 f8 ∗ R)
      ⊢ wpc c (Prog.lift (.enqueueDma (wM.slice (Rect.unit (s := S4096x8192) off S256x4096.size inb) (fun _ => rfl)) (.here dst) (.dma sem) hsrc hdst hsem) >>= fun _ => k) Q := by
  unfold CS at *
  refine ent_trans ?_ (w_start (n := n) (m := m) (K := K) (R := iprop(S1 ∗ Wb m c kb ∗ xoPts c fullShare.left (xb m c) ∗ X6 ∗ yoPts c f7 ∗ yrPts c f8 ∗ R)) kt 0 r hkw hk ho hD hs (ent_trans ?_ H))
  · iintro ⟨⟨HC, HP, H0, H1, HW, HX, H6, H7, H8⟩, HR⟩
    isplitl [HC]; · iexact HC
    isplitl [H0 HP]
    · isplitl [H0]; · iapply hfr; iexact H0
      iexact HP
    isplitl [H1]; · iexact H1
    isplitl [HW]; · iexact HW
    isplitl [HX]; · iexact HX
    isplitl [H6]; · iexact H6
    isplitl [H7]; · iexact H7
    isplitl [H8]; · iexact H8
    iexact HR
  · iintro ⟨HC, ⟨H0, HP⟩, ⟨H1, HW, HX, H6, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The wait for tile `kt` in slot 0. -/
theorem cs_wait0 {Q : α → sProp 𝕄} {R S1 X6 : sProp 𝕄} (r kt : ℕ) (hk : kt = 2 * r + 0) (hr : r < 8) (hl : 0 < levD n ∨ n = 81)
    {sem : DmaSem sig} {sp sp' : Space} {s1 s2 : Shape} {e e' : EltTy} {src : Memref sig .tc sp' s2 e'}
    {dst : Memref sig .tc sp s1 e} {hsrc : src.view.WordExact} {hdst : dst.view.WordExact}
    (hs : SemLoc.dma sem = csem (.ws 0)) (hN : dst.view.dmaCredit = slotN)
    (H : iprop(CS m c K n kw (SlotFull m c 0 (r + 1) kt) S1 kb X6 f7 f8 ∗ R) ⊢ wpc c k Q) :
    iprop(CS m c K n kw (SlotBusy c 0 r) S1 kb X6 f7 f8 ∗ R)
      ⊢ wpc c (Prog.lift (.waitDma2 sem src dst hsrc hdst) >>= fun _ => k) Q := by
  unfold CS at *
  refine ent_trans ?_ (w_wait (n := n) (m := m) (K := K) (R := iprop(Ph (wA m c) wB kw ∗ S1 ∗ Wb m c kb ∗ xoPts c fullShare.left (xb m c) ∗ X6 ∗ yoPts c f7 ∗ yrPts c f8 ∗ R)) 0 r kt hk hr hl hs hN (ent_trans ?_ H))
  · iintro ⟨⟨HC, HP, H0, H1, HW, HX, H6, H7, H8⟩, HR⟩
    isplitl [HC]; · iexact HC
    isplitl [H0]; · iexact H0
    isplitl [HP]; · iexact HP
    isplitl [H1]; · iexact H1
    isplitl [HW]; · iexact HW
    isplitl [HX]; · iexact HX
    isplitl [H6]; · iexact H6
    isplitl [H7]; · iexact H7
    isplitl [H8]; · iexact H8
    iexact HR
  · iintro ⟨HC, H0, ⟨HP, H1, HW, HX, H6, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The copy of tile `kt` to slot 1 starts. -/
theorem cs_start1 {Q : α → sProp 𝕄} {R S0 S1 X6 : sProp 𝕄} (kt : Fin 16) (r : ℕ) (hkw : kw = kt.val) (hk : kt.val = 2 * r + 1) (hfr : S1 ⊢ SlotFree c 1 r)
    {sem : DmaSem sig} {off : Fin 2 → ℕ} {inb : ∀ a, off a + S256x4096.size a ≤ S4096x8192.size a} (ho : off = ![kt.val * 256, c.val % 2 * 4096])
    {dst : Memref sig .tc .vmem S256x4096 .f32} (hD : dst = slotM 1) (hs : SemLoc.dma sem = csem (.ws 1)) {hsrc : _} {hdst : dst.view.WordExact} {hsem : _}
    (H : iprop(CS m c K n (kw + 1) S0 (SlotBusy c 1 r) kb X6 f7 f8 ∗ R) ⊢ wpc c k Q) :
    iprop(CS m c K n kw S0 S1 kb X6 f7 f8 ∗ R)
      ⊢ wpc c (Prog.lift (.enqueueDma (wM.slice (Rect.unit (s := S4096x8192) off S256x4096.size inb) (fun _ => rfl)) (.here dst) (.dma sem) hsrc hdst hsem) >>= fun _ => k) Q := by
  unfold CS at *
  refine ent_trans ?_ (w_start (n := n) (m := m) (K := K) (R := iprop(S0 ∗ Wb m c kb ∗ xoPts c fullShare.left (xb m c) ∗ X6 ∗ yoPts c f7 ∗ yrPts c f8 ∗ R)) kt 1 r hkw hk ho hD hs (ent_trans ?_ H))
  · iintro ⟨⟨HC, HP, H0, H1, HW, HX, H6, H7, H8⟩, HR⟩
    isplitl [HC]; · iexact HC
    isplitl [H1 HP]
    · isplitl [H1]; · iapply hfr; iexact H1
      iexact HP
    isplitl [H0]; · iexact H0
    isplitl [HW]; · iexact HW
    isplitl [HX]; · iexact HX
    isplitl [H6]; · iexact H6
    isplitl [H7]; · iexact H7
    isplitl [H8]; · iexact H8
    iexact HR
  · iintro ⟨HC, ⟨H1, HP⟩, ⟨H0, HW, HX, H6, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The wait for tile `kt` in slot 1. -/
theorem cs_wait1 {Q : α → sProp 𝕄} {R S0 X6 : sProp 𝕄} (r kt : ℕ) (hk : kt = 2 * r + 1) (hr : r < 8) (hl : 0 < levD n ∨ n = 81)
    {sem : DmaSem sig} {sp sp' : Space} {s1 s2 : Shape} {e e' : EltTy} {src : Memref sig .tc sp' s2 e'}
    {dst : Memref sig .tc sp s1 e} {hsrc : src.view.WordExact} {hdst : dst.view.WordExact}
    (hs : SemLoc.dma sem = csem (.ws 1)) (hN : dst.view.dmaCredit = slotN)
    (H : iprop(CS m c K n kw S0 (SlotFull m c 1 (r + 1) kt) kb X6 f7 f8 ∗ R) ⊢ wpc c k Q) :
    iprop(CS m c K n kw S0 (SlotBusy c 1 r) kb X6 f7 f8 ∗ R)
      ⊢ wpc c (Prog.lift (.waitDma2 sem src dst hsrc hdst) >>= fun _ => k) Q := by
  unfold CS at *
  refine ent_trans ?_ (w_wait (n := n) (m := m) (K := K) (R := iprop(Ph (wA m c) wB kw ∗ S0 ∗ Wb m c kb ∗ xoPts c fullShare.left (xb m c) ∗ X6 ∗ yoPts c f7 ∗ yrPts c f8 ∗ R)) 1 r kt hk hr hl hs hN (ent_trans ?_ H))
  · iintro ⟨⟨HC, HP, H0, H1, HW, HX, H6, H7, H8⟩, HR⟩
    isplitl [HC]; · iexact HC
    isplitl [H1]; · iexact H1
    isplitl [HP]; · iexact HP
    isplitl [H0]; · iexact H0
    isplitl [HW]; · iexact HW
    isplitl [HX]; · iexact HX
    isplitl [H6]; · iexact H6
    isplitl [H7]; · iexact H7
    isplitl [H8]; · iexact H8
    iexact HR
  · iintro ⟨HC, H1, ⟨HP, H0, HW, HX, H6, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The load of tile `kt` from slot 0. -/
theorem ld_slot0 {Q : α → sProp 𝕄} {R S1 X6 : sProp 𝕄} {r kt : ℕ} {off : Fin 3 → ℕ} {inb : ∀ a, off a + S1x256x4096.size a ≤ S2x256x4096.size a} {hl : _}
    (ho : off = ![(0 : Fin 2).val, 0, 0])
    {kk : Vec F S1x256x4096 .f32 → Prog (TpuEff nD τ sig (Elt F) Λ₀ .tc) α}
    (H : iprop(CS m c K n kw (SlotFull m c 0 r kt) S1 kb X6 f7 f8 ∗ R) ⊢ wpc c (kk (wv m c kt)) Q) :
    iprop(CS m c K n kw (SlotFull m c 0 r kt) S1 kb X6 f7 f8 ∗ R)
      ⊢ wpc c (Prog.lift (.load wfM (Rect.unit (s := S2x256x4096) off S1x256x4096.size inb).toLoadRect hl) >>= kk) Q := by
  unfold CS at *
  unfold SlotFull at *
  refine ent_trans ?_ (ld_step (R := iprop(atPos ER (cell c (.ws 0)) r ∅ 0 ∗ reached ER (cell c (.ws 0)) r ∗ Core m K c n ∗ Ph (wA m c) wB kw ∗ S1 ∗ Wb m c kb ∗ xoPts c fullShare.left (xb m c) ∗ X6 ∗ yoPts c f7 ∗ yrPts c f8 ∗ R)) (M := wfM) (T := (slotM 0).view.set) (q := fullShare) (f := WF m c kt) (slot_set 0 ho inb) (ent_trans ?_ (H.trans (Entails.of_eq ?_))))
  rotate_left 2
  · rw [read_slot m c kt 0 ho inb]
  · iintro ⟨⟨HC, HP, ⟨Ha, Hb, Hp⟩, H1, HW, HX, H6, H7, H8⟩, HR⟩
    isplitl [Hp]; · iapply (Entails.of_eq (slotPts_eq c 0 (WF m c kt))); iexact Hp
    isplitl [Ha]; · iexact Ha
    isplitl [Hb]; · iexact Hb
    isplitl [HC]; · iexact HC
    isplitl [HP]; · iexact HP
    isplitl [H1]; · iexact H1
    isplitl [HW]; · iexact HW
    isplitl [HX]; · iexact HX
    isplitl [H6]; · iexact H6
    isplitl [H7]; · iexact H7
    isplitl [H8]; · iexact H8
    iexact HR
  · iintro ⟨Hp, Ha, Hb, ⟨HC, HP, H1, HW, HX, H6, H7, H8, HR⟩⟩
    isplitl [HC HP Ha Hb Hp H1 HW HX H6 H7 H8]
    · isplitl [HC]; · iexact HC
      isplitl [HP]; · iexact HP
      isplitl [Ha Hb Hp]
      · isplitl [Ha]; · iexact Ha
        isplitl [Hb]; · iexact Hb
        iapply (Entails.of_eq (slotPts_eq c 0 (WF m c kt)).symm); iexact Hp
      isplitl [H1]; · iexact H1
      isplitl [HW]; · iexact HW
      isplitl [HX]; · iexact HX
      isplitl [H6]; · iexact H6
      isplitl [H7]; · iexact H7
      iexact H8
    iexact HR

/-- The load of tile `kt` from slot 1. -/
theorem ld_slot1 {Q : α → sProp 𝕄} {R S0 X6 : sProp 𝕄} {r kt : ℕ} {off : Fin 3 → ℕ} {inb : ∀ a, off a + S1x256x4096.size a ≤ S2x256x4096.size a} {hl : _}
    (ho : off = ![(1 : Fin 2).val, 0, 0])
    {kk : Vec F S1x256x4096 .f32 → Prog (TpuEff nD τ sig (Elt F) Λ₀ .tc) α}
    (H : iprop(CS m c K n kw S0 (SlotFull m c 1 r kt) kb X6 f7 f8 ∗ R) ⊢ wpc c (kk (wv m c kt)) Q) :
    iprop(CS m c K n kw S0 (SlotFull m c 1 r kt) kb X6 f7 f8 ∗ R)
      ⊢ wpc c (Prog.lift (.load wfM (Rect.unit (s := S2x256x4096) off S1x256x4096.size inb).toLoadRect hl) >>= kk) Q := by
  unfold CS at *
  unfold SlotFull at *
  refine ent_trans ?_ (ld_step (R := iprop(atPos ER (cell c (.ws 1)) r ∅ 0 ∗ reached ER (cell c (.ws 1)) r ∗ Core m K c n ∗ Ph (wA m c) wB kw ∗ S0 ∗ Wb m c kb ∗ xoPts c fullShare.left (xb m c) ∗ X6 ∗ yoPts c f7 ∗ yrPts c f8 ∗ R)) (M := wfM) (T := (slotM 1).view.set) (q := fullShare) (f := WF m c kt) (slot_set 1 ho inb) (ent_trans ?_ (H.trans (Entails.of_eq ?_))))
  rotate_left 2
  · rw [read_slot m c kt 1 ho inb]
  · iintro ⟨⟨HC, HP, H0, ⟨Ha, Hb, Hp⟩, HW, HX, H6, H7, H8⟩, HR⟩
    isplitl [Hp]; · iapply (Entails.of_eq (slotPts_eq c 1 (WF m c kt))); iexact Hp
    isplitl [Ha]; · iexact Ha
    isplitl [Hb]; · iexact Hb
    isplitl [HC]; · iexact HC
    isplitl [HP]; · iexact HP
    isplitl [H0]; · iexact H0
    isplitl [HW]; · iexact HW
    isplitl [HX]; · iexact HX
    isplitl [H6]; · iexact H6
    isplitl [H7]; · iexact H7
    isplitl [H8]; · iexact H8
    iexact HR
  · iintro ⟨Hp, Ha, Hb, ⟨HC, HP, H0, HW, HX, H6, H7, H8, HR⟩⟩
    isplitl [HC HP H0 Ha Hb Hp HW HX H6 H7 H8]
    · isplitl [HC]; · iexact HC
      isplitl [HP]; · iexact HP
      isplitl [H0]; · iexact H0
      isplitl [Ha Hb Hp]
      · isplitl [Ha]; · iexact Ha
        isplitl [Hb]; · iexact Hb
        iapply (Entails.of_eq (slotPts_eq c 1 (WF m c kt)).symm); iexact Hp
      isplitl [HW]; · iexact HW
      isplitl [HX]; · iexact HX
      isplitl [H6]; · iexact H6
      isplitl [H7]; · iexact H7
      iexact H8
    iexact HR

/-- The load of anything from the tiles kept. -/
theorem ld_tile_any {Q : α → sProp 𝕄} {R S0 S1 X6 : sProp 𝕄} {off : Fin 3 → ℕ} {inb : ∀ a, off a + S1x256x4096.size a ≤ S8x256x4096.size a} {hl : _} {kk : Vec F S1x256x4096 .bf16 → Prog (TpuEff nD τ sig (Elt F) Λ₀ .tc) α}
    (H : ∀ v, iprop(CS m c K n kw S0 S1 kb X6 f7 f8 ∗ R) ⊢ wpc c (kk v) Q) :
    iprop(CS m c K n kw S0 S1 kb X6 f7 f8 ∗ R) ⊢ wpc c (Prog.lift (.load wbM (Rect.unit (s := S8x256x4096) off S1x256x4096.size inb).toLoadRect hl) >>= kk) Q := by
  rw [lift_bind]
  unfold CS Wb at *
  iintro ⟨⟨HC, HP, H0, H1, HW, HX, H6, H7, H8⟩, HR⟩
  icases HW with ⟨%f, %hf, HW⟩
  iapply (wp_load 𝒱₀ (c : Thread nD τ) none Set.univ (m := wbM) (Finset.subset_univ _)) $$ HW
  iintro HW
  iapply (H _)
  isplitl [HC HP H0 H1 HW HX H6 H7 H8]
  · isplitl [HC]; · iexact HC
    isplitl [HP]; · iexact HP
    isplitl [H0]; · iexact H0
    isplitl [H1]; · iexact H1
    isplitl [HW]
    · iexists f; isplitr; · ipureintro; exact hf
      iexact HW
    isplitl [HX]; · iexact HX
    isplitl [H6]; · iexact H6
    isplitl [H7]; · iexact H7
    iexact H8
  iexact HR

/-- The load of tile `j` from the tiles kept. -/
theorem ld_tile {Q : α → sProp 𝕄} {R S0 S1 X6 : sProp 𝕄} (j : ℕ) (h1 : j < kb) (h2 : kb ≤ j + 8) {off : Fin 3 → ℕ} {inb : ∀ a, off a + S1x256x4096.size a ≤ S8x256x4096.size a} {hl : _} (ho : off = ![j % 8, 0, 0]) {kk : Vec F S1x256x4096 .bf16 → Prog (TpuEff nD τ sig (Elt F) Λ₀ .tc) α}
    (H : iprop(CS m c K n kw S0 S1 kb X6 f7 f8 ∗ R) ⊢ wpc c (kk (wbv m c j)) Q) :
    iprop(CS m c K n kw S0 S1 kb X6 f7 f8 ∗ R) ⊢ wpc c (Prog.lift (.load wbM (Rect.unit (s := S8x256x4096) off S1x256x4096.size inb).toLoadRect hl) >>= kk) Q := by
  rw [lift_bind]
  unfold CS Wb at *
  iintro ⟨⟨HC, HP, H0, H1, HW, HX, H6, H7, H8⟩, HR⟩
  icases HW with ⟨%f, %hf, HW⟩
  iapply (wp_load 𝒱₀ (c : Thread nD τ) none Set.univ (m := wbM) (Finset.subset_univ _)) $$ HW
  iintro HW
  iapply (H.trans (Entails.of_eq (by rw [read_tile m hf j h1 h2 ho inb])))
  isplitl [HC HP H0 H1 HW HX H6 H7 H8]
  · isplitl [HC]; · iexact HC
    isplitl [HP]; · iexact HP
    isplitl [H0]; · iexact H0
    isplitl [H1]; · iexact H1
    isplitl [HW]
    · iexists f; isplitr; · ipureintro; exact hf
      iexact HW
    isplitl [HX]; · iexact HX
    isplitl [H6]; · iexact H6
    isplitl [H7]; · iexact H7
    iexact H8
  iexact HR

/-- The store of the next rounded tile. -/
theorem st_tile {Q : α → sProp 𝕄} {R S0 S1 X6 : sProp 𝕄} {off : Fin 3 → ℕ} {inb : ∀ a, off a + S1x256x4096.size a ≤ S8x256x4096.size a} {w : Vec F S1x256x4096 .bf16} {hx : (wbM.access (Rect.unit (s := S8x256x4096) off S1x256x4096.size inb)).Stores Finset.univ} {hm : _}
    (ho : off = ![kb % 8, 0, 0]) (hw : w = wbv m c kb)
    (H : iprop(CS m c K n kw S0 S1 (kb + 1) X6 f7 f8 ∗ R) ⊢ wpc c k Q) :
    iprop(CS m c K n kw S0 S1 kb X6 f7 f8 ∗ R) ⊢ wpc c (Prog.lift (.store wbM (Rect.unit (s := S8x256x4096) off S1x256x4096.size inb) w Finset.univ hx hm) >>= fun _ => k) Q := by
  subst hw
  rw [lift_bind]
  unfold CS Wb at *
  iintro ⟨⟨HC, HP, H0, H1, HW, HX, H6, H7, H8⟩, HR⟩
  icases HW with ⟨%f, %hf, HW⟩
  iapply (wp_store 𝒱₀ (c : Thread nD τ) none Set.univ (m := wbM) (r := Rect.unit (s := S8x256x4096) off S1x256x4096.size inb) (Mk := Finset.univ) (Finset.subset_univ _)) $$ HW
  iintro HW
  iapply H
  isplitl [HC HP H0 H1 HW HX H6 H7 H8]
  · isplitl [HC]; · iexact HC
    isplitl [HP]; · iexact HP
    isplitl [H0]; · iexact H0
    isplitl [H1]; · iexact H1
    isplitl [HW]
    · iexists _; isplitr; · ipureintro; exact (write_tile m hf ho inb)
      iexact HW
    isplitl [HX]; · iexact HX
    isplitl [H6]; · iexact H6
    isplitl [H7]; · iexact H7
    iexact H8
  iexact HR

/-- The load of column block `j` of the device's own rounded block of `x`. -/
theorem ld_own {Q : α → sProp 𝕄} {R S0 S1 X6 : sProp 𝕄} (j : ℕ) {off : Fin 2 → ℕ} {inb : ∀ a, off a + S128x256.size a ≤ S128x4096.size a} {hl : _} (ho : off = ![0, j * 256]) {kk : Vec F S128x256 .bf16 → Prog (TpuEff nD τ sig (Elt F) Λ₀ .tc) α}
    (H : iprop(CS m c K n kw S0 S1 kb X6 f7 f8 ∗ R) ⊢ wpc c (kk (xcol (xb m c) j)) Q) :
    iprop(CS m c K n kw S0 S1 kb X6 f7 f8 ∗ R) ⊢ wpc c (Prog.lift (.load xoM (Rect.unit (s := S128x4096) off S128x256.size inb).toLoadRect hl) >>= kk) Q := by
  refine ent_trans ?_ (ld_step (R := iprop(Core m K c n ∗ Ph (wA m c) wB kw ∗ S0 ∗ S1 ∗ Wb m c kb ∗ X6 ∗ yoPts c f7 ∗ yrPts c f8 ∗ R)) (M := xoM) (T := xoM.view.set) (q := fullShare.left) (f := xb m c) (ld_sub _ _) (ent_trans ?_ (H.trans (Entails.of_eq (by rw [read_xo (xb m c) j ho inb])))))
  · unfold CS xoPts
    iintro ⟨⟨HC, HP, H0, H1, HW, HX, H6, H7, H8⟩, HR⟩
    isplitl [HX]; · iexact HX
    isplitl [HC]; · iexact HC
    isplitl [HP]; · iexact HP
    isplitl [H0]; · iexact H0
    isplitl [H1]; · iexact H1
    isplitl [HW]; · iexact HW
    isplitl [H6]; · iexact H6
    isplitl [H7]; · iexact H7
    isplitl [H8]; · iexact H8
    iexact HR
  · unfold CS xoPts
    iintro ⟨HX, ⟨HC, HP, H0, H1, HW, H6, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The load of column block `j` of the partner's rounded block of `x`. -/
theorem ld_rem {Q : α → sProp 𝕄} {R S0 S1 : sProp 𝕄} (j : ℕ) {off : Fin 2 → ℕ} {inb : ∀ a, off a + S128x256.size a ≤ S128x4096.size a} {hl : _} (ho : off = ![0, j * 256]) {kk : Vec F S128x256 .bf16 → Prog (TpuEff nD τ sig (Elt F) Λ₀ .tc) α}
    (H : iprop(CS m c K n kw S0 S1 kb (xrPts c (xb m (partner c))) f7 f8 ∗ R) ⊢ wpc c (kk (xcol (xb m (partner c)) j)) Q) :
    iprop(CS m c K n kw S0 S1 kb (xrPts c (xb m (partner c))) f7 f8 ∗ R) ⊢ wpc c (Prog.lift (.load xrM (Rect.unit (s := S128x4096) off S128x256.size inb).toLoadRect hl) >>= kk) Q := by
  refine ent_trans ?_ (ld_step (R := iprop(Core m K c n ∗ Ph (wA m c) wB kw ∗ S0 ∗ S1 ∗ Wb m c kb ∗ xoPts c fullShare.left (xb m c) ∗ yoPts c f7 ∗ yrPts c f8 ∗ R)) (M := xrM) (T := xrM.view.set) (q := fullShare) (f := xb m (partner c)) (ld_sub _ _) (ent_trans ?_ (H.trans (Entails.of_eq (by rw [read_xr (xb m (partner c)) j ho inb])))))
  · unfold CS xrPts
    iintro ⟨⟨HC, HP, H0, H1, HW, HX, H6, H7, H8⟩, HR⟩
    isplitl [H6]; · iexact H6
    isplitl [HC]; · iexact HC
    isplitl [HP]; · iexact HP
    isplitl [H0]; · iexact H0
    isplitl [H1]; · iexact H1
    isplitl [HW]; · iexact HW
    isplitl [HX]; · iexact HX
    isplitl [H7]; · iexact H7
    isplitl [H8]; · iexact H8
    iexact HR
  · unfold CS xrPts
    iintro ⟨H6, ⟨HC, HP, H0, H1, HW, HX, H7, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The load of the sum for the own block. -/
theorem ld_sum7 {Q : α → sProp 𝕄} {R S0 S1 X6 : sProp 𝕄} {off : Fin 2 → ℕ} {inb : ∀ a, off a + S128x4096.size a ≤ S128x4096.size a} {hl : _} (ho : off = fun _ => 0) {kk : Vec F S128x4096 .f32 → Prog (TpuEff nD τ sig (Elt F) Λ₀ .tc) α}
    (H : iprop(CS m c K n kw S0 S1 kb X6 f7 f8 ∗ R) ⊢ wpc c (kk f7) Q) :
    iprop(CS m c K n kw S0 S1 kb X6 f7 f8 ∗ R) ⊢ wpc c (Prog.lift (.load yoM (Rect.unit (s := S128x4096) off S128x4096.size inb).toLoadRect hl) >>= kk) Q := by
  refine ent_trans ?_ (ld_step (R := iprop(Core m K c n ∗ Ph (wA m c) wB kw ∗ S0 ∗ S1 ∗ Wb m c kb ∗ xoPts c fullShare.left (xb m c) ∗ X6 ∗ yrPts c f8 ∗ R)) (M := yoM) (T := Finset.univ) (q := fullShare) (f := f7) (Finset.subset_univ _) (ent_trans ?_ (H.trans (Entails.of_eq (by rw [rd_yoM f7 ho inb])))))
  · unfold CS yoPts
    iintro ⟨⟨HC, HP, H0, H1, HW, HX, H6, H7, H8⟩, HR⟩
    isplitl [H7]; · iexact H7
    isplitl [HC]; · iexact HC
    isplitl [HP]; · iexact HP
    isplitl [H0]; · iexact H0
    isplitl [H1]; · iexact H1
    isplitl [HW]; · iexact HW
    isplitl [HX]; · iexact HX
    isplitl [H6]; · iexact H6
    isplitl [H8]; · iexact H8
    iexact HR
  · unfold CS yoPts
    iintro ⟨H7, ⟨HC, HP, H0, H1, HW, HX, H6, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The store of the sum for the own block. -/
theorem st_sum7 {Q : α → sProp 𝕄} {R S0 S1 X6 : sProp 𝕄} {off : Fin 2 → ℕ} {inb : ∀ a, off a + S128x4096.size a ≤ S128x4096.size a} (ho : off = fun _ => 0) {w w' : Vec F S128x4096 .f32} {hx : (yoM.access (Rect.unit (s := S128x4096) off S128x4096.size inb)).Stores Finset.univ} {hm : _}
    (hw : w = w')
    (H : iprop(CS m c K n kw S0 S1 kb X6 w' f8 ∗ R) ⊢ wpc c k Q) :
    iprop(CS m c K n kw S0 S1 kb X6 f7 f8 ∗ R) ⊢ wpc c (Prog.lift (.store yoM (Rect.unit (s := S128x4096) off S128x4096.size inb) w Finset.univ hx hm) >>= fun _ => k) Q := by
  subst hw
  refine ent_trans ?_ (st_step (R := iprop(Core m K c n ∗ Ph (wA m c) wB kw ∗ S0 ∗ S1 ∗ Wb m c kb ∗ xoPts c fullShare.left (xb m c) ∗ X6 ∗ yrPts c f8 ∗ R)) (M := yoM) (T := Finset.univ) (f := f7) (Finset.subset_univ _) (ent_trans ?_ H))
  · unfold CS yoPts
    iintro ⟨⟨HC, HP, H0, H1, HW, HX, H6, H7, H8⟩, HR⟩
    isplitl [H7]; · iexact H7
    isplitl [HC]; · iexact HC
    isplitl [HP]; · iexact HP
    isplitl [H0]; · iexact H0
    isplitl [H1]; · iexact H1
    isplitl [HW]; · iexact HW
    isplitl [HX]; · iexact HX
    isplitl [H6]; · iexact H6
    isplitl [H8]; · iexact H8
    iexact HR
  · rw [wr_yoM f7 w ho inb]
    unfold CS yoPts
    iintro ⟨H7, ⟨HC, HP, H0, H1, HW, HX, H6, H8, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The load of the sum for the partner's block. -/
theorem ld_sum8 {Q : α → sProp 𝕄} {R S0 S1 X6 : sProp 𝕄} {off : Fin 2 → ℕ} {inb : ∀ a, off a + S128x4096.size a ≤ S128x4096.size a} {hl : _} (ho : off = fun _ => 0) {kk : Vec F S128x4096 .f32 → Prog (TpuEff nD τ sig (Elt F) Λ₀ .tc) α}
    (H : iprop(CS m c K n kw S0 S1 kb X6 f7 f8 ∗ R) ⊢ wpc c (kk f8) Q) :
    iprop(CS m c K n kw S0 S1 kb X6 f7 f8 ∗ R) ⊢ wpc c (Prog.lift (.load yrM (Rect.unit (s := S128x4096) off S128x4096.size inb).toLoadRect hl) >>= kk) Q := by
  refine ent_trans ?_ (ld_step (R := iprop(Core m K c n ∗ Ph (wA m c) wB kw ∗ S0 ∗ S1 ∗ Wb m c kb ∗ xoPts c fullShare.left (xb m c) ∗ X6 ∗ yoPts c f7 ∗ R)) (M := yrM) (T := Finset.univ) (q := fullShare) (f := f8) (Finset.subset_univ _) (ent_trans ?_ (H.trans (Entails.of_eq (by rw [rd_yrM f8 ho inb])))))
  · unfold CS yrPts
    iintro ⟨⟨HC, HP, H0, H1, HW, HX, H6, H7, H8⟩, HR⟩
    isplitl [H8]; · iexact H8
    isplitl [HC]; · iexact HC
    isplitl [HP]; · iexact HP
    isplitl [H0]; · iexact H0
    isplitl [H1]; · iexact H1
    isplitl [HW]; · iexact HW
    isplitl [HX]; · iexact HX
    isplitl [H6]; · iexact H6
    isplitl [H7]; · iexact H7
    iexact HR
  · unfold CS yrPts
    iintro ⟨H8, ⟨HC, HP, H0, H1, HW, HX, H6, H7, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

/-- The store of the sum for the partner's block. -/
theorem st_sum8 {Q : α → sProp 𝕄} {R S0 S1 X6 : sProp 𝕄} {off : Fin 2 → ℕ} {inb : ∀ a, off a + S128x4096.size a ≤ S128x4096.size a} (ho : off = fun _ => 0) {w w' : Vec F S128x4096 .f32} {hx : (yrM.access (Rect.unit (s := S128x4096) off S128x4096.size inb)).Stores Finset.univ} {hm : _}
    (hw : w = w')
    (H : iprop(CS m c K n kw S0 S1 kb X6 f7 w' ∗ R) ⊢ wpc c k Q) :
    iprop(CS m c K n kw S0 S1 kb X6 f7 f8 ∗ R) ⊢ wpc c (Prog.lift (.store yrM (Rect.unit (s := S128x4096) off S128x4096.size inb) w Finset.univ hx hm) >>= fun _ => k) Q := by
  subst hw
  refine ent_trans ?_ (st_step (R := iprop(Core m K c n ∗ Ph (wA m c) wB kw ∗ S0 ∗ S1 ∗ Wb m c kb ∗ xoPts c fullShare.left (xb m c) ∗ X6 ∗ yoPts c f7 ∗ R)) (M := yrM) (T := Finset.univ) (f := f8) (Finset.subset_univ _) (ent_trans ?_ H))
  · unfold CS yrPts
    iintro ⟨⟨HC, HP, H0, H1, HW, HX, H6, H7, H8⟩, HR⟩
    isplitl [H8]; · iexact H8
    isplitl [HC]; · iexact HC
    isplitl [HP]; · iexact HP
    isplitl [H0]; · iexact H0
    isplitl [H1]; · iexact H1
    isplitl [HW]; · iexact HW
    isplitl [HX]; · iexact HX
    isplitl [H6]; · iexact H6
    isplitl [H7]; · iexact H7
    iexact HR
  · rw [wr_yrM f8 w ho inb]
    unfold CS yrPts
    iintro ⟨H8, ⟨HC, HP, H0, H1, HW, HX, H6, H7, HR⟩⟩
    isplitl [HC HP H0 H1 HW HX H6 H7 H8]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    iexact HR

end Cert.QuantProof
-- ==== Proof.Moves.lean ====
/-
# The remaining steps

The exchange of the rounded rows with the partner, the copy of a device's own block, and loads and stores of a whole
buffer.
-/
module

public import proofs.«01_k».proof.Proof.Ops

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- The whole buffer is addressed from its origin. -/
theorem off00 : (![0, 0] : Fin 2 → ℕ) = fun _ => 0 := by funext a; fin_cases a <;> rfl

/-! ## Whole buffers -/

theorem ld_any {Q : α → sProp 𝕄} {R : sProp 𝕄} {cs : CoreSpace} {s : Shape} {e : EltTy} {M : Memref sig .tc cs s e} {r : LoadRect s} {hl : M.view.LoadsAt r}
    {kk : (r.shape.Idx → Elt F e) → Prog (TpuEff nD τ sig (Elt F) Λ₀ .tc) α} {q : PosShare TreeShare} {f : Buf (Elt F) (M.view.loc (c : Thread nD τ))}
    (H : ∀ v, iprop((M.view.loc (c : Thread nD τ) ↦[Finset.univ]{q} f) ∗ R) ⊢ wpc c (kk v) Q) :
    iprop((M.view.loc (c : Thread nD τ) ↦[Finset.univ]{q} f) ∗ R) ⊢ wpc c (Prog.lift (.load M r hl) >>= kk) Q :=
  ld_step (Finset.subset_univ _) (H _)

theorem ld_eq {Q : α → sProp 𝕄} {R : sProp 𝕄} {cs : CoreSpace} {s : Shape} {e : EltTy} {M : Memref sig .tc cs s e} {r : LoadRect s} {hl : M.view.LoadsAt r}
    {kk : (r.shape.Idx → Elt F e) → Prog (TpuEff nD τ sig (Elt F) Λ₀ .tc) α} {q : PosShare TreeShare} {f : Buf (Elt F) (M.view.loc (c : Thread nD τ))}
    (v : r.shape.Idx → Elt F e) (hv : M.view.readAt (Elt F) r f = v)
    (H : iprop((M.view.loc (c : Thread nD τ) ↦[Finset.univ]{q} f) ∗ R) ⊢ wpc c (kk v) Q) :
    iprop((M.view.loc (c : Thread nD τ) ↦[Finset.univ]{q} f) ∗ R) ⊢ wpc c (Prog.lift (.load M r hl) >>= kk) Q := by
  subst hv; exact ld_step (Finset.subset_univ _) H

theorem st_eq {Q : α → sProp 𝕄} {R : sProp 𝕄} {cs : CoreSpace} {s : Shape} {e : EltTy} {M : Memref sig .tc cs s e} {r : Rect s} {w : r.shape.Idx → Elt F e}
    {hx : (M.access r).Stores Finset.univ} {hm : _} {f : Buf (Elt F) (M.view.loc (c : Thread nD τ))} (f' : Buf (Elt F) (M.view.loc (c : Thread nD τ)))
    (hv : (M.access r).write (Elt F) f w Finset.univ = f')
    (H : iprop((M.view.loc (c : Thread nD τ) ↦[Finset.univ]{fullShare} f') ∗ R) ⊢ wpc c k Q) :
    iprop((M.view.loc (c : Thread nD τ) ↦[Finset.univ]{fullShare} f) ∗ R) ⊢ wpc c (Prog.lift (.store M r w Finset.univ hx hm) >>= fun _ => k) Q := by
  subst hv; exact st_step (Finset.subset_univ _) H

/-! ## The exchange with the partner -/

/-- The ticket for the partner's rows. -/
def XrWait (c : Dev nD) : sProp 𝕄 := iprop(atPos ER (cell c .xr) 0 ∅ 0 ∗ cred (tallyAt (cell c .xr) () xN))
/-- What the copy to the partner takes. -/
def XsTake (m : (ℓ : Loc nD τ sig) → Buf (Elt F) ℓ) (c : Dev nD) : sProp 𝕄 :=
  iprop(xoPts c fullShare.right (xb m c) ∗ (∃ f, xrPts (partner c) f) ∗ dutyTok ER (cell c .xs) 0 0 ∗ dutyTok ER (cell (partner c) .xr) 0 0)

omit [FloatOps F] in
theorem xs_sem : SemLoc.dma (sig := sig) cc0_scratch11.sem = csem .xs := by rw [csem_dma (by decide)]; rfl
omit [FloatOps F] in
theorem xr_sem : SemLoc.dma (sig := sig) cc0_scratch12.sem = csem .xr := by rw [csem_dma (by decide)]; rfl
omit [FloatOps F] in
theorem self_sem : SemLoc.dma (sig := sig) cc0_scratch13.sem = csem .self := by rw [csem_dma (by decide)]; rfl

theorem xr_landed (c : Dev nD) (fd : Buf (Elt F) (xrM.view.loc (partner c : Thread nD τ))) :
    (xrM.view.loc (partner c : Thread nD τ) ↦[xrM.view.set]{fullShare} (xrM.view.write (Elt F) fd (xoM.view.read (Elt F) (xb m c)) Finset.univ))
      ⊢ xrPts (partner c) (xb m (partner (partner c))) := by
  rw [partner_partner]
  exact Entails.of_eq (by rw [show xrM.view.write (Elt F) fd (xoM.view.read (Elt F) (xb m c)) Finset.univ = xb m c from by
    rw [View.read_whole]; exact View.write_whole_univ _ _ _]; rfl)

theorem x_send {Q : α → sProp 𝕄} {R : sProp 𝕄} {d' : Dev nD} (hd : d' = partner c)
    {hsc : xrM.view.ref.isScScratch = false} {hsrc : xoM.view.WordExact} {hdst : xrM.view.WordExact}
    {hsem : DmaTarget.Typed .vmem (.dma cc0_scratch12.sem) (.remote (Dev.tc d') xrM (.dma cc0_scratch11.sem) hsc)}
    (H : iprop(Core m K c 33 ∗ cred (tallyAt (cell c .xs) () xN) ∗ R) ⊢ wpc c k Q) :
    iprop(Core m K c 32 ∗ XsTake m c ∗ R)
      ⊢ wpc c (Prog.lift (.enqueueDma xoM (.remote (Dev.tc d') xrM (.dma cc0_scratch11.sem) hsc) (.dma cc0_scratch12.sem) hsrc hdst hsem) >>= fun _ => k) Q := by
  refine send_plain (q := fullShare.right) (fs := xb m c) (N := xN) .xs .xr (partner c) xoM xrM rfl rfl hd xs_sem xr_sem (by decide) (debt_x c)
    rfl rfl rfl rfl rfl Entails.refl (fun fd => xr_landed c fd) ?_ H
  unfold XsTake xoPts xrPts
  iintro ⟨H1, ⟨%f, H2⟩, H3, H4⟩
  isplitl [H1]; · iexact H1
  isplitl [H2]; · iexists f; iexact H2
  isplitl [H3]; · iexact H3
  isplitl [H4]; · iexact H4
  iintro Hc
  iexact Hc

section
variable {kw kb : ℕ} {f7 f8 : Vec F S128x4096 .f32}
theorem xr_wait {Q : α → sProp 𝕄} {R S0 S1 : sProp 𝕄} {hsrc : xoM.view.WordExact} {hdst : xrM.view.WordExact} (hl : levK .xr < levD n ∨ n = 81)
    (H : iprop(CS m c K n kw S0 S1 kb (xrPts c (xb m (partner c))) f7 f8 ∗ (Done m c .xr ∗ R)) ⊢ wpc c k Q) :
    iprop(CS m c K n kw S0 S1 kb (XrWait c) f7 f8 ∗ R) ⊢ wpc c (Prog.lift (.waitDma2 cc0_scratch12.sem xoM xrM hsrc hdst) >>= fun _ => k) Q := by
  unfold CS at *
  refine ent_trans ?_ (wait_plain (m := m) (K := K) (n := n) (S := XrWait c) (S' := iprop(Done m c .xr ∗ xrPts c (xb m (partner c))))
    (R := iprop(Ph (wA m c) wB kw ∗ S0 ∗ S1 ∗ Wb m c kb ∗ xoPts c fullShare.left (xb m c) ∗ yoPts c f7 ∗ yrPts c f8 ∗ R))
    .xr 0 (N := xN) xr_sem rfl rfl rfl hl ?_ (ent_trans ?_ H))
  · iintro ⟨⟨HC, HP, H0, H1, HW, HX, H6, H7, H8⟩, HR⟩
    isplitl [HC]; · iexact HC
    isplitl [H6]; · iexact H6
    isplitl [HP]; · iexact HP
    isplitl [H0]; · iexact H0
    isplitl [H1]; · iexact H1
    isplitl [HW]; · iexact HW
    isplitl [HX]; · iexact HX
    isplitl [H7]; · iexact H7
    isplitl [H8]; · iexact H8
    iexact HR
  · unfold XrWait
    iintro ⟨Ha, Hc⟩
    isplitl [Hc]; · iexact Hc
    isplitl [Ha]; · iexact Ha
    iintro ⟨Ha, -, Hp⟩
    isplitl [Ha]; · iapply (done_last (k := .xr)); iexact Ha
    iapply (Entails.of_eq (show payK m c .xr 0 0 = xrPts c (xb m (partner c)) from rfl)); iexact Hp
  · iintro ⟨HC, ⟨HD, H6⟩, HP, H0, H1, HW, HX, H7, H8, HR⟩
    isplitr [HD HR]
    · isplitl [HC]; · iexact HC
      isplitl [HP]; · iexact HP
      isplitl [H0]; · iexact H0
      isplitl [H1]; · iexact H1
      isplitl [HW]; · iexact HW
      isplitl [HX]; · iexact HX
      isplitl [H6]; · iexact H6
      isplitl [H7]; · iexact H7
      iexact H8
    · isplitl [HD]; · iexact HD
      iexact HR
end

theorem xs_wait {Q : α → sProp 𝕄} {R : sProp 𝕄} {hsrc : xrM.view.WordExact} {hdst : xoM.view.WordExact}
    (H : iprop(Core m K c 81 ∗ (Done m c .xs ∗ xoPts c fullShare.right (xb m c)) ∗ R) ⊢ wpc c k Q) :
    iprop(Core m K c 81 ∗ (atPos ER (cell c .xs) 0 ∅ 0 ∗ cred (tallyAt (cell c .xs) () xN)) ∗ R)
      ⊢ wpc c (Prog.lift (.waitDma2 cc0_scratch11.sem xrM xoM hsrc hdst) >>= fun _ => k) Q := by
  refine wait_plain .xs 0 (N := xN) xs_sem rfl rfl rfl (Or.inr rfl) ?_ H
  iintro ⟨Ha, Hc⟩
  isplitl [Hc]; · iexact Hc
  isplitl [Ha]; · iexact Ha
  iintro ⟨Ha, -, Hp⟩
  isplitl [Ha]; · iapply (done_last (k := .xs)); iexact Ha
  iapply (Entails.of_eq (show payK m c .xs 0 0 = xoPts c fullShare.right (xb m c) from rfl)); iexact Hp

/-! ## The copy of a device's own block -/

/-- The block of the device's own rows in its own columns, where it exists. -/
def selfBlk (c : Dev nD) : sProp 𝕄 := if Self c then iprop(∃ f, blkPts c (pair c) f) else iprop(emp)
def selfChk (m : (ℓ : Loc nD τ sig) → Buf (Elt F) ℓ) (c : Dev nD) : sProp 𝕄 := if Self c then chkPts c (col c) (QQ m c) else iprop(emp)
def selfA (m : (ℓ : Loc nD τ sig) → Buf (Elt F) ℓ) (c : Dev nD) : sProp 𝕄 := iprop(selfBlk c ∗ selfChk m c ∗ dutyTok ER (cell c .self) 0 0)
def selfB (c : Dev nD) : sProp 𝕄 := if Self c then cred (tallyAt (cell c .self) () blkN) else iprop(emp)
def selfC (m : (ℓ : Loc nD τ sig) → Buf (Elt F) ℓ) (c : Dev nD) : sProp 𝕄 :=
  if Self c then iprop(blkPts c (pair c) (YY m c) ∗ chkPts c (col c) (QQ m c)) else iprop(emp)

theorem self_copy {Q : α → sProp 𝕄} {R : sProp 𝕄} {P : Prop} [Decidable P] {sem : P → DmaSem sig}
    {src dst : P → Memref sig .tc .vmem S256x256 .i8} {hsrc : ∀ h, (src h).view.WordExact} {hdst : ∀ h, (dst h).view.WordExact}
    {hsem : ∀ h, DmaTarget.Typed (nD := nD) (τ := τ) (p := .tc) .vmem (.dma (sem h)) (.here (dst h))}
    (hP : P ↔ Self c) (hS : ∀ h, src h = chkM (col c)) (hD : ∀ h, dst h = blkM (pair c)) (hs : ∀ h, SemLoc.dma (sem h) = csem .self)
    (H : iprop(Core m K c n ∗ selfB c ∗ R) ⊢ wpc c k Q) :
    iprop(Core m K c n ∗ selfA m c ∗ R)
      ⊢ wpc c (dite P (fun h => Prog.lift (.enqueueDma (src h) (.here (dst h)) (.dma (sem h)) (hsrc h) (hdst h) (hsem h)) >>= fun _ => k) (fun _ => k)) Q := by
  by_cases h : P
  · have hc := hP.mp h
    have hS' := hS h
    have hD' := hD h
    rw [dif_pos h, lift_bind]
    generalize hsrc h = g1
    generalize hdst h = g2
    generalize hsem h = g3
    generalize src h = a at *
    generalize dst h = b at *
    subst hS' hD'
    unfold selfA selfB selfBlk selfChk at *
    rw [if_pos hc] at H
    rw [if_pos hc, if_pos hc]
    iintro ⟨HC, ⟨⟨%fd, Hd⟩, Hs, Ht⟩, HR⟩
    ihave HC' := core_recs (m := m) (K := K) (c := c) (n := n) $$ HC
    icases HC' with ⟨#HRec, HC⟩
    iapply (copy_core (m := m) (K := K) (k := .self) (r := 0) (N := blkN) (fd := fd) (fs := QQ m c) (q := fullShare) (hs h)
      (by show (if 0 = 0 ∧ Self c then {0} else ∅ : Finset (Dev nD)) = {0}; exact if_pos ⟨rfl, hc⟩)
      (show (blkM (pair c)).view.dmaCredit = blkN from rfl) rfl ?_) $$ [Hd Hs Ht]
    · show iprop(_ ∗ _) ⊢ iprop(blkPts c (pair c) (YY m c) ∗ chkPts c (col c) (QQ m c))
      exact sep_mono_left (Entails.of_eq (pointsTo_congr (blk_landed m c c (col c) hc fd)))
    · isplitr; · iexact HRec
      isplitl [Hs]; · iapply (Entails.of_eq (chkPts_eq c (col c) (QQ m c))); iexact Hs
      isplitl [Hd]; · iapply (Entails.of_eq (show blkPts c (pair c) fd = ((blkM (pair c)).view.loc (c : Thread nD τ) ↦[(blkM (pair c)).view.set]{fullShare} fd) from rfl)); iexact Hd
      isplitl [Ht]; · iexact Ht
      iapply (recs_reached m K c .self); iexact HRec
    · iintro Hc
      iapply H
      isplitl [HC]; · iexact HC
      isplitl [Hc]; · iexact Hc
      iexact HR
  · have hc : ¬ Self c := fun x => h (hP.mpr x)
    rw [dif_neg h]
    unfold selfB at H
    rw [if_neg hc] at H
    iintro ⟨HC, HS, HR⟩
    iapply H
    isplitl [HC]; · iexact HC
    isplitl []; · iempintro
    iexact HR

theorem self_wait {Q : α → sProp 𝕄} {R : sProp 𝕄} {P : Prop} [Decidable P] {sem : P → DmaSem sig}
    {src dst : P → Memref sig .tc .vmem S256x256 .i8} {hsrc : ∀ h, (src h).view.WordExact} {hdst : ∀ h, (dst h).view.WordExact}
    (hP : P ↔ Self c) (hN : ∀ h, (dst h).view.dmaCredit = blkN) (hs : ∀ h, SemLoc.dma (sem h) = csem .self)
    (H : iprop(Core m K c 81 ∗ (Done m c .self ∗ selfC m c) ∗ R) ⊢ wpc c k Q) :
    iprop(Core m K c 81 ∗ (atPos ER (cell c .self) 0 ∅ 0 ∗ selfB c) ∗ R)
      ⊢ wpc c (dite P (fun h => Prog.lift (.waitDma2 (sem h) (src h) (dst h) (hsrc h) (hdst h)) >>= fun _ => k) (fun _ => k)) Q := by
  refine wait_dite .self (N := blkN) hs hN rfl
    (fun h => by show (if 0 = 0 ∧ Self c then {0} else ∅ : Finset (Dev nD)) = {0}; exact if_pos ⟨rfl, hP.mp h⟩) (Or.inr rfl) (fun h => ?_) (fun h => ?_) H
  · unfold selfB selfC
    rw [if_pos (hP.mp h), if_pos (hP.mp h)]
    iintro ⟨Ha, Hc⟩
    isplitl [Hc]; · iexact Hc
    isplitl [Ha]; · iexact Ha
    iintro ⟨Ha, Hp⟩
    isplitl [Ha]; · iapply (done_last (k := .self)); iexact Ha
    iapply (Entails.of_eq (show payK m c .self 0 0 = iprop(blkPts c (pair c) (YY m c) ∗ chkPts c (col c) (QQ m c)) from rfl)); iexact Hp
  · have hc : ¬ Self c := fun x => h (hP.mpr x)
    unfold selfB selfC
    rw [if_neg hc, if_neg hc]
    exact sep_mono_left (done_none (by show (if 0 = 0 ∧ Self c then {0} else ∅ : Finset (Dev nD)) = ∅; exact if_neg fun x => hc x.2))

end Cert.QuantProof
-- ==== Proof.Words.lean ====
/-
# The words the kernel computes from a device's number
-/
module

public import proofs.«01_k».proof.Proof.Moves

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- The word the kernel computes for the device's number. -/
def w2 (c : Dev nD) : BitVec 32 :=
  let v0 : BitVec 32 := Dev.word c
  let v1 : BitVec 32 := Scalar.divsi v0 1#32
  Scalar.remsi v1 32#32
/-- The word the kernel computes for the parity of the device's number. -/
def w12 (c : Dev nD) : BitVec 32 :=
  let v3 : BitVec 1 := Scalar.cmpi .eq 2#32 0#32
  let v4 : BitVec 32 := Scalar.select v3 1#32 2#32
  let v5 : BitVec 32 := Scalar.remsi (w2 c) v4
  let v7 : BitVec 1 := Scalar.cmpi .slt v5 0#32
  let v8 : BitVec 1 := Scalar.cmpi .slt v4 0#32
  let v9 : BitVec 1 := Scalar.xori v7 v8
  let v6 : BitVec 1 := Scalar.cmpi .ne v5 0#32
  let v10 : BitVec 1 := Scalar.andi v9 v6
  let v11 : BitVec 32 := Scalar.addi v5 v4
  Scalar.select v10 v11 v5
/-- The word the kernel computes for the partner's number. -/
def w15 (c : Dev nD) : BitVec 32 :=
  let v13 : BitVec 32 := Scalar.muli (w12 c) 2#32
  let v14 : BitVec 32 := Scalar.subi (w2 c) v13
  Scalar.addi v14 1#32
/-- The word the kernel computes for the number of the device's pair. -/
def w33 (c : Dev nD) : BitVec 32 :=
  let v18 : BitVec 1 := Scalar.cmpi .sgt (w2 c) 0#32
  let v19 : BitVec 32 := Scalar.extui v18
  let v20 : BitVec 1 := Scalar.cmpi .slt (w2 c) 0#32
  let v21 : BitVec 32 := Scalar.extui v20
  let v22 : BitVec 32 := Scalar.subi v19 v21
  let v23 : BitVec 1 := Scalar.cmpi .sgt 2#32 0#32
  let v24 : BitVec 32 := Scalar.extui v23
  let v25 : BitVec 1 := Scalar.cmpi .slt 2#32 0#32
  let v26 : BitVec 32 := Scalar.extui v25
  let v27 : BitVec 32 := Scalar.subi v24 v26
  let v28 : BitVec 1 := Scalar.cmpi .ne v22 v27
  let v29 : BitVec 32 := Scalar.remsi (w2 c) 2#32
  let v30 : BitVec 1 := Scalar.cmpi .ne v29 0#32
  let v31 : BitVec 1 := Scalar.andi v28 v30
  let v17 : BitVec 32 := Scalar.divsi (w2 c) 2#32
  let v32 : BitVec 32 := Scalar.subi v17 1#32
  Scalar.select v31 v32 v17
/-- The word the kernel computes for the device's number over sixteen, truncated. -/
def w34 (c : Dev nD) : BitVec 32 :=
  Scalar.divsi (w2 c) 16#32
/-- The word the kernel computes for one where the number is positive. -/
def w36 (c : Dev nD) : BitVec 32 :=
  let v35 : BitVec 1 := Scalar.cmpi .sgt (w2 c) 0#32
  Scalar.extui v35
/-- The word the kernel computes for whether the number is negative. -/
def w37 (c : Dev nD) : BitVec 1 :=
  Scalar.cmpi .slt (w2 c) 0#32
/-- The word the kernel computes for whether the device's rows meet its own columns. -/
def w51 (c : Dev nD) : BitVec 1 :=
  let v38 : BitVec 32 := Scalar.extui (w37 c)
  let v39 : BitVec 32 := Scalar.subi (w36 c) v38
  let v40 : BitVec 1 := Scalar.cmpi .sgt 16#32 0#32
  let v41 : BitVec 32 := Scalar.extui v40
  let v42 : BitVec 1 := Scalar.cmpi .slt 16#32 0#32
  let v43 : BitVec 32 := Scalar.extui v42
  let v44 : BitVec 32 := Scalar.subi v41 v43
  let v45 : BitVec 1 := Scalar.cmpi .ne v39 v44
  let v46 : BitVec 32 := Scalar.remsi (w2 c) 16#32
  let v47 : BitVec 1 := Scalar.cmpi .ne v46 0#32
  let v48 : BitVec 1 := Scalar.andi v45 v47
  let v49 : BitVec 32 := Scalar.subi (w34 c) 1#32
  let v50 : BitVec 32 := Scalar.select v48 v49 (w34 c)
  Scalar.cmpi .eq v50 (w12 c)

end Cert.QuantProof
-- ==== Proof.Groups.lean ====
/-
# Regrouping what is held

What a device holds between the phases, in groups, and how each phase's pieces are made from the last's.
-/
module

public import proofs.«01_k».proof.Proof.Words

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## What a device holds, in groups -/

abbrev abPts (c : Dev nD) (f : Buf (Elt F) (abM.view.loc (c : Thread nD τ))) : sProp 𝕄 := abM.view.loc (c : Thread nD τ) ↦[Finset.univ]{fullShare} f
abbrev xPts (c : Dev nD) (f : Buf (Elt F) (xM.view.loc (c : Thread nD τ))) : sProp 𝕄 := xM.view.loc (c : Thread nD τ) ↦[Finset.univ]{fullShare} f
abbrev xoW (c : Dev nD) (f : Buf (Elt F) (xoM.view.loc (c : Thread nD τ))) : sProp 𝕄 := xoM.view.loc (c : Thread nD τ) ↦[Finset.univ]{fullShare} f
abbrev maW (c : Dev nD) (f : Buf (Elt F) (maM.view.loc (c : Thread nD τ))) : sProp 𝕄 := maM.view.loc (c : Thread nD τ) ↦[Finset.univ]{fullShare} f
abbrev yqW (c : Dev nD) (f : Buf (Elt F) (yqM.view.loc (c : Thread nD τ))) : sProp 𝕄 := yqM.view.loc (c : Thread nD τ) ↦[Finset.univ]{fullShare} f
abbrev ybW (c : Dev nD) (f : Buf (Elt F) (ybM.view.loc (c : Thread nD τ))) : sProp 𝕄 := ybM.view.loc (c : Thread nD τ) ↦[Finset.univ]{fullShare} f
abbrev oW (c : Dev nD) (f : Buf (Elt F) (oM.view.loc (c : Thread nD τ))) : sProp 𝕄 := oM.view.loc (c : Thread nD τ) ↦[Finset.univ]{fullShare} f

/-- What the signals of the barrier are made from. -/
def SigT (c : Dev nD) : sProp 𝕄 :=
  iprop((∃ f, ybW c f) ∗ (∃ f, xrPts c f) ∗ bigSep Finset.univ fun p : Fin 32 => if p = c then iprop(emp) else dutyTok ER (cell p .bar) 0 c)
/-- The ticket for the barrier. -/
def BarT (c : Dev nD) : sProp 𝕄 := iprop(cred (tallyAt (cell c .bar) () 31) ∗ atPos ER (cell c .bar) 0 ∅ 0)
/-- The tickets of the copy to the partner. -/
def XsT (c : Dev nD) : sProp 𝕄 := iprop(dutyTok ER (cell c .xs) 0 0 ∗ dutyTok ER (cell (partner c) .xr) 0 0)
/-- The rows of the other devices' tables of maxima that are this device's to fill. -/
def Rows (c : Dev nD) : sProp 𝕄 := bigSep Finset.univ fun p : Fin 32 => if p = c then iprop(emp) else iprop(∃ f, rowPts p c f)
/-- The blocks of the other devices' results that are this device's to fill. -/
def Blks (c : Dev nD) : sProp 𝕄 := bigSep Finset.univ fun j : Fin 16 => if dest c j = c then iprop(emp) else iprop(∃ f, blkPts (dest c j) (pair c) f)
def AsT (c : Dev nD) : sProp 𝕄 := bigSep Finset.univ fun p : Fin 32 =>
  if p = c then iprop(emp) else iprop(dutyTok ER (cell c (.as p)) 0 0 ∗ dutyTok ER (cell p (.ar c)) 0 0)
def CsT (c : Dev nD) : sProp 𝕄 := bigSep Finset.univ fun j : Fin 16 =>
  if dest c j = c then iprop(emp) else iprop(dutyTok ER (cell c (.cs j)) 0 0 ∗ dutyTok ER (cell (dest c j) (.cr (pair c))) 0 0)
/-- The tickets for the maxima of the other devices. -/
def ArT (c : Dev nD) : sProp 𝕄 := bigSep Finset.univ fun p : Fin 32 =>
  iprop(atPos ER (cell c (.ar p)) 0 ∅ 0 ∗ (if p = c then iprop(emp) else cred (tallyAt (cell c (.ar p)) () rowN)))
def DAr (m : (ℓ : Loc nD τ sig) → Buf (Elt F) ℓ) (c : Dev nD) : sProp 𝕄 := bigSep Finset.univ fun p : Fin 32 => Done m c (.ar p)
def DCr (m : (ℓ : Loc nD τ sig) → Buf (Elt F) ℓ) (c : Dev nD) : sProp 𝕄 := bigSep Finset.univ fun s : Fin 16 => Done m c (.cr s)
def CwC (c : Dev nD) : sProp 𝕄 := bigSep Finset.univ fun j : Fin 16 => if dest c j = c then iprop(emp) else cred (tallyAt (cell c (.cs j)) () blkN)
def AsP (c : Dev nD) : sProp 𝕄 := bigSep Finset.univ fun p : Fin 32 => atPos ER (cell c (.as p)) 0 ∅ 0
def CsP (c : Dev nD) : sProp 𝕄 := bigSep Finset.univ fun j : Fin 16 => atPos ER (cell c (.cs j)) 0 ∅ 0
/-- The state of the products, less the debts. -/
def CX (m : (ℓ : Loc nD τ sig) → Buf (Elt F) ℓ) (c : Dev nD) (kw : ℕ) (s0 s1 : sProp 𝕄) (kb : ℕ) (X6 : sProp 𝕄) (f7 f8 : Vec F S128x4096 .f32) : sProp 𝕄 :=
  iprop(Ph (wA m c) wB kw ∗ s0 ∗ s1 ∗ Wb m c kb ∗ xoPts c fullShare.left (xb m c) ∗ X6 ∗ yoPts c f7 ∗ yrPts c f8)
/-- The state after the products, less the sums. -/
def CZ (m : (ℓ : Loc nD τ sig) → Buf (Elt F) ℓ) (c : Dev nD) : sProp 𝕄 :=
  iprop(Ph (wA m c) wB 16 ∗ SlotFull m c 0 8 14 ∗ SlotFull m c 1 8 15 ∗ Wb m c 16 ∗ xoPts c fullShare.left (xb m c) ∗ xrPts c (xb m (partner c)))

theorem cs_open {kw kb : ℕ} {S0 S1 X6 : sProp 𝕄} {f7 f8 : Vec F S128x4096 .f32} :
    CS m c K n kw S0 S1 kb X6 f7 f8 ⊢ iprop(Core m K c n ∗ CX m c kw S0 S1 kb X6 f7 f8) := Entails.refl
theorem cs_close {kw kb : ℕ} {S0 S1 X6 : sProp 𝕄} {f7 f8 : Vec F S128x4096 .f32} :
    iprop(Core m K c n ∗ CX m c kw S0 S1 kb X6 f7 f8) ⊢ CS m c K n kw S0 S1 kb X6 f7 f8 := Entails.refl
theorem cx_end {f7 f8 : Vec F S128x4096 .f32} :
    CX m c 16 (SlotFull m c 0 8 14) (SlotFull m c 1 8 15) 16 (xrPts c (xb m (partner c))) f7 f8 ⊢ iprop(yoPts c f7 ∗ yrPts c f8 ∗ CZ m c) := by
  unfold CX CZ
  iintro ⟨H1, H2, H3, H4, H5, H6, H7, H8⟩
  isplitl [H7]; · iexact H7
  isplitl [H8]; · iexact H8
  isplitl [H1]; · iexact H1
  isplitl [H2]; · iexact H2
  isplitl [H3]; · iexact H3
  isplitl [H4]; · iexact H4
  isplitl [H5]; · iexact H5
  iexact H6

abbrev yoW (c : Dev nD) (f : Vec F S128x4096 .f32) : sProp 𝕄 := yoM.view.loc (c : Thread nD τ) ↦[Finset.univ]{fullShare} f
abbrev yrW (c : Dev nD) (f : Vec F S128x4096 .f32) : sProp 𝕄 := yrM.view.loc (c : Thread nD τ) ↦[Finset.univ]{fullShare} f
theorem yo_raw {f : Vec F S128x4096 .f32} : yoPts c f ⊢ yoW c f := Entails.refl
theorem yr_raw {f : Vec F S128x4096 .f32} : yrPts c f ⊢ yrW c f := Entails.refl

theorem cs_make {kw kb : ℕ} {S0 S1 X6 : sProp 𝕄} {f7 f8 : Vec F S128x4096 .f32} :
    iprop(xoPts c fullShare.left (xb m c) ∗ Core m K c n ∗ Ph (wA m c) wB kw ∗ S0 ∗ S1 ∗ Wb m c kb ∗ X6 ∗ yoPts c f7 ∗ yrPts c f8)
      ⊢ CS m c K n kw S0 S1 kb X6 f7 f8 := by
  unfold CS
  iintro ⟨H5, H1, H2, H3, H4, HW, H6, H7, H8⟩
  isplitl [H1]; · iexact H1
  isplitl [H2]; · iexact H2
  isplitl [H3]; · iexact H3
  isplitl [H4]; · iexact H4
  isplitl [HW]; · iexact HW
  isplitl [H5]; · iexact H5
  isplitl [H6]; · iexact H6
  isplitl [H7]; · iexact H7
  iexact H8
theorem xs_take : iprop(xoPts c fullShare.right (xb m c) ∗ (∃ f, xrPts (partner c) f) ∗ dutyTok ER (cell c .xs) 0 0 ∗ dutyTok ER (cell (partner c) .xr) 0 0)
    ⊢ XsTake m c := Entails.refl
theorem self_make : iprop(selfBlk c ∗ selfChk m c ∗ dutyTok ER (cell c .self) 0 0) ⊢ selfA m c := Entails.refl
theorem xo_split {f : Buf (Elt F) (xoM.view.loc (c : Thread nD τ))} : xoW c f ⊢ iprop(xoPts c fullShare.left f ∗ xoPts c fullShare.right f) := by
  unfold xoPts
  rw [show xoM.view.set = Finset.univ from View.set_whole _]
  exact (pointsTo_share (PosShare.mem_left_op_right fullShare)).1
theorem xo_join {f : Buf (Elt F) (xoM.view.loc (c : Thread nD τ))} : iprop(xoPts c fullShare.left f ∗ xoPts c fullShare.right f) ⊢ xoW c f := by
  unfold xoPts
  rw [show xoM.view.set = Finset.univ from View.set_whole _]
  exact (pointsTo_share (PosShare.mem_left_op_right fullShare)).2

/-- A load of a buffer held in the second place. -/
theorem ld_eq_snd {Q : α → sProp 𝕄} {R X : sProp 𝕄} {cs : CoreSpace} {s : Shape} {e : EltTy} {M : Memref sig .tc cs s e} {r : LoadRect s} {hl : M.view.LoadsAt r}
    {kk : (r.shape.Idx → Elt F e) → Prog (TpuEff nD τ sig (Elt F) Λ₀ .tc) α} {q : PosShare TreeShare} {f : Buf (Elt F) (M.view.loc (c : Thread nD τ))}
    (v : r.shape.Idx → Elt F e) (hv : M.view.readAt (Elt F) r f = v)
    (H : iprop(X ∗ (M.view.loc (c : Thread nD τ) ↦[Finset.univ]{q} f) ∗ R) ⊢ wpc c (kk v) Q) :
    iprop(X ∗ (M.view.loc (c : Thread nD τ) ↦[Finset.univ]{q} f) ∗ R) ⊢ wpc c (Prog.lift (.load M r hl) >>= kk) Q := by
  refine ent_trans ?_ (ld_eq (R := iprop(X ∗ R)) (q := q) (f := f) v hv (ent_trans ?_ H))
  · iintro ⟨HX, HM, HR⟩
    isplitl [HM]; · iexact HM
    isplitl [HX]; · iexact HX
    iexact HR
  · iintro ⟨HM, HX, HR⟩
    isplitl [HX]; · iexact HX
    isplitl [HM]; · iexact HM
    iexact HR

end Cert.QuantProof
-- ==== Proof.Regroup.lean ====
/-
# From group to group

What one phase leaves, as what the next begins with.
-/
module

public import proofs.«01_k».proof.Proof.Groups
public import Idealize.ShloMosaic.Lib.Ring

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## Big conjunctions -/

omit [FloatOps F] in
theorem eq_of {P Q : sProp 𝕄} (h : P ⊢ Q) (h' : Q ⊢ P) : P = Q := BI.Entails.antisymm h h'
omit [FloatOps F] in
theorem bigSep_each {ι : Type} {S : Finset ι} {A B : ι → sProp 𝕄} (h : ∀ i ∈ S, A i ⊢ B i) : bigSep S A ⊢ bigSep S B := bigSep_mono h
omit [FloatOps F] in
theorem bigSep_emps {ι : Type} (S : Finset ι) : (bigSep S fun _ => (iprop(emp) : sProp 𝕄)) = iprop(emp) := BI.bigSep_emp_const S
omit [FloatOps F] in
theorem sep_emp_eq (X : sProp 𝕄) : iprop(X ∗ emp) = X := by
  refine eq_of ?_ ?_
  · iintro ⟨H, -⟩; iexact H
  · iintro H
    isplitl [H]; · iexact H
    iempintro
omit [FloatOps F] in
theorem emp_sep (X : sProp 𝕄) : iprop(emp ∗ X) = X := by
  refine eq_of ?_ ?_
  · iintro ⟨-, H⟩; iexact H
  · iintro H
    isplitr; · iempintro
    iexact H

omit [FloatOps F] in
/-- A conjunction with one conjunct that says anything. -/
theorem bigSep_one {ι : Type} [DecidableEq ι] (S : Finset ι) (a : ι) (ha : a ∈ S) (X : sProp 𝕄) :
    (bigSep S fun p => if p = a then X else iprop(emp)) = X := by
  rw [BI.bigSep_erase ha, bigSep_congr (s := S.erase a) (Ψ := fun _ => (iprop(emp) : sProp 𝕄))
    (fun p hp => if_neg (Finset.ne_of_mem_erase hp)), bigSep_emps]
  show iprop((if a = a then X else iprop(emp)) ∗ iprop(emp)) = X
  rw [if_pos rfl]
  exact sep_emp_eq X

omit [FloatOps F] in
/-- A conjunction over one set counted along an injection into another. -/
theorem bigSep_image {ι κ : Type} [Fintype ι] [Fintype κ] [DecidableEq ι] [DecidableEq κ] (g : ι → κ) (h : κ → ι) (P : κ → Prop) [DecidablePred P]
    (hgh : ∀ i, h (g i) = i) (hP : ∀ i, P (g i)) (hg : ∀ p, P p → g (h p) = p) (Φ : ι → sProp 𝕄) :
    bigSep Finset.univ Φ = bigSep Finset.univ fun p : κ => if P p then Φ (h p) else iprop(emp) := by
  have hinj : Function.Injective g := fun i j e => by rw [← hgh i, ← hgh j, e]
  have e : (Finset.univ.filter P) = Finset.univ.map ⟨g, hinj⟩ := by
    ext p
    simp only [Finset.mem_filter, Finset.mem_univ, true_and, Finset.mem_map, Function.Embedding.coeFn_mk]
    exact ⟨fun hp => ⟨h p, hg p hp⟩, fun ⟨i, hi⟩ => hi ▸ hP i⟩
  rw [BI.bigSep_filter_split Finset.univ P (Φ := fun p : κ => if P p then Φ (h p) else iprop(emp)),
    bigSep_congr (s := Finset.univ.filter fun p => ¬P p) (Ψ := fun _ => (iprop(emp) : sProp 𝕄)) (fun p hp => if_neg (Finset.mem_filter.mp hp).2),
    bigSep_emps, bigSep_congr (s := Finset.univ.filter P) (Ψ := fun p => Φ (h p)) (fun p hp => if_pos (Finset.mem_filter.mp hp).2), e, bigSep_map]
  have e2 : (fun i => Φ (h ((⟨g, hinj⟩ : ι ↪ κ) i))) = Φ := funext fun i => congrArg Φ (hgh i)
  rw [e2]
  exact (sep_emp_eq _).symm

omit [FloatOps F] in
/-- Two conjunctions conjunct by conjunct. -/
theorem bigSep_two {ι : Type} {S : Finset ι} {A B D : ι → sProp 𝕄} (h : ∀ i ∈ S, iprop(A i ∗ B i) ⊢ D i) : iprop(bigSep S A ∗ bigSep S B) ⊢ bigSep S D := by
  rw [← bigSep_sep']; exact bigSep_each h
omit [FloatOps F] in
theorem bigSep_three {ι : Type} {S : Finset ι} {A B C D : ι → sProp 𝕄} (h : ∀ i ∈ S, iprop(A i ∗ B i ∗ C i) ⊢ D i) :
    iprop(bigSep S A ∗ bigSep S B ∗ bigSep S C) ⊢ bigSep S D := by
  rw [← bigSep_sep', ← bigSep_sep']; exact bigSep_each h
omit [FloatOps F] in
theorem bigSep_into {ι : Type} {S : Finset ι} {A B D : ι → sProp 𝕄} (h : ∀ i ∈ S, D i ⊢ iprop(A i ∗ B i)) : bigSep S D ⊢ iprop(bigSep S A ∗ bigSep S B) := by
  rw [← bigSep_sep']; exact bigSep_each h

/-! ## Buffers by rows and blocks -/

abbrev rowSet (p : Fin 32) : Finset S32x128.Idx := (rowM p).view.set
omit [FloatOps F] in
theorem rows_disj : ∀ p q : Fin 32, p ≠ q → Disjoint (rowSet p) (rowSet q) := fun p q h => by
  rw [Finset.disjoint_left]
  intro i hp hq
  simp only [rowSet, rowM, View.set_slice_whole, Rect.mem_set_unit] at hp hq
  have h1 := hp 0
  have h2 := hq 0
  exact h (Fin.ext (by simp at h1 h2; omega))
omit [FloatOps F] in
theorem rows_cover (c : Dev nD) : Finset.univ.biUnion (fun p : Fin 32 => (rowSet p : Finset (Idx (abM.view.loc (c : Thread nD τ))))) = Finset.univ := by
  ext i
  simp only [Finset.mem_biUnion, Finset.mem_univ, true_and, iff_true]
  refine ⟨⟨(i 0).val, (i 0).isLt⟩, ?_⟩
  simp only [rowSet, rowM, View.set_slice_whole, Rect.mem_set_unit]
  intro a
  have hi : (i 1).val < 128 := (i 1).isLt
  fin_cases a <;> simp <;> omega
abbrev chkSet (p : Fin 16) : Finset S256x4096.Idx := (chkM p).view.set
omit [FloatOps F] in
theorem chks_disj : ∀ p q : Fin 16, p ≠ q → Disjoint (chkSet p) (chkSet q) := fun p q h => by
  rw [Finset.disjoint_left]
  intro i hp hq
  simp only [chkSet, chkM, View.set_slice_whole, Rect.mem_set_unit] at hp hq
  have h1 := hp 1
  have h2 := hq 1
  exact h (Fin.ext (by simp at h1 h2; omega))
omit [FloatOps F] in
theorem chks_cover (c : Dev nD) : Finset.univ.biUnion (fun p : Fin 16 => (chkSet p : Finset (Idx (yqM.view.loc (c : Thread nD τ))))) = Finset.univ := by
  ext i
  simp only [Finset.mem_biUnion, Finset.mem_univ, true_and, iff_true]
  have h0 : (i 0).val < 256 := (i 0).isLt
  have h1 : (i 1).val < 4096 := (i 1).isLt
  refine ⟨⟨(i 1).val / 256, by omega⟩, ?_⟩
  simp only [chkSet, chkM, View.set_slice_whole, Rect.mem_set_unit]
  intro a
  fin_cases a <;> simp <;> omega
abbrev blkSet (p : Fin 16) : Finset S4096x256.Idx := (blkM p).view.set
omit [FloatOps F] in
theorem blks_disj : ∀ p q : Fin 16, p ≠ q → Disjoint (blkSet p) (blkSet q) := fun p q h => by
  rw [Finset.disjoint_left]
  intro i hp hq
  simp only [blkSet, blkM, View.set_slice_whole, Rect.mem_set_unit] at hp hq
  have h1 := hp 0
  have h2 := hq 0
  exact h (Fin.ext (by simp at h1 h2; omega))
omit [FloatOps F] in
theorem blks_cover (c : Dev nD) : Finset.univ.biUnion (fun p : Fin 16 => (blkSet p : Finset (Idx (ybM.view.loc (c : Thread nD τ))))) = Finset.univ := by
  ext i
  simp only [Finset.mem_biUnion, Finset.mem_univ, true_and, iff_true]
  have h0 : (i 1).val < 256 := (i 1).isLt
  have h1 : (i 0).val < 4096 := (i 0).isLt
  refine ⟨⟨(i 0).val / 256, by omega⟩, ?_⟩
  simp only [blkSet, blkM, View.set_slice_whole, Rect.mem_set_unit]
  intro a
  fin_cases a <;> simp <;> omega

/-- The table of maxima, row by row. -/
theorem ab_rows (c : Dev nD) (f : Buf (Elt F) (abM.view.loc (c : Thread nD τ))) : abPts c f = bigSep Finset.univ fun p : Fin 32 => rowPts c p f := by
  exact Ring.pointsTo_blocks (ℓ := abM.view.loc (c : Thread nD τ)) (fun p : Fin 32 => rowSet p) rows_disj (rows_cover c) f
/-- The quotients, column block by column block. -/
theorem yq_chks (c : Dev nD) (f : Buf (Elt F) (yqM.view.loc (c : Thread nD τ))) : yqW c f = bigSep Finset.univ fun p : Fin 16 => chkPts c p f := by
  exact Ring.pointsTo_blocks (ℓ := yqM.view.loc (c : Thread nD τ)) (fun p : Fin 16 => chkSet p) chks_disj (chks_cover c) f
/-- The gathered quotients, row block by row block. -/
theorem yb_blks (c : Dev nD) (f : Buf (Elt F) (ybM.view.loc (c : Thread nD τ))) : ybW c f = bigSep Finset.univ fun p : Fin 16 => blkPts c p f := by
  exact Ring.pointsTo_blocks (ℓ := ybM.view.loc (c : Thread nD τ)) (fun p : Fin 16 => blkSet p) blks_disj (blks_cover c) f
/-- The device's own row of the table holds zeros, whatever the others. -/
theorem own_row (c : Dev nD) : rowPts c c (k0_pay2 (F := F)) = rowPts c c (GG m c) := by
  unfold rowPts
  refine pointsTo_congr fun i hi => ?_
  simp only [rowSet, rowM, View.set_slice_whole, Rect.mem_set_unit] at hi
  have h0 := hi 0
  show k0_pay2 i = GG m c i
  unfold GG
  exact (if_pos (by simp at h0; omega)).symm
/-- The device's maximum, as one share per device. -/
theorem ma_leaves (c : Dev nD) : maW c (amaxRow m c) = bigSep Finset.univ fun p : Fin 32 => leafPts m c p := by
  unfold leafPts maPts
  rw [show maM.view.set = Finset.univ from View.set_whole _]
  exact ShareLeaves.pointsTo_leaves Finset.univ _ 5 fullShare

/-! ## From group to group -/

theorem sig_intro : iprop(abPts c (k0_pay2 (F := F)) ∗ SigT c) ⊢ iprop(rowPts c c (GG m c) ∗ selfBlk c ∗ Ph (sigA c) sigB 0) := by
  unfold SigT
  rw [ph_zero, ab_rows, bigSep_univ_at _ c, bigSep_univ_at (fun p : Fin 32 => if p = c then iprop(emp) else dutyTok ER (cell p .bar) 0 c) c,
    bigSep_univ_at (sigA c) c, own_row (m := m)]
  have hb : iprop(∃ f, ybW (F := F) c f) ⊢ bigSep Finset.univ fun p : Fin 32 => if dest p (col c) = c then iprop(∃ f, blkPts c (pair p) f) else iprop(emp) := by
    refine ent_trans ?_ (Entails.of_eq (bigSep_image (sender c) pair (fun p : Fin 32 => dest p (col c) = c) (pair_sender c) (dest_sender c)
      (fun p h => by have := sender_dest p (col c); rw [h] at this; exact this) (fun s => iprop(∃ f, blkPts c s f))))
    iintro ⟨%f, H⟩
    ihave H := (Entails.of_eq (yb_blks c f)) $$ H
    have hm : (bigSep Finset.univ fun s : Fin 16 => blkPts c s f) ⊢ bigSep Finset.univ fun s : Fin 16 => (iprop(∃ f, blkPts (F := F) c s f) : sProp 𝕄) :=
      bigSep_each fun s _ => by iintro H; iexists f; iexact H
    iapply hm; iexact H
  have hx : iprop(∃ f, xrPts (F := F) c f) ⊢ bigSep (Finset.univ.erase c) fun p : Fin 32 => if c = partner p then iprop(∃ f, xrPts c f) else iprop(emp) := by
    rw [bigSep_congr (Ψ := fun p : Fin 32 => if p = partner c then iprop(∃ f, xrPts (F := F) c f) else iprop(emp)) (fun p _ => by
      by_cases h : p = partner c
      · rw [if_pos h, if_pos (by rw [h, partner_partner])]
      · rw [if_neg h, if_neg (fun e => h (by rw [e, partner_partner]))])]
    exact Entails.of_eq (bigSep_one _ (partner c) (Finset.mem_erase.mpr ⟨partner_ne c, Finset.mem_univ _⟩) _).symm
  iintro ⟨⟨Hr, Hrs⟩, Hy, Hx, -, Ht⟩
  ihave Hy := hb $$ Hy
  ihave Hx := hx $$ Hx
  ihave Hy := (Entails.of_eq (bigSep_univ_at _ (c : Fin 32))) $$ Hy
  icases Hy with ⟨Hs, Hy⟩
  isplitl [Hr]; · iexact Hr
  isplitl [Hs]; · iapply (Entails.of_eq (show (if dest c (col c) = c then iprop(∃ f, blkPts (F := F) c (pair c) f) else iprop(emp)) = selfBlk c from rfl)); iexact Hs
  isplitr
  · iapply (Entails.of_eq (show (iprop(emp) : sProp 𝕄) = sigA c c from (if_pos rfl).symm)); iempintro
  have hm : iprop((bigSep (Finset.univ.erase c) fun p : Fin 32 => rowPts c p (k0_pay2 (F := F)))
      ∗ (bigSep (Finset.univ.erase c) fun p : Fin 32 => if dest p (col c) = c then iprop(∃ f, blkPts c (pair p) f) else iprop(emp))
      ∗ (bigSep (Finset.univ.erase c) fun p : Fin 32 => if c = partner p then iprop(∃ f, xrPts c f) else iprop(emp))
      ∗ (bigSep (Finset.univ.erase c) fun p : Fin 32 => if p = c then iprop(emp) else dutyTok ER (cell p .bar) 0 c))
      ⊢ bigSep (Finset.univ.erase c) (sigA (F := F) c) := by
    rw [← bigSep_sep', ← bigSep_sep', ← bigSep_sep']
    refine bigSep_each fun p hp => ?_
    have hne := Finset.ne_of_mem_erase hp
    rw [sigA_ne hne]
    unfold barPay
    dsimp only
    rw [if_neg hne]
    iintro ⟨H1, H2, H3, H4⟩
    isplitl [H4]; · iexact H4
    isplitl [H1]; · iexists _; iexact H1
    isplitl [H2]; · iexact H2
    iexact H3
  iapply hm
  isplitl [Hrs]; · iexact Hrs
  isplitl [Hy]; · iexact Hy
  isplitl [Hx]; · iexact Hx
  iexact Ht

theorem bar_split : (bigSep (Finset.univ.erase c) fun p => barPay (F := F) c p) ⊢ iprop(Rows c ∗ Blks c ∗ ∃ f, xrPts (partner c) f) := by
  unfold barPay
  rw [bigSep_sep', bigSep_sep']
  iintro ⟨H1, H2, H3⟩
  isplitl [H1]
  · unfold Rows
    rw [bigSep_univ_at _ (c : Fin 32), if_pos rfl]
    isplitr; · iempintro
    iapply (bigSep_each (A := fun p : Fin 32 => iprop(∃ f, rowPts (F := F) p c f)) (fun p hp => by rw [if_neg (Finset.ne_of_mem_erase hp)])); iexact H1
  isplitl [H2]
  · unfold Blks
    rw [bigSep_image (dest c) col (fun p : Fin 32 => dest c (col p) = p) (col_dest c) (fun j => by rw [col_dest]) (fun p h => h)
      (fun j => if dest c j = c then iprop(emp) else iprop(∃ f, blkPts (F := F) (dest c j) (pair c) f)), bigSep_univ_at _ (c : Fin 32)]
    isplitr
    · by_cases h : dest c (col c) = c
      · rw [if_pos h, if_pos h]; iempintro
      · rw [if_neg h]; iempintro
    iapply (bigSep_each (A := fun p : Fin 32 => if dest c (col p) = p then iprop(∃ f, blkPts (F := F) p (pair c) f) else iprop(emp)) (fun p hp => by
      by_cases h : dest c (col p) = p
      · rw [if_pos h, if_pos h, h, if_neg (Finset.ne_of_mem_erase hp)]
      · rw [if_neg h, if_neg h])); iexact H2
  ihave H3 := (Entails.of_eq (bigSep_congr (Ψ := fun p : Fin 32 => if p = partner c then iprop(∃ f, xrPts (F := F) (partner c) f) else iprop(emp)) (fun p _ => by
    by_cases h : p = partner c
    · rw [if_pos h, if_pos h, h]
    · rw [if_neg h, if_neg h]))) $$ H3
  ihave H3 := (Entails.of_eq (bigSep_one (F := F) _ (partner c) (Finset.mem_erase.mpr ⟨partner_ne c, Finset.mem_univ _⟩) _)) $$ H3
  iexact H3

theorem as_intro : iprop(maW c (amaxRow m c) ∗ Rows c ∗ AsT c) ⊢ Ph (asA m c) (asB m c) 0 := by
  unfold Rows AsT
  rw [ma_leaves, ph_zero]
  refine bigSep_three fun p _ => ?_
  unfold asA
  dsimp only
  by_cases h : p = c
  · rw [if_pos h, if_pos h, if_pos h]
    iintro ⟨H1, -, -⟩
    isplitl [H1]; · iexact H1
    iempintro
  · rw [if_neg h, if_neg h, if_neg h]

theorem ar_intro : iprop(ArT c ∗ rowPts c c (GG m c)) ⊢ Ph (arA m c) (arB m c) 0 := by
  unfold ArT
  rw [ph_zero, bigSep_univ_at (arA m c) c, bigSep_univ_at _ (c : Fin 32)]
  iintro ⟨⟨⟨H1, -⟩, H2⟩, H3⟩
  isplitl [H1 H3]
  · unfold arA
    isplitl [H1]; · iexact H1
    rw [if_pos rfl]; iexact H3
  have hm : (bigSep (Finset.univ.erase (c : Fin 32)) fun p : Fin 32 => (iprop(atPos ER (cell c (.ar p)) 0 ∅ 0 ∗ (if p = c then iprop(emp) else cred (tallyAt (cell c (.ar p)) () rowN))) : sProp 𝕄))
      ⊢ bigSep (Finset.univ.erase (c : Fin 32)) (arA m c) := bigSep_each fun p hp => by
    unfold arA; rw [if_neg (Finset.ne_of_mem_erase hp), if_neg (Finset.ne_of_mem_erase hp)]
  iapply hm; iexact H2

theorem ar_join : Ph (arA m c) (arB m c) 32 ⊢ iprop(DAr m c ∗ abPts c (GG m c)) := by
  rw [ph_end, ab_rows]
  unfold arB DAr
  exact bigSep_into fun p _ => Entails.refl

theorem cs_intro : iprop(yqW c (QQ m c) ∗ Blks c ∗ CsT c) ⊢ Ph (csA m c) (csB m c) 0 := by
  unfold Blks CsT
  rw [yq_chks, ph_zero]
  refine bigSep_three fun p _ => ?_
  unfold csA
  dsimp only
  by_cases h : dest c p = c
  · rw [if_pos h, if_pos h, if_pos h]
    iintro ⟨H1, -, -⟩
    isplitl [H1]; · iexact H1
    iempintro
  · rw [if_neg h, if_neg h, if_neg h]

/-- What is held of the one block of a device's own, as one conjunct of sixteen. -/
theorem self_chk : selfChk m c = bigSep Finset.univ fun j : Fin 16 => if dest c j = c then chkPts c j (QQ m c) else iprop(emp) := by
  unfold selfChk
  have e : (fun j : Fin 16 => if dest c j = c then chkPts c j (QQ m c) else iprop(emp))
      = fun j : Fin 16 => if j = col c then (if Self c then chkPts c (col c) (QQ m c) else iprop(emp)) else iprop(emp) := by
    funext j
    by_cases hj : j = col c
    · rw [if_pos hj, hj]
    · rw [if_neg hj, if_neg fun e => hj (dest_eq_self e)]
  rw [e]
  exact (bigSep_one Finset.univ (col c) (Finset.mem_univ _) _).symm

theorem csb_split : Ph (csA m c) (csB m c) 16 ⊢ iprop(CwC c ∗ selfChk m c) := by
  rw [ph_end, self_chk]
  unfold CwC
  refine bigSep_into fun j _ => ?_
  unfold csB
  by_cases h : dest c j = c
  · rw [if_pos h, if_pos h, if_pos h, emp_sep]
  · rw [if_neg h, if_neg h, if_neg h]
    iintro H
    isplitl [H]; · iexact H
    iempintro

theorem aw_intro : iprop(AsP c ∗ Ph (asA m c) (asB m c) 32) ⊢ Ph (awA m c) (awB m c) 0 := by
  rw [ph_end, ph_zero]
  unfold AsP
  exact bigSep_two fun p _ => Entails.refl

theorem cw_intro : iprop(CsP c ∗ CwC c) ⊢ Ph (cwA c) (cwB m c) 0 := by
  rw [ph_zero]
  unfold CsP CwC
  exact bigSep_two fun p _ => Entails.refl

theorem cr_join : iprop(Ph (crA c) (crB m c) 16 ∗ selfC m c) ⊢ iprop(DCr m c ∗ ybW c (YY m c) ∗ selfChk m c) := by
  rw [ph_end, yb_blks]
  unfold crB DCr selfC selfChk
  refine ent_trans (sep_mono_left (bigSep_into (A := fun s : Fin 16 => Done m c (.cr s)) (B := fun s : Fin 16 => if sender c s = c then iprop(emp) else blkPts c s (YY m c)) fun p _ => Entails.refl)) ?_
  rw [bigSep_univ_at (fun s : Fin 16 => if sender c s = c then iprop(emp) else blkPts c s (YY m c)) (pair c),
    bigSep_univ_at (fun s : Fin 16 => blkPts c s (YY m c)) (pair c)]
  have hr : (bigSep (Finset.univ.erase (pair c)) fun s : Fin 16 => if sender c s = c then iprop(emp) else blkPts c s (YY m c))
      = bigSep (Finset.univ.erase (pair c)) fun s : Fin 16 => blkPts c s (YY m c) :=
    bigSep_congr fun s hs => if_neg fun e => Finset.ne_of_mem_erase hs (sender_eq_self e)
  rw [hr]
  by_cases h : Self c
  · rw [if_pos h, if_pos h, if_pos ((self_iff_sender c).mp h)]
    iintro ⟨⟨H1, -, H2⟩, H3, H4⟩
    isplitl [H1]; · iexact H1
    isplitl [H2 H3]
    · isplitl [H3]; · iexact H3
      iexact H2
    iexact H4
  · rw [if_neg h, if_neg h, if_neg (fun e => h ((self_iff_sender c).mpr e))]
    iintro ⟨⟨H1, H2, H3⟩, -⟩
    isplitl [H1]; · iexact H1
    isplitl [H2 H3]
    · isplitl [H2]; · iexact H2
      iexact H3
    iempintro

end Cert.QuantProof
-- ==== Proof.Start.lean ====
/-
# The start

The cells, their tickets and the launch's credits: what every device is dealt before its kernel begins.
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## The cells and the tickets -/

/-- The names of the cells, in families. -/
abbrev CKS := Fin 4 ⊕ (Fin 2 ⊕ (Fin 32 ⊕ (Fin 32 ⊕ (Fin 16 ⊕ Fin 16))))

def ckOf : CKS → CK
  | .inl 0 => .bar | .inl 1 => .xs | .inl 2 => .xr | .inl 3 => .self
  | .inr (.inl s) => .ws s
  | .inr (.inr (.inl p)) => .as p
  | .inr (.inr (.inr (.inl p))) => .ar p
  | .inr (.inr (.inr (.inr (.inl j)))) => .cs j
  | .inr (.inr (.inr (.inr (.inr s)))) => .cr s

def ckTo : CK → CKS
  | .bar => .inl 0 | .xs => .inl 1 | .xr => .inl 2 | .self => .inl 3
  | .ws s => .inr (.inl s)
  | .as p => .inr (.inr (.inl p))
  | .ar p => .inr (.inr (.inr (.inl p)))
  | .cs j => .inr (.inr (.inr (.inr (.inl j))))
  | .cr s => .inr (.inr (.inr (.inr (.inr s))))

def ckE : CKS ≃ CK where
  toFun := ckOf
  invFun := ckTo
  left_inv x := by
    rcases x with x | x | x | x | x | x
    · fin_cases x <;> rfl
    all_goals rfl
  right_inv x := by cases x <;> rfl

omit [FloatOps F] in
theorem fin4_split (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- What is held of every name, family by family. -/
theorem ck_split (Φ : CK → sProp 𝕄) : bigSep Finset.univ Φ = iprop((Φ .bar ∗ Φ .xs ∗ Φ .xr ∗ Φ .self)
    ∗ (bigSep Finset.univ fun s => Φ (.ws s)) ∗ (bigSep Finset.univ fun p => Φ (.as p)) ∗ (bigSep Finset.univ fun p => Φ (.ar p))
    ∗ (bigSep Finset.univ fun j => Φ (.cs j)) ∗ (bigSep Finset.univ fun s => Φ (.cr s))) := by
  rw [bigSep_univ_equiv ckE Φ, bigSep_univ_sum, bigSep_univ_sum, bigSep_univ_sum, bigSep_univ_sum, bigSep_univ_sum, fin4_split]
  rfl

abbrev kcell (ck : Dev nD × CK) : GSem nD τ sig := cell ck.1 ck.2
theorem kcell_inj : Function.Injective kcell := fun a b h => by
  obtain ⟨h1, h2⟩ := cell_inj h
  exact Prod.ext h1 h2

/-- The names of the tickets a device pays with. -/
abbrev TK := Fin 3 ⊕ (Fin 32 ⊕ (Fin 16 ⊕ (Fin 32 ⊕ (Fin 32 ⊕ (Fin 16 ⊕ Fin 16)))))

def tokAt (c : Dev nD) : TK → (Dev nD × CK) × ℕ × Dev nD
  | .inl 0 => ((c, .xs), 0, 0) | .inl 1 => ((partner c, .xr), 0, 0) | .inl 2 => ((c, .self), 0, 0)
  | .inr (.inl p) => ((p, .bar), 0, c)
  | .inr (.inr (.inl k)) => ((c, .ws ⟨k.val % 2, Nat.mod_lt _ (by decide)⟩), k.val / 2, 0)
  | .inr (.inr (.inr (.inl p))) => ((c, .as p), 0, 0)
  | .inr (.inr (.inr (.inr (.inl p)))) => ((p, .ar c), 0, 0)
  | .inr (.inr (.inr (.inr (.inr (.inl j))))) => ((c, .cs j), 0, 0)
  | .inr (.inr (.inr (.inr (.inr (.inr j))))) => ((dest c j, .cr (pair c)), 0, 0)

/-- Who pays with the ticket, and which of its tickets it is. -/
def tokPayer : (Dev nD × CK) × ℕ × Dev nD → Dev nD × TK
  | ((c, .xs), _, _) => (c, .inl 0) | ((c, .xr), _, _) => (partner c, .inl 1) | ((c, .self), _, _) => (c, .inl 2)
  | ((p, .bar), _, c) => (c, .inr (.inl p))
  | ((c, .ws s), r, _) => (c, .inr (.inr (.inl ⟨(2 * r + s.val) % 16, Nat.mod_lt _ (by decide)⟩)))
  | ((c, .as p), _, _) => (c, .inr (.inr (.inr (.inl p))))
  | ((p, .ar c), _, _) => (c, .inr (.inr (.inr (.inr (.inl p)))))
  | ((c, .cs j), _, _) => (c, .inr (.inr (.inr (.inr (.inr (.inl j))))))
  | ((d, .cr s), _, _) => (sender d s, .inr (.inr (.inr (.inr (.inr (.inr (col d)))))))

theorem tokPayer_at (c : Dev nD) (x : TK) : tokPayer (tokAt c x) = (c, x) := by
  rcases x with x | x | x | x | x | x | x
  · match x with
    | 0 => rfl
    | 1 => show (partner (partner c), _) = _; rw [partner_partner]
    | 2 => rfl
  · rfl
  · show (c, (.inr (.inr (.inl ⟨(2 * (x.val / 2) + x.val % 2) % 16, _⟩)) : TK)) = _
    have e : (⟨(2 * (x.val / 2) + x.val % 2) % 16, Nat.mod_lt _ (by decide)⟩ : Fin 16) = x := Fin.ext (by show (2 * (x.val / 2) + x.val % 2) % 16 = x.val; omega)
    rw [e]
  · rfl
  · rfl
  · rfl
  · show (sender (dest c x) (pair c), (.inr (.inr (.inr (.inr (.inr (.inr (col (dest c x))))))) : TK)) = _
    rw [sender_dest, col_dest]

theorem tokAt_inj {c d : Dev nD} {x y : TK} (h : tokAt c x = tokAt d y) : c = d ∧ x = y := by
  have e := congrArg tokPayer h
  rw [tokPayer_at, tokPayer_at] at e
  exact ⟨congrArg Prod.fst e, congrArg Prod.snd e⟩

def tokOf (x : Dev nD × TK) : GSem nD τ sig × ℕ × Dev nD := (kcell (tokAt x.1 x.2).1, (tokAt x.1 x.2).2)
theorem tokOf_inj : Function.Injective tokOf := fun a b h => by
  have h1 := kcell_inj (Prod.mk.inj h).1
  have h2 := (Prod.mk.inj h).2
  obtain ⟨e1, e2⟩ := tokAt_inj (Prod.ext h1 h2)
  exact Prod.ext e1 e2

def ringCells : Finset (GSem nD τ sig) := Finset.univ.map ⟨kcell, kcell_inj⟩
def ringToks : Finset (GSem nD τ sig × ℕ × Dev nD) := Finset.univ.map ⟨tokOf, tokOf_inj⟩

def u₀ : UU := (initOf (Pipeline.cells cfgs cellOf_inj) (Pipeline.launchToks cfgs cellOf_inj), initOf ringCells ringToks)

/-- The tickets device `c` pays with. -/
def toks (c : Dev nD) : sProp 𝕄 :=
  bigSep Finset.univ fun x : TK => dutyTok ER (tokOf (c, x)).1 (tokOf (c, x)).2.1 (tokOf (c, x)).2.2
/-- Its places in its own cells. -/
def ats (c : Dev nD) : sProp 𝕄 := bigSep Finset.univ fun k : CK => atPos ER (cell c k) 0 ∅ 0

/-- What a device is dealt. -/
def G (m : (ℓ : Loc nD τ sig) → Buf (Elt F) ℓ) (c : Dev nD) : sProp 𝕄 :=
  iprop((bigSep Finset.univ fun k : CK => roundState ER (Rd m) (cell c k) 0) ∗ (bigSep Finset.univ fun k : CK => reached ER (cell c k) 0) ∗ ats c ∗ toks c)

/-- The records all devices share, but for the levels. -/
def Recs0 (m : (ℓ : Loc nD τ sig) → Buf (Elt F) ℓ) (K : Dev nD × CK → ℕ) : sProp 𝕄 :=
  bigSep Finset.univ fun x : Dev nD × CK => iprop(cellInv ER (Rd m) (K x) (cell x.1 x.2) ∗ reached ER (cell x.1 x.2) 0)

instance recs0_persistent (K : Dev nD × CK → ℕ) : BI.Persistent (Recs0 m K) := by unfold Recs0; infer_instance

def G' (m : (ℓ : Loc nD τ sig) → Buf (Elt F) ℓ) (c : Dev nD) : sProp 𝕄 := iprop((∃ K, Recs0 m K) ∗ ats c ∗ toks c)

omit [FloatOps F] in
theorem cells_split (Φ : GSem nD τ sig → sProp 𝕄) : bigSep ringCells Φ = bigSep Finset.univ fun c : Dev nD => bigSep Finset.univ fun k : CK => Φ (cell c k) := by
  unfold ringCells; rw [BI.bigSep_map, bigSep_univ_prod]; rfl

omit [FloatOps F] in
theorem toks_split : bigSep ringToks (fun x => (dutyTok ER x.1 x.2.1 x.2.2 : sProp 𝕄)) = bigSep Finset.univ fun c : Dev nD => toks c := by
  unfold ringToks toks; rw [BI.bigSep_map, bigSep_univ_prod]; rfl

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst' := (Entails.of_eq (cells_split fun g => roundState ER (Rd m) g 0)) $$ Hst
  ihave Hat' := (Entails.of_eq (cells_split fun g => atPos ER g 0 ∅ 0)) $$ Hat
  ihave Hr' := (Entails.of_eq (cells_split fun g => reached ER g 0)) $$ Hr
  ihave Htok' := (Entails.of_eq toks_split) $$ Htok
  unfold G ats; simp only [bigSep_sep']
  isplitl [Hst']; · iexact Hst'
  isplitl [Hr']; · iexact Hr'
  isplitl [Hat'] <;> iassumption

/-! ## The semaphores -/

/-- The names of the kernel's own semaphores. -/
abbrev OwnK := Fin 3 ⊕ (Fin 2 ⊕ (Fin 32 ⊕ (Fin 32 ⊕ (Fin 16 ⊕ Fin 16))))
def ownCK : OwnK → CK
  | .inl 0 => .xs | .inl 1 => .xr | .inl 2 => .self
  | .inr x => ckOf (.inr x)
def osem (x : OwnK) : SemLoc sig := csem (ownCK x)

omit [FloatOps F] in
theorem fin3_split (Φ : Fin 3 → sProp 𝕄) : bigSep Finset.univ Φ = iprop(Φ 0 ∗ Φ 1 ∗ Φ 2) :=
  bigSep_univ_eq_bigSepL [0, 1, 2] (by decide) (by decide) Φ

omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((semVal (cell c .xs) 0 ∗ semVal (cell c .xr) 0 ∗ semVal (cell c .self) 0)
    ∗ (bigSep Finset.univ fun s => semVal (cell c (.ws s)) 0) ∗ (bigSep Finset.univ fun p => semVal (cell c (.as p)) 0) ∗ (bigSep Finset.univ fun p => semVal (cell c (.ar p)) 0)
    ∗ (bigSep Finset.univ fun j => semVal (cell c (.cs j)) 0) ∗ (bigSep Finset.univ fun s => semVal (cell c (.cr s)) 0)) := by
  unfold Pipeline.ownSems0
  rw [bigSep_univ_sum, bigSep_univ_sum, bigSep_univ_sum, bigSep_univ_sum, bigSep_univ_sum, fin3_split]
  rfl

omit [FloatOps F] in
/-- The kernel's own semaphores and the barrier's are the cells'. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [ownSems0_eq, unscopedSems0_eq, ck_split]
  refine eq_of ?_ ?_
  · iintro ⟨Hb, ⟨H1, H2, H3⟩, HR⟩
    isplitl [Hb H1 H2 H3]
    · isplitl [Hb]; · iexact Hb
      isplitl [H1]; · iexact H1
      isplitl [H2] <;> iassumption
    iexact HR
  · iintro ⟨⟨Hb, H1, H2, H3⟩, HR⟩
    isplitl [Hb]; · iexact Hb
    isplitl [H1 H2 H3]
    · isplitl [H1]; · iexact H1
      isplitl [H2] <;> iassumption
    iexact HR

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => reached ER (kcell (c, k)) 0) ∗ ats c ∗ toks c) := by
  unfold G
  iintro ⟨Hos, Hus, Hst, Hr, Hat⟩
  ihave Hv := (Entails.of_eq (sems0_eq (F := F) c)) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hr]; · iexact Hr
  iexact Hat

omit [FloatOps F] in
theorem bigSep_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_each h)

theorem deal :
    (bigSep Finset.univ fun c : Dev nD => iprop((bigSep Finset.univ fun k : CK => iprop(∃ κ : ℕ, cellInv ER (Rd m) κ (kcell (c, k))))
          ∗ (bigSep Finset.univ fun k : CK => reached ER (kcell (c, k)) 0) ∗ ats c ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, HR, HL⟩
  ihave HK := (BI.bigSep_exists_pi Finset.univ (fun (ck : Dev nD × CK) (κ : ℕ) => (cellInv ER (Rd m) κ (kcell ck) : sProp 𝕄))) $$ HI
  icases HK with ⟨%K, HI⟩
  ihave HB := (show iprop((bigSep Finset.univ fun ck : Dev nD × CK => cellInv ER (Rd m) (K ck) (kcell ck)) ∗ bigSep Finset.univ fun ck : Dev nD × CK => reached ER (kcell ck) 0)
    ⊢ Recs0 m K from by unfold Recs0; rw [bigSep_sep']) $$ [HI HR]
  · isplitl [HI] <;> iassumption
  iapply (bigSep_shared (R := Recs0 m K) (Φ := fun c => iprop(ats c ∗ toks c)) fun c _ => show _ ⊢ G' m c from by
    unfold G'
    iintro ⟨HB, HL⟩
    isplitl [HB]; · iexists K; iexact HB
    iexact HL)
  isplitl [HB]; · iexact HB
  iexact HL

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc c).trans (bigSep_fupd _ _)).trans (BI.fupd_mono deal)

/-! ## The launch's credits -/

theorem debt_at {d c : Dev nD} {i : ℕ} {k : CK} (h : debt d i (cell c k) () ≠ 0) :
    (i = c.val ∧ k = .bar) ∨ (i = 32 ∧ k = .xr ∧ partner d = c) ∨ (i = 33 + c.val ∧ k = .ar d) ∨ (i = 65 + (col c).val ∧ k = .cr (pair d) ∧ dest d (col c) = c) := by
  have key : ∀ (d' : Dev nD) (k' : CK) (n : ℕ), (tallyAt (cell d' k') () n : CellTallies nD τ sig Unit) (cell c k) () ≠ 0 → c = d' ∧ k = k' := fun d' k' n h' => by
    rw [tallyAt_apply] at h'
    by_contra hn
    exact h' (if_neg fun x => hn (cell_inj x.1))
  unfold debt at h
  split at h
  · rename_i hi
    split at h
    · exact absurd rfl h
    · obtain ⟨rfl, rfl⟩ := key _ _ _ h; exact Or.inl ⟨rfl, rfl⟩
  split at h
  · rename_i h1 hi; obtain ⟨rfl, rfl⟩ := key _ _ _ h; exact Or.inr (Or.inl ⟨hi, rfl, rfl⟩)
  split at h
  · rename_i h1 h2 hi
    split at h
    · exact absurd rfl h
    · obtain ⟨rfl, rfl⟩ := key _ _ _ h; exact Or.inr (Or.inr (Or.inl ⟨by show i = 33 + (i - 33); omega, rfl⟩))
  split at h
  · rename_i h1 h2 h3 hi
    split at h
    · exact absurd rfl h
    · obtain ⟨rfl, rfl⟩ := key _ _ _ h
      rw [col_dest]
      exact Or.inr (Or.inr (Or.inr ⟨by show i = 65 + (i - 65); omega, rfl, rfl⟩))
  · exact absurd rfl h

theorem owed_one (d c : Dev nD) (k : CK) (i : ℕ) (hi : i < 81) (h : ∀ i', debt d i' (cell c k) () ≠ 0 → i' = i) : owed d 0 (cell c k) () = debt d i (cell c k) () := by
  unfold owed
  rw [Finset.sum_apply, Finsupp.finset_sum_apply]
  exact Finset.sum_eq_single i (fun b _ hb => by_contra fun x => hb (h b x)) (fun hn => absurd (Finset.mem_Ico.mpr ⟨Nat.zero_le _, hi⟩) hn)

theorem tally_self (g : GSem nD τ sig) (n : ℕ) : (tallyAt g () n : CellTallies nD τ sig Unit) g () = n := by
  rw [tallyAt_apply, if_pos ⟨rfl, rfl⟩]

theorem owed_bar (d c : Dev nD) : owed d 0 (cell c .bar) () = if c = d then 0 else 1 := by
  rw [owed_one d c .bar c.val (by have h32 : c.val < 32 := c.isLt; omega) fun i h => by rcases debt_at h with h | h | h | h <;> simp_all]
  unfold debt
  rw [dif_pos c.isLt]
  split_ifs with h
  · rfl
  · exact tally_self _ _

theorem owed_xr (d c : Dev nD) : owed d 0 (cell c .xr) () = if partner d = c then xN else 0 := by
  rw [owed_one d c .xr 32 (by decide) fun i h => by rcases debt_at h with h | h | h | h <;> simp_all]
  by_cases h : partner d = c
  · subst h; rw [if_pos rfl]; exact tally_self _ _
  · rw [if_neg h]; by_contra hn; rcases debt_at hn with h' | h' | h' | h' <;> simp_all

theorem owed_ar (d c p : Dev nD) (hp : p ≠ c) : owed d 0 (cell c (.ar p)) () = if d = p then rowN else 0 := by
  rw [owed_one d c (.ar p) (33 + c.val) (by have h32 : c.val < 32 := c.isLt; omega) fun i h => by rcases debt_at h with h | h | h | h <;> simp_all]
  by_cases h : d = p
  · subst h
    rw [if_pos rfl]
    have hlt : c.val < 32 := c.isLt
    unfold debt
    rw [dif_neg (by omega), if_neg (by omega), dif_pos (show 33 + c.val - 33 < 32 by omega), if_neg (fun e => hp (by rw [← e]; exact Fin.ext (by show 33 + c.val - 33 = c.val; omega)))]
    have e : (⟨33 + c.val - 33, by omega⟩ : Dev nD) = c := Fin.ext (by show 33 + c.val - 33 = c.val; omega)
    rw [e]
    exact tally_self _ _
  · rw [if_neg h]; by_contra hn; rcases debt_at hn with h' | h' | h' | h' <;> simp_all

theorem owed_cr (d c : Dev nD) (s : Fin 16) (hs : sender c s ≠ c) : owed d 0 (cell c (.cr s)) () = if d = sender c s then blkN else 0 := by
  rw [owed_one d c (.cr s) (65 + (col c).val) (by have := (col c).isLt; omega) fun i h => by rcases debt_at h with h | h | h | h <;> simp_all]
  by_cases h : d = sender c s
  · subst h
    rw [if_pos rfl]
    have hlt := (col c).isLt
    have e : (⟨65 + (col c).val - 65, by omega⟩ : Fin 16) = col c := Fin.ext (by show 65 + (col c).val - 65 = (col c).val; omega)
    unfold debt
    rw [dif_neg (by omega), if_neg (by omega), dif_neg (show ¬ 65 + (col c).val - 33 < 32 by omega), dif_pos (show 65 + (col c).val - 65 < 16 by omega), e, dest_sender, pair_sender, if_neg (Ne.symm hs)]
    exact tally_self _ _
  · rw [if_neg h]; by_contra hn
    rcases debt_at hn with h' | h' | h' | h'
    · simp_all
    · simp_all
    · simp_all
    · obtain ⟨-, hk, hd⟩ := h'
      have := CK.cr.inj hk
      subst this
      exact h (by conv_lhs => rw [← sender_dest d (col c), hd])

theorem others_count (c : Dev nD) : (∑ d : Dev nD, if c = d then 0 else 1) = 31 := by revert c; decide

theorem launch_of (c : Dev nD) (k : CK) (n : ℕ) (h : (∑ d : Dev nD, owed d 0 (cell c k) ()) = n) :
    tallyOn (cell c k) (launchCredit (Pipeline.owing fun d => owed d 0) 0 (cell c k)) = (tallyAt (cell c k) () n : CellTallies nD τ sig Unit) := by
  unfold tallyAt; refine congrArg _ (Finsupp.ext fun u => ?_); cases u
  rw [Pipeline.launchCredit_owing, Finsupp.single_eq_same, h]

/-- The launch's credits: what the other devices will send. -/
theorem creds (c : Dev nD) : (Pipeline.launchCred (fun d => owed d 0) c : sProp 𝕄)
    ⊢ iprop(cred (tallyAt (cell c .bar) () 31) ∗ cred (tallyAt (cell c .xr) () xN)
      ∗ (bigSep Finset.univ fun p : Fin 32 => if p = c then iprop(emp) else cred (tallyAt (cell c (.ar p)) () rowN))
      ∗ bigSep Finset.univ fun s : Fin 16 => if sender c s = c then iprop(emp) else cred (tallyAt (cell c (.cr s)) () blkN)) := by
  unfold Pipeline.launchCred
  refine ent_trans (BI.bigSep_subset (Finset.subset_univ (Finset.univ.map ⟨csem, csem_inj⟩))) ?_
  rw [BI.bigSep_map]
  refine ent_trans (Entails.of_eq (ck_split (F := F) (fun k => cred (tallyOn (cell c k) (launchCredit (Pipeline.owing fun d => owed d 0) 0 (cell c k)))))) ?_
  rw [launch_of c .bar 31 (by rw [Finset.sum_congr rfl fun d _ => owed_bar d c, others_count]),
    launch_of c .xr xN (by
      rw [Finset.sum_congr rfl fun d _ => owed_xr d c, Finset.sum_eq_single (partner c) (fun b _ hb => if_neg fun e => hb (by rw [← e, partner_partner])) (fun hn => absurd (Finset.mem_univ _) hn),
        partner_partner, if_pos rfl])]
  have har : (bigSep Finset.univ fun p : Fin 32 => cred (tallyOn (cell c (.ar p)) (launchCredit (Pipeline.owing fun d => owed d 0) 0 (cell c (.ar p)))) : sProp 𝕄)
      ⊢ bigSep Finset.univ fun p : Fin 32 => if p = c then iprop(emp) else cred (tallyAt (cell c (.ar p)) () rowN) := by
    refine bigSep_each fun p _ => ?_
    split_ifs with hp
    · iintro -; iempintro
    · rw [launch_of c (.ar p) rowN (by
        rw [Finset.sum_congr rfl fun d _ => owed_ar d c p hp, Finset.sum_ite_eq' Finset.univ p fun _ => rowN, if_pos (Finset.mem_univ _)])]
  have hcr : (bigSep Finset.univ fun s : Fin 16 => cred (tallyOn (cell c (.cr s)) (launchCredit (Pipeline.owing fun d => owed d 0) 0 (cell c (.cr s)))) : sProp 𝕄)
      ⊢ bigSep Finset.univ fun s : Fin 16 => if sender c s = c then iprop(emp) else cred (tallyAt (cell c (.cr s)) () blkN) := by
    refine bigSep_each fun s _ => ?_
    split_ifs with hs
    · iintro -; iempintro
    · rw [launch_of c (.cr s) blkN (by
        rw [Finset.sum_congr rfl fun d _ => owed_cr d c s hs, Finset.sum_ite_eq' Finset.univ (sender c s) fun _ => blkN, if_pos (Finset.mem_univ _)])]
  iintro ⟨⟨Hb, -, Hx, -⟩, -, -, Ha, -, Hc⟩
  isplitl [Hb]; · iexact Hb
  isplitl [Hx]; · iexact Hx
  isplitl [Ha]; · iapply har; iexact Ha
  iapply hcr; iexact Hc

end Cert.QuantProof
-- ==== Proof.PartsA.lean ====
/-
# Parts 2 to 6: the barrier and the exchange with the partner
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 2 of the kernel. -/
theorem part2 {R : sProp 𝕄} {f7 : Vec F S128x4096 .f32} {f8 : Vec F S128x4096 .f32} {fab : Buf (Elt F) (abM.view.loc (c : Thread nD τ))} {fxo : Buf (Elt F) (xoM.view.loc (c : Thread nD τ))} {Q : (Σ' (v51 : BitVec 1), Sems sig S_) → sProp 𝕄}
    (H : iprop(Core m K c 1 ∗ Ph (sigA c) sigB 1 ∗ CX m c 1 (SlotBusy c 0 0) (SlotFree c 1 0) 0 (XrWait c) f7 f8 ∗ xoPts c fullShare.right (xb m c) ∗ rowPts c c (GG m c) ∗ selfBlk c ∗ xPts c (xstg m c) ∗ R) ⊢ Q ⟨(Scalar.cmpi .eq (Scalar.select (Scalar.andi (Scalar.cmpi .ne (Scalar.subi (w36 c) (Scalar.extui (w37 c))) (Scalar.subi (Scalar.extui (Scalar.cmpi .sgt 16#32 0#32)) (Scalar.extui (Scalar.cmpi .slt 16#32 0#32)))) (Scalar.cmpi .ne (Scalar.remsi (w2 c) 16#32) 0#32)) (Scalar.subi (w34 c) 1#32) (w34 c)) (w12 c)), (SemArray.scalar (sig.barrier 0 rfl))⟩) :
    iprop(abPts c fab ∗ xPts c (xstg m c) ∗ xoW c fxo ∗ Core m K c 0 ∗ Ph (wA m c) wB 0 ∗ SlotFree c 0 0 ∗ SlotFree c 1 0 ∗ Wb m c 0 ∗ XrWait c ∗ yoPts c f7 ∗ yrPts c f8 ∗ SigT c ∗ R)
      ⊢ wpc c (k0_part2 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) 16#32 (w34 c) (w36 c) (w37 c)) Q := by
  rw [k0_part2_eq_skeleton]
  unfold k0_part2_skel
  refine ld_any fun _ => ?_
  refine st_eq (k0_pay2 (F := F)) (Memref.write_access_unit_zero_univ (Elt F) cc0_scratch9 off00 _ _ _) ?_
  refine ent_trans (P2 := iprop(xPts c (xstg m c) ∗ abPts c (k0_pay2 (F := F)) ∗ xoW c fxo ∗ Core m K c 0 ∗ Ph (wA m c) wB 0 ∗ SlotFree c 0 0 ∗ SlotFree c 1 0 ∗ Wb m c 0 ∗ XrWait c ∗ yoPts c f7 ∗ yrPts c f8 ∗ SigT c ∗ R)) ?_ ?_
  · iintro ⟨Habz, Hx, Hxo, HC0, HP, HS0, HS1, HW, HX6, HY7, HY8, Hsig, HR⟩
    isplitl [Hx]; · iexact Hx
    isplitl [Habz]; · iexact Habz
    isplitl [Hxo]; · iexact Hxo
    isplitl [HC0]; · iexact HC0
    isplitl [HP]; · iexact HP
    isplitl [HS0]; · iexact HS0
    isplitl [HS1]; · iexact HS1
    isplitl [HW]; · iexact HW
    isplitl [HX6]; · iexact HX6
    isplitl [HY7]; · iexact HY7
    isplitl [HY8]; · iexact HY8
    isplitl [Hsig]; · iexact Hsig
    iexact HR
  refine ld_eq (xstg m c) (Memref.readAt_unit_zero (Elt F) cc0_stg0_0 off00 _ _) ?_
  refine ent_trans (P2 := iprop(xoW c fxo ∗ xPts c (xstg m c) ∗ abPts c (k0_pay2 (F := F)) ∗ Core m K c 0 ∗ Ph (wA m c) wB 0 ∗ SlotFree c 0 0 ∗ SlotFree c 1 0 ∗ Wb m c 0 ∗ XrWait c ∗ yoPts c f7 ∗ yrPts c f8 ∗ SigT c ∗ R)) ?_ ?_
  · iintro ⟨Hx, Habz, Hxo, HC0, HP, HS0, HS1, HW, HX6, HY7, HY8, Hsig, HR⟩
    isplitl [Hxo]; · iexact Hxo
    isplitl [Hx]; · iexact Hx
    isplitl [Habz]; · iexact Habz
    isplitl [HC0]; · iexact HC0
    isplitl [HP]; · iexact HP
    isplitl [HS0]; · iexact HS0
    isplitl [HS1]; · iexact HS1
    isplitl [HW]; · iexact HW
    isplitl [HX6]; · iexact HX6
    isplitl [HY7]; · iexact HY7
    isplitl [HY8]; · iexact HY8
    isplitl [Hsig]; · iexact Hsig
    iexact HR
  refine ld_any fun _ => ?_
  refine st_eq (xb m c) (Memref.write_access_unit_zero_univ (Elt F) cc0_scratch2 off00 _ _ _) ?_
  refine ent_trans (P2 := iprop(xoPts c fullShare.left (xb m c) ∗ Core m K c 0 ∗ Ph (wA m c) wB 0 ∗ SlotFree c 0 0 ∗ SlotFree c 1 0 ∗ Wb m c 0 ∗ XrWait c ∗ yoPts c f7 ∗ yrPts c f8 ∗ xoPts c fullShare.right (xb m c) ∗ xPts c (xstg m c) ∗ abPts c (k0_pay2 (F := F)) ∗ SigT c ∗ R)) ?_ ?_
  · iintro ⟨Hxob, Hx, Habz, HC0, HP, HS0, HS1, HW, HX6, HY7, HY8, Hsig, HR⟩
    ihave Hnew := xo_split $$ [Hxob]
    · iexact Hxob
    icases Hnew with ⟨Hxl, Hxr⟩
    isplitl [Hxl]; · iexact Hxl
    isplitl [HC0]; · iexact HC0
    isplitl [HP]; · iexact HP
    isplitl [HS0]; · iexact HS0
    isplitl [HS1]; · iexact HS1
    isplitl [HW]; · iexact HW
    isplitl [HX6]; · iexact HX6
    isplitl [HY7]; · iexact HY7
    isplitl [HY8]; · iexact HY8
    isplitl [Hxr]; · iexact Hxr
    isplitl [Hx]; · iexact Hx
    isplitl [Habz]; · iexact Habz
    isplitl [Hsig]; · iexact Hsig
    iexact HR
  refine ent_trans (P2 := iprop(CS m c K 0 0 (SlotFree c 0 0) (SlotFree c 1 0) 0 (XrWait c) f7 f8 ∗ xoPts c fullShare.right (xb m c) ∗ xPts c (xstg m c) ∗ abPts c (k0_pay2 (F := F)) ∗ SigT c ∗ R)) ?_ ?_
  · iintro ⟨Hxl, HC0, HP, HS0, HS1, HW, HX6, HY7, HY8, Hxr, Hx, Habz, Hsig, HR⟩
    ihave HCS0 := (cs_make (m := m) (K := K) (c := c) (n := 0) (f7 := f7) (f8 := f8) (kw := 0) (kb := 0) (S0 := SlotFree c 0 0) (S1 := SlotFree c 1 0) (X6 := XrWait c)) $$ [Hxl HC0 HP HS0 HS1 HW HX6 HY7 HY8]
    · isplitl [Hxl]; · iexact Hxl
      isplitl [HC0]; · iexact HC0
      isplitl [HP]; · iexact HP
      isplitl [HS0]; · iexact HS0
      isplitl [HS1]; · iexact HS1
      isplitl [HW]; · iexact HW
      isplitl [HX6]; · iexact HX6
      isplitl [HY7]; · iexact HY7
      iexact HY8
    isplitl [HCS0]; · iexact HCS0
    isplitl [Hxr]; · iexact Hxr
    isplitl [Hx]; · iexact Hx
    isplitl [Habz]; · iexact Habz
    isplitl [Hsig]; · iexact Hsig
    iexact HR
  refine cs_start0 0 0 rfl rfl Entails.refl (by clear * - c; revert c; decide) (slot_of 0 rfl) (sem_at _ (by decide) rfl) ?_
  refine ent_trans (P2 := iprop(Core m K c 0 ∗ Ph (sigA c) sigB 0 ∗ CX m c 1 (SlotBusy c 0 0) (SlotFree c 1 0) 0 (XrWait c) f7 f8 ∗ xoPts c fullShare.right (xb m c) ∗ rowPts c c (GG m c) ∗ selfBlk c ∗ xPts c (xstg m c) ∗ R)) ?_ ?_
  · iintro ⟨HCS1, Hxr, Hx, Habz, Hsig, HR⟩
    ihave HC := cs_open $$ HCS1
    icases HC with ⟨HC0, HCX1⟩
    ihave Hnew := (sig_intro (m := m)) $$ [Habz Hsig]
    · isplitl [Habz]; · iexact Habz
      iexact Hsig
    icases Hnew with ⟨Hrcc, Hsb, HPs0⟩
    isplitl [HC0]; · iexact HC0
    isplitl [HPs0]; · iexact HPs0
    isplitl [HCX1]; · iexact HCX1
    isplitl [Hxr]; · iexact Hxr
    isplitl [Hrcc]; · iexact Hrcc
    isplitl [Hsb]; · iexact Hsb
    isplitl [Hx]; · iexact Hx
    iexact HR
  refine sig_step 0 rfl (by clear * - c; revert c; decide) (fun _ => rfl) ?_
  exact ret_step H

set_option maxHeartbeats 8000000 in
/-- Part 3 of the kernel. -/
theorem part3 {R : sProp 𝕄} {Q : (PUnit) → sProp 𝕄}
    (H : iprop(Core m K c 11 ∗ Ph (sigA c) sigB 11 ∗ R) ⊢ Q ⟨⟩) :
    iprop(Core m K c 1 ∗ Ph (sigA c) sigB 1 ∗ R)
      ⊢ wpc c (k0_part3 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (SemArray.scalar (sig.barrier 0 rfl))) Q := by
  rw [k0_part3_eq_skeleton]
  unfold k0_part3_skel
  refine sig_step 1 rfl (by clear * - c; revert c; decide) (fun _ => rfl) ?_
  refine sig_step 2 rfl (by clear * - c; revert c; decide) (fun _ => rfl) ?_
  refine sig_step 3 rfl (by clear * - c; revert c; decide) (fun _ => rfl) ?_
  refine sig_step 4 rfl (by clear * - c; revert c; decide) (fun _ => rfl) ?_
  refine sig_step 5 rfl (by clear * - c; revert c; decide) (fun _ => rfl) ?_
  refine sig_step 6 rfl (by clear * - c; revert c; decide) (fun _ => rfl) ?_
  refine sig_step 7 rfl (by clear * - c; revert c; decide) (fun _ => rfl) ?_
  refine sig_step 8 rfl (by clear * - c; revert c; decide) (fun _ => rfl) ?_
  refine sig_step 9 rfl (by clear * - c; revert c; decide) (fun _ => rfl) ?_
  refine sig_step 10 rfl (by clear * - c; revert c; decide) (fun _ => rfl) ?_
  exact ret_step H

set_option maxHeartbeats 8000000 in
/-- Part 4 of the kernel. -/
theorem part4 {R : sProp 𝕄} {Q : (PUnit) → sProp 𝕄}
    (H : iprop(Core m K c 21 ∗ Ph (sigA c) sigB 21 ∗ R) ⊢ Q ⟨⟩) :
    iprop(Core m K c 11 ∗ Ph (sigA c) sigB 11 ∗ R)
      ⊢ wpc c (k0_part4 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (SemArray.scalar (sig.barrier 0 rfl))) Q := by
  rw [k0_part4_eq_skeleton]
  unfold k0_part4_skel
  refine sig_step 11 rfl (by clear * - c; revert c; decide) (fun _ => rfl) ?_
  refine sig_step 12 rfl (by clear * - c; revert c; decide) (fun _ => rfl) ?_
  refine sig_step 13 rfl (by clear * - c; revert c; decide) (fun _ => rfl) ?_
  refine sig_step 14 rfl (by clear * - c; revert c; decide) (fun _ => rfl) ?_
  refine sig_step 15 rfl (by clear * - c; revert c; decide) (fun _ => rfl) ?_
  refine sig_step 16 rfl (by clear * - c; revert c; decide) (fun _ => rfl) ?_
  refine sig_step 17 rfl (by clear * - c; revert c; decide) (fun _ => rfl) ?_
  refine sig_step 18 rfl (by clear * - c; revert c; decide) (fun _ => rfl) ?_
  refine sig_step 19 rfl (by clear * - c; revert c; decide) (fun _ => rfl) ?_
  refine sig_step 20 rfl (by clear * - c; revert c; decide) (fun _ => rfl) ?_
  exact ret_step H

set_option maxHeartbeats 8000000 in
/-- Part 5 of the kernel. -/
theorem part5 {R : sProp 𝕄} {Q : (PUnit) → sProp 𝕄}
    (H : iprop(Core m K c 31 ∗ Ph (sigA c) sigB 31 ∗ R) ⊢ Q ⟨⟩) :
    iprop(Core m K c 21 ∗ Ph (sigA c) sigB 21 ∗ R)
      ⊢ wpc c (k0_part5 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (SemArray.scalar (sig.barrier 0 rfl))) Q := by
  rw [k0_part5_eq_skeleton]
  unfold k0_part5_skel
  refine sig_step 21 rfl (by clear * - c; revert c; decide) (fun _ => rfl) ?_
  refine sig_step 22 rfl (by clear * - c; revert c; decide) (fun _ => rfl) ?_
  refine sig_step 23 rfl (by clear * - c; revert c; decide) (fun _ => rfl) ?_
  refine sig_step 24 rfl (by clear * - c; revert c; decide) (fun _ => rfl) ?_
  refine sig_step 25 rfl (by clear * - c; revert c; decide) (fun _ => rfl) ?_
  refine sig_step 26 rfl (by clear * - c; revert c; decide) (fun _ => rfl) ?_
  refine sig_step 27 rfl (by clear * - c; revert c; decide) (fun _ => rfl) ?_
  refine sig_step 28 rfl (by clear * - c; revert c; decide) (fun _ => rfl) ?_
  refine sig_step 29 rfl (by clear * - c; revert c; decide) (fun _ => rfl) ?_
  refine sig_step 30 rfl (by clear * - c; revert c; decide) (fun _ => rfl) ?_
  exact ret_step H

set_option maxHeartbeats 8000000 in
/-- Part 6 of the kernel. -/
theorem part6 {R : sProp 𝕄} {f7 : Vec F S128x4096 .f32} {f8 : Vec F S128x4096 .f32} {Q : (PUnit) → sProp 𝕄}
    (H : iprop(CS m c K 33 2 (SlotFull m c 0 1 0) (SlotBusy c 1 0) 1 (XrWait c) (acc m c (xb m c) 0) f8 ∗ cred (tallyAt (cell c .xs) () xN) ∗ Done m c .bar ∗ Rows c ∗ Blks c ∗ R) ⊢ Q ⟨⟩) :
    iprop(Core m K c 31 ∗ Ph (sigA c) sigB 31 ∗ BarT c ∗ XsT c ∗ CX m c 1 (SlotBusy c 0 0) (SlotFree c 1 0) 0 (XrWait c) f7 f8 ∗ xoPts c fullShare.right (xb m c) ∗ R)
      ⊢ wpc c (k0_part6 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w15 c) (SemArray.scalar (sig.barrier 0 rfl))) Q := by
  rw [k0_part6_eq_skeleton]
  unfold k0_part6_skel
  refine sig_step 31 rfl (by clear * - c; revert c; decide) (fun _ => rfl) ?_
  show iprop(Core m K c 32 ∗ Ph (sigA c) sigB 32 ∗ _) ⊢ _
  refine ent_trans (P2 := iprop(Core m K c 32 ∗ BarT c ∗ XsT c ∗ CX m c 1 (SlotBusy c 0 0) (SlotFree c 1 0) 0 (XrWait c) f7 f8 ∗ xoPts c fullShare.right (xb m c) ∗ R)) ?_ ?_
  · iintro ⟨HC32, HPsx, Hbar, HxsT, HCX1, Hxr, HR⟩
    isplitl [HC32]; · iexact HC32
    isplitl [Hbar]; · iexact Hbar
    isplitl [HxsT]; · iexact HxsT
    isplitl [HCX1]; · iexact HCX1
    isplitl [Hxr]; · iexact Hxr
    iexact HR
  unfold BarT
  refine bar_step (m := m) (K := K) (by simp) ?_
  refine ent_trans (P2 := iprop(Core m K c 32 ∗ XsTake m c ∗ CX m c 1 (SlotBusy c 0 0) (SlotFree c 1 0) 0 (XrWait c) f7 f8 ∗ Done m c .bar ∗ Rows c ∗ Blks c ∗ R)) ?_ ?_
  · iintro ⟨HC32, ⟨Hbp, HDb⟩, HxsT, HCX1, Hxr, HR⟩
    ihave Hnew := bar_split $$ [Hbp]
    · iexact Hbp
    icases Hnew with ⟨Hrows, Hblks, Hxp⟩
    ihave HxsU := (Entails.of_eq (show XsT c = iprop(dutyTok ER (cell c .xs) 0 0 ∗ dutyTok ER (cell (partner c) .xr) 0 0) from rfl)) $$ HxsT
    icases HxsU with ⟨Ht1, Ht2⟩
    ihave HXT := (xs_take (m := m) (c := c)) $$ [Hxr Hxp Ht1 Ht2]
    · isplitl [Hxr]; · iexact Hxr
      isplitl [Hxp]; · iexact Hxp
      isplitl [Ht1]; · iexact Ht1
      iexact Ht2
    isplitl [HC32]; · iexact HC32
    isplitl [HXT]; · iexact HXT
    isplitl [HCX1]; · iexact HCX1
    isplitl [HDb]; · iexact HDb
    isplitl [Hrows]; · iexact Hrows
    isplitl [Hblks]; · iexact Hblks
    iexact HR
  refine x_send (Fin.ext (by show k0_dev33 c = (partner c).val; clear * - c; revert c; decide)) ?_
  refine ent_trans (P2 := iprop(CS m c K 33 1 (SlotBusy c 0 0) (SlotFree c 1 0) 0 (XrWait c) f7 f8 ∗ cred (tallyAt (cell c .xs) () xN) ∗ Done m c .bar ∗ Rows c ∗ Blks c ∗ R)) ?_ ?_
  · iintro ⟨HC33, Hcxs, HCX1, HDb, Hrows, Hblks, HR⟩
    ihave HCS33 := cs_close (m := m) (K := K) (c := c) (n := 33) $$ [HC33 HCX1]
    · isplitl [HC33]; · iexact HC33
      iexact HCX1
    isplitl [HCS33]; · iexact HCS33
    isplitl [Hcxs]; · iexact Hcxs
    isplitl [HDb]; · iexact HDb
    isplitl [Hrows]; · iexact Hrows
    isplitl [Hblks]; · iexact Hblks
    iexact HR
  refine cs_start1 1 0 rfl rfl Entails.refl (by clear * - c; revert c; decide) (slot_of 1 rfl) (sem_at _ (by decide) rfl) ?_
  refine cs_wait0 0 0 rfl (by decide) (Or.inl (by decide)) (sem_at _ (by decide) rfl) (credit_buf _ _ rfl) ?_
  refine ld_slot0 rfl ?_
  refine ld_tile_any fun _ => ?_
  refine st_tile rfl rfl ?_
  refine ld_own 0 rfl ?_
  refine ld_tile 0 (by decide) (by decide) rfl ?_
  refine ld_sum7 off00 ?_
  refine st_sum7 off00 (w' := acc m c (xb m c) 0) rfl ?_
  exact ret_step H

end Cert.QuantProof
-- ==== Proof.PartsB.lean ====
/-
# Parts 7 to 12: the products
-/
module

public import proofs.«01_k».proof.Proof.Words

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- Part 7 of the kernel. -/
theorem part7 {R : sProp 𝕄} {f8 : Vec F S128x4096 .f32} {Q : (PUnit) → sProp 𝕄}
    (H : iprop(CS m c K 33 3 (SlotBusy c 0 1) (SlotFull m c 1 1 1) 2 (XrWait c) (acc m c (xb m c) 1) f8 ∗ R) ⊢ Q ⟨⟩) :
    iprop(CS m c K 33 2 (SlotFull m c 0 1 0) (SlotBusy c 1 0) 1 (XrWait c) (acc m c (xb m c) 0) f8 ∗ R)
      ⊢ wpc c (k0_part7 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part7_eq_skeleton]
  unfold k0_part7_skel
  refine cs_start0 2 1 rfl rfl full_free (by clear H; revert c; decide) (slot_of 0 rfl) (sem_at _ (by decide) rfl) ?_
  refine cs_wait1 0 1 rfl (by decide) (Or.inl (by decide)) (sem_at _ (by decide) rfl) (credit_buf _ _ rfl) ?_
  refine ld_slot1 rfl ?_
  refine ld_tile_any fun _ => ?_
  refine st_tile rfl rfl ?_
  refine ld_own 1 rfl ?_
  refine ld_tile 1 (by decide) (by decide) rfl ?_
  refine ld_sum7 off00 ?_
  refine ld_sum7 off00 ?_
  refine st_sum7 off00 (w' := acc m c (xb m c) 1) rfl ?_
  exact ret_step H

/-- Part 8 of the kernel. -/
theorem part8 {R : sProp 𝕄} {f8 : Vec F S128x4096 .f32} {Q : (PUnit) → sProp 𝕄}
    (H : iprop(CS m c K 33 4 (SlotFull m c 0 2 2) (SlotBusy c 1 1) 3 (XrWait c) (acc m c (xb m c) 2) f8 ∗ R) ⊢ Q ⟨⟩) :
    iprop(CS m c K 33 3 (SlotBusy c 0 1) (SlotFull m c 1 1 1) 2 (XrWait c) (acc m c (xb m c) 1) f8 ∗ R)
      ⊢ wpc c (k0_part8 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part8_eq_skeleton]
  unfold k0_part8_skel
  refine cs_start1 3 1 rfl rfl full_free (by clear H; revert c; decide) (slot_of 1 rfl) (sem_at _ (by decide) rfl) ?_
  refine cs_wait0 1 2 rfl (by decide) (Or.inl (by decide)) (sem_at _ (by decide) rfl) (credit_buf _ _ rfl) ?_
  refine ld_slot0 rfl ?_
  refine ld_tile_any fun _ => ?_
  refine st_tile rfl rfl ?_
  refine ld_own 2 rfl ?_
  refine ld_tile 2 (by decide) (by decide) rfl ?_
  refine ld_sum7 off00 ?_
  refine ld_sum7 off00 ?_
  refine st_sum7 off00 (w' := acc m c (xb m c) 2) rfl ?_
  exact ret_step H

/-- Part 9 of the kernel. -/
theorem part9 {R : sProp 𝕄} {f8 : Vec F S128x4096 .f32} {Q : (PUnit) → sProp 𝕄}
    (H : iprop(CS m c K 33 6 (SlotBusy c 0 2) (SlotBusy c 1 2) 4 (XrWait c) (acc m c (xb m c) 3) f8 ∗ R) ⊢ Q ⟨⟩) :
    iprop(CS m c K 33 4 (SlotFull m c 0 2 2) (SlotBusy c 1 1) 3 (XrWait c) (acc m c (xb m c) 2) f8 ∗ R)
      ⊢ wpc c (k0_part9 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part9_eq_skeleton]
  unfold k0_part9_skel
  refine cs_start0 4 2 rfl rfl full_free (by clear H; revert c; decide) (slot_of 0 rfl) (sem_at _ (by decide) rfl) ?_
  refine cs_wait1 1 3 rfl (by decide) (Or.inl (by decide)) (sem_at _ (by decide) rfl) (credit_buf _ _ rfl) ?_
  refine ld_slot1 rfl ?_
  refine ld_tile_any fun _ => ?_
  refine st_tile rfl rfl ?_
  refine ld_own 3 rfl ?_
  refine ld_tile 3 (by decide) (by decide) rfl ?_
  refine ld_sum7 off00 ?_
  refine ld_sum7 off00 ?_
  refine st_sum7 off00 (w' := acc m c (xb m c) 3) rfl ?_
  refine cs_start1 5 2 rfl rfl full_free (by clear H; revert c; decide) (slot_of 1 rfl) (sem_at _ (by decide) rfl) ?_
  exact ret_step H

/-- Part 10 of the kernel. -/
theorem part10 {R : sProp 𝕄} {f8 : Vec F S128x4096 .f32} {Q : (PUnit) → sProp 𝕄}
    (H : iprop(CS m c K 33 7 (SlotBusy c 0 3) (SlotBusy c 1 2) 5 (XrWait c) (acc m c (xb m c) 4) f8 ∗ R) ⊢ Q ⟨⟩) :
    iprop(CS m c K 33 6 (SlotBusy c 0 2) (SlotBusy c 1 2) 4 (XrWait c) (acc m c (xb m c) 3) f8 ∗ R)
      ⊢ wpc c (k0_part10 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part10_eq_skeleton]
  unfold k0_part10_skel
  refine cs_wait0 2 4 rfl (by decide) (Or.inl (by decide)) (sem_at _ (by decide) rfl) (credit_buf _ _ rfl) ?_
  refine ld_slot0 rfl ?_
  refine ld_tile_any fun _ => ?_
  refine st_tile rfl rfl ?_
  refine ld_own 4 rfl ?_
  refine ld_tile 4 (by decide) (by decide) rfl ?_
  refine ld_sum7 off00 ?_
  refine ld_sum7 off00 ?_
  refine st_sum7 off00 (w' := acc m c (xb m c) 4) rfl ?_
  refine cs_start0 6 3 rfl rfl full_free (by clear H; revert c; decide) (slot_of 0 rfl) (sem_at _ (by decide) rfl) ?_
  exact ret_step H

/-- Part 11 of the kernel. -/
theorem part11 {R : sProp 𝕄} {f8 : Vec F S128x4096 .f32} {Q : (PUnit) → sProp 𝕄}
    (H : iprop(CS m c K 33 8 (SlotFull m c 0 4 6) (SlotBusy c 1 3) 6 (XrWait c) (acc m c (xb m c) 5) f8 ∗ R) ⊢ Q ⟨⟩) :
    iprop(CS m c K 33 7 (SlotBusy c 0 3) (SlotBusy c 1 2) 5 (XrWait c) (acc m c (xb m c) 4) f8 ∗ R)
      ⊢ wpc c (k0_part11 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part11_eq_skeleton]
  unfold k0_part11_skel
  refine cs_wait1 2 5 rfl (by decide) (Or.inl (by decide)) (sem_at _ (by decide) rfl) (credit_buf _ _ rfl) ?_
  refine ld_slot1 rfl ?_
  refine ld_tile_any fun _ => ?_
  refine st_tile rfl rfl ?_
  refine ld_own 5 rfl ?_
  refine ld_tile 5 (by decide) (by decide) rfl ?_
  refine ld_sum7 off00 ?_
  refine ld_sum7 off00 ?_
  refine st_sum7 off00 (w' := acc m c (xb m c) 5) rfl ?_
  refine cs_start1 7 3 rfl rfl full_free (by clear H; revert c; decide) (slot_of 1 rfl) (sem_at _ (by decide) rfl) ?_
  refine cs_wait0 3 6 rfl (by decide) (Or.inl (by decide)) (sem_at _ (by decide) rfl) (credit_buf _ _ rfl) ?_
  exact ret_step H

/-- Part 12 of the kernel. -/
theorem part12 {R : sProp 𝕄} {Q : (PUnit) → sProp 𝕄}
    (H : iprop(CS m c K 33 8 (SlotFull m c 0 4 6) (SlotBusy c 1 3) 7 (xrPts c (xb m (partner c))) (acc m c (xb m c) 6) (acc m c (xb m (partner c)) 0) ∗ (Done m c .xr ∗ R)) ⊢ Q ⟨⟩) :
    iprop(CS m c K 33 8 (SlotFull m c 0 4 6) (SlotBusy c 1 3) 6 (XrWait c) (acc m c (xb m c) 5) f8 ∗ R)
      ⊢ wpc c (k0_part12 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w15 c)) Q := by
  rw [k0_part12_eq_skeleton]
  unfold k0_part12_skel
  refine ld_slot0 rfl ?_
  refine ld_tile_any fun _ => ?_
  refine st_tile rfl rfl ?_
  refine ld_own 6 rfl ?_
  refine ld_tile 6 (by decide) (by decide) rfl ?_
  refine ld_sum7 off00 ?_
  refine ld_sum7 off00 ?_
  refine st_sum7 off00 (w' := acc m c (xb m c) 6) rfl ?_
  refine xr_wait (Or.inl (by decide)) ?_
  refine ld_rem 0 rfl ?_
  refine ld_tile 0 (by decide) (by decide) rfl ?_
  refine ld_sum8 off00 ?_
  refine st_sum8 off00 (w' := acc m c (xb m (partner c)) 0) rfl ?_
  exact ret_step H

end Cert.QuantProof
-- ==== Proof.PartsC.lean ====
/-
# Parts 13 to 18: the products
-/
module

public import proofs.«01_k».proof.Proof.Words

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- Part 13 of the kernel. -/
theorem part13 {R : sProp 𝕄} {Q : (FVec F S128x4096 .f32) → sProp 𝕄}
    (H : iprop(CS m c K 33 9 (SlotBusy c 0 4) (SlotFull m c 1 4 7) 8 (xrPts c (xb m (partner c))) (acc m c (xb m c) 7) (acc m c (xb m (partner c)) 0) ∗ R) ⊢ Q (k0_pay21 (xcol (xb m (partner c)) 1) (wbv m c 1) (acc m c (xb m (partner c)) 0))) :
    iprop(CS m c K 33 8 (SlotFull m c 0 4 6) (SlotBusy c 1 3) 7 (xrPts c (xb m (partner c))) (acc m c (xb m c) 6) (acc m c (xb m (partner c)) 0) ∗ R)
      ⊢ wpc c (k0_part13 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part13_eq_skeleton]
  unfold k0_part13_skel
  refine cs_start0 8 4 rfl rfl full_free (by clear H; revert c; decide) (slot_of 0 rfl) (sem_at _ (by decide) rfl) ?_
  refine cs_wait1 3 7 rfl (by decide) (Or.inl (by decide)) (sem_at _ (by decide) rfl) (credit_buf _ _ rfl) ?_
  refine ld_slot1 rfl ?_
  refine ld_tile_any fun _ => ?_
  refine st_tile rfl rfl ?_
  refine ld_own 7 rfl ?_
  refine ld_tile 7 (by decide) (by decide) rfl ?_
  refine ld_sum7 off00 ?_
  refine ld_sum7 off00 ?_
  refine st_sum7 off00 (w' := acc m c (xb m c) 7) rfl ?_
  refine ld_rem 1 rfl ?_
  refine ld_tile 1 (by decide) (by decide) rfl ?_
  refine ld_sum8 off00 ?_
  exact ret_step H

/-- Part 14 of the kernel. -/
theorem part14 {R : sProp 𝕄} {Q : (FVec F S128x4096 .f32) → sProp 𝕄}
    (H : iprop(CS m c K 33 10 (SlotFull m c 0 5 8) (SlotBusy c 1 4) 9 (xrPts c (xb m (partner c))) (acc m c (xb m c) 7) (acc m c (xb m (partner c)) 1) ∗ R) ⊢ Q (k0_pay24 (xcol (xb m c) 8) (wbv m c 8) (acc m c (xb m c) 7))) :
    iprop(CS m c K 33 9 (SlotBusy c 0 4) (SlotFull m c 1 4 7) 8 (xrPts c (xb m (partner c))) (acc m c (xb m c) 7) (acc m c (xb m (partner c)) 0) ∗ R)
      ⊢ wpc c (k0_part14 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (k0_pay21 (xcol (xb m (partner c)) 1) (wbv m c 1) (acc m c (xb m (partner c)) 0))) Q := by
  rw [k0_part14_eq_skeleton]
  unfold k0_part14_skel
  refine ld_sum8 off00 ?_
  refine st_sum8 off00 (w' := acc m c (xb m (partner c)) 1) rfl ?_
  refine cs_start1 9 4 rfl rfl full_free (by clear H; revert c; decide) (slot_of 1 rfl) (sem_at _ (by decide) rfl) ?_
  refine cs_wait0 4 8 rfl (by decide) (Or.inl (by decide)) (sem_at _ (by decide) rfl) (credit_buf _ _ rfl) ?_
  refine ld_slot0 rfl ?_
  refine ld_tile_any fun _ => ?_
  refine st_tile rfl rfl ?_
  refine ld_own 8 rfl ?_
  refine ld_tile 8 (by decide) (by decide) rfl ?_
  refine ld_sum7 off00 ?_
  refine ld_sum7 off00 ?_
  exact ret_step H

/-- Part 15 of the kernel. -/
theorem part15 {R : sProp 𝕄} {Q : (Vec F S128x256 .bf16) → sProp 𝕄}
    (H : iprop(CS m c K 33 11 (SlotBusy c 0 5) (SlotFull m c 1 5 9) 10 (xrPts c (xb m (partner c))) (acc m c (xb m c) 8) (acc m c (xb m (partner c)) 2) ∗ R) ⊢ Q (xcol (xb m c) 9)) :
    iprop(CS m c K 33 10 (SlotFull m c 0 5 8) (SlotBusy c 1 4) 9 (xrPts c (xb m (partner c))) (acc m c (xb m c) 7) (acc m c (xb m (partner c)) 1) ∗ R)
      ⊢ wpc c (k0_part15 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (k0_pay24 (xcol (xb m c) 8) (wbv m c 8) (acc m c (xb m c) 7))) Q := by
  rw [k0_part15_eq_skeleton]
  unfold k0_part15_skel
  refine st_sum7 off00 (w' := acc m c (xb m c) 8) rfl ?_
  refine ld_rem 2 rfl ?_
  refine ld_tile 2 (by decide) (by decide) rfl ?_
  refine ld_sum8 off00 ?_
  refine ld_sum8 off00 ?_
  refine st_sum8 off00 (w' := acc m c (xb m (partner c)) 2) rfl ?_
  refine cs_start0 10 5 rfl rfl full_free (by clear H; revert c; decide) (slot_of 0 rfl) (sem_at _ (by decide) rfl) ?_
  refine cs_wait1 4 9 rfl (by decide) (Or.inl (by decide)) (sem_at _ (by decide) rfl) (credit_buf _ _ rfl) ?_
  refine ld_slot1 rfl ?_
  refine ld_tile_any fun _ => ?_
  refine st_tile rfl rfl ?_
  refine ld_own 9 rfl ?_
  exact ret_step H

/-- Part 16 of the kernel. -/
theorem part16 {R : sProp 𝕄} {Q : (PUnit) → sProp 𝕄}
    (H : iprop(CS m c K 33 12 (SlotFull m c 0 6 10) (SlotBusy c 1 5) 10 (xrPts c (xb m (partner c))) (acc m c (xb m c) 9) (acc m c (xb m (partner c)) 3) ∗ R) ⊢ Q ⟨⟩) :
    iprop(CS m c K 33 11 (SlotBusy c 0 5) (SlotFull m c 1 5 9) 10 (xrPts c (xb m (partner c))) (acc m c (xb m c) 8) (acc m c (xb m (partner c)) 2) ∗ R)
      ⊢ wpc c (k0_part16 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (xcol (xb m c) 9)) Q := by
  rw [k0_part16_eq_skeleton]
  unfold k0_part16_skel
  refine ld_tile 9 (by decide) (by decide) rfl ?_
  refine ld_sum7 off00 ?_
  refine ld_sum7 off00 ?_
  refine st_sum7 off00 (w' := acc m c (xb m c) 9) rfl ?_
  refine ld_rem 3 rfl ?_
  refine ld_tile 3 (by decide) (by decide) rfl ?_
  refine ld_sum8 off00 ?_
  refine ld_sum8 off00 ?_
  refine st_sum8 off00 (w' := acc m c (xb m (partner c)) 3) rfl ?_
  refine cs_start1 11 5 rfl rfl full_free (by clear H; revert c; decide) (slot_of 1 rfl) (sem_at _ (by decide) rfl) ?_
  refine cs_wait0 5 10 rfl (by decide) (Or.inl (by decide)) (sem_at _ (by decide) rfl) (credit_buf _ _ rfl) ?_
  exact ret_step H

/-- Part 17 of the kernel. -/
theorem part17 {R : sProp 𝕄} {Q : (PUnit) → sProp 𝕄}
    (H : iprop(CS m c K 33 12 (SlotFull m c 0 6 10) (SlotBusy c 1 5) 11 (xrPts c (xb m (partner c))) (acc m c (xb m c) 10) (acc m c (xb m (partner c)) 4) ∗ R) ⊢ Q ⟨⟩) :
    iprop(CS m c K 33 12 (SlotFull m c 0 6 10) (SlotBusy c 1 5) 10 (xrPts c (xb m (partner c))) (acc m c (xb m c) 9) (acc m c (xb m (partner c)) 3) ∗ R)
      ⊢ wpc c (k0_part17 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 ) Q := by
  rw [k0_part17_eq_skeleton]
  unfold k0_part17_skel
  refine ld_slot0 rfl ?_
  refine ld_tile_any fun _ => ?_
  refine st_tile rfl rfl ?_
  refine ld_own 10 rfl ?_
  refine ld_tile 10 (by decide) (by decide) rfl ?_
  refine ld_sum7 off00 ?_
  refine ld_sum7 off00 ?_
  refine st_sum7 off00 (w' := acc m c (xb m c) 10) rfl ?_
  refine ld_rem 4 rfl ?_
  refine ld_tile 4 (by decide) (by decide) rfl ?_
  refine ld_sum8 off00 ?_
  refine ld_sum8 off00 ?_
  refine st_sum8 off00 (w' := acc m c (xb m (partner c)) 4) rfl ?_
  exact ret_step H

/-- Part 18 of the kernel. -/
theorem part18 {R : sProp 𝕄} {Q : (FVec F S128x4096 .f32) → sProp 𝕄}
    (H : iprop(CS m c K 33 13 (SlotBusy c 0 6) (SlotFull m c 1 6 11) 12 (xrPts c (xb m (partner c))) (acc m c (xb m c) 11) (acc m c (xb m (partner c)) 4) ∗ R) ⊢ Q (k0_pay34 (xcol (xb m (partner c)) 5) (wbv m c 5) (acc m c (xb m (partner c)) 4))) :
    iprop(CS m c K 33 12 (SlotFull m c 0 6 10) (SlotBusy c 1 5) 11 (xrPts c (xb m (partner c))) (acc m c (xb m c) 10) (acc m c (xb m (partner c)) 4) ∗ R)
      ⊢ wpc c (k0_part18 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part18_eq_skeleton]
  unfold k0_part18_skel
  refine cs_start0 12 6 rfl rfl full_free (by clear H; revert c; decide) (slot_of 0 rfl) (sem_at _ (by decide) rfl) ?_
  refine cs_wait1 5 11 rfl (by decide) (Or.inl (by decide)) (sem_at _ (by decide) rfl) (credit_buf _ _ rfl) ?_
  refine ld_slot1 rfl ?_
  refine ld_tile_any fun _ => ?_
  refine st_tile rfl rfl ?_
  refine ld_own 11 rfl ?_
  refine ld_tile 11 (by decide) (by decide) rfl ?_
  refine ld_sum7 off00 ?_
  refine ld_sum7 off00 ?_
  refine st_sum7 off00 (w' := acc m c (xb m c) 11) rfl ?_
  refine ld_rem 5 rfl ?_
  refine ld_tile 5 (by decide) (by decide) rfl ?_
  refine ld_sum8 off00 ?_
  exact ret_step H

end Cert.QuantProof
-- ==== Proof.PartsD.lean ====
/-
# Parts 19 to 25: the products
-/
module

public import proofs.«01_k».proof.Proof.Words

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- Part 19 of the kernel. -/
theorem part19 {R : sProp 𝕄} {Q : (FVec F S128x4096 .f32) → sProp 𝕄}
    (H : iprop(CS m c K 33 14 (SlotFull m c 0 7 12) (SlotBusy c 1 6) 13 (xrPts c (xb m (partner c))) (acc m c (xb m c) 11) (acc m c (xb m (partner c)) 5) ∗ R) ⊢ Q (k0_pay37 (xcol (xb m c) 12) (wbv m c 12) (acc m c (xb m c) 11))) :
    iprop(CS m c K 33 13 (SlotBusy c 0 6) (SlotFull m c 1 6 11) 12 (xrPts c (xb m (partner c))) (acc m c (xb m c) 11) (acc m c (xb m (partner c)) 4) ∗ R)
      ⊢ wpc c (k0_part19 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (k0_pay34 (xcol (xb m (partner c)) 5) (wbv m c 5) (acc m c (xb m (partner c)) 4))) Q := by
  rw [k0_part19_eq_skeleton]
  unfold k0_part19_skel
  refine ld_sum8 off00 ?_
  refine st_sum8 off00 (w' := acc m c (xb m (partner c)) 5) rfl ?_
  refine cs_start1 13 6 rfl rfl full_free (by clear H; revert c; decide) (slot_of 1 rfl) (sem_at _ (by decide) rfl) ?_
  refine cs_wait0 6 12 rfl (by decide) (Or.inl (by decide)) (sem_at _ (by decide) rfl) (credit_buf _ _ rfl) ?_
  refine ld_slot0 rfl ?_
  refine ld_tile_any fun _ => ?_
  refine st_tile rfl rfl ?_
  refine ld_own 12 rfl ?_
  refine ld_tile 12 (by decide) (by decide) rfl ?_
  refine ld_sum7 off00 ?_
  refine ld_sum7 off00 ?_
  exact ret_step H

/-- Part 20 of the kernel. -/
theorem part20 {R : sProp 𝕄} {Q : (Vec F S128x256 .bf16) → sProp 𝕄}
    (H : iprop(CS m c K 33 15 (SlotBusy c 0 7) (SlotFull m c 1 7 13) 14 (xrPts c (xb m (partner c))) (acc m c (xb m c) 12) (acc m c (xb m (partner c)) 6) ∗ R) ⊢ Q (xcol (xb m c) 13)) :
    iprop(CS m c K 33 14 (SlotFull m c 0 7 12) (SlotBusy c 1 6) 13 (xrPts c (xb m (partner c))) (acc m c (xb m c) 11) (acc m c (xb m (partner c)) 5) ∗ R)
      ⊢ wpc c (k0_part20 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (k0_pay37 (xcol (xb m c) 12) (wbv m c 12) (acc m c (xb m c) 11))) Q := by
  rw [k0_part20_eq_skeleton]
  unfold k0_part20_skel
  refine st_sum7 off00 (w' := acc m c (xb m c) 12) rfl ?_
  refine ld_rem 6 rfl ?_
  refine ld_tile 6 (by decide) (by decide) rfl ?_
  refine ld_sum8 off00 ?_
  refine ld_sum8 off00 ?_
  refine st_sum8 off00 (w' := acc m c (xb m (partner c)) 6) rfl ?_
  refine cs_start0 14 7 rfl rfl full_free (by clear H; revert c; decide) (slot_of 0 rfl) (sem_at _ (by decide) rfl) ?_
  refine cs_wait1 6 13 rfl (by decide) (Or.inl (by decide)) (sem_at _ (by decide) rfl) (credit_buf _ _ rfl) ?_
  refine ld_slot1 rfl ?_
  refine ld_tile_any fun _ => ?_
  refine st_tile rfl rfl ?_
  refine ld_own 13 rfl ?_
  exact ret_step H

/-- Part 21 of the kernel. -/
theorem part21 {R : sProp 𝕄} {Q : (PUnit) → sProp 𝕄}
    (H : iprop(CS m c K 33 16 (SlotFull m c 0 8 14) (SlotBusy c 1 7) 14 (xrPts c (xb m (partner c))) (acc m c (xb m c) 13) (acc m c (xb m (partner c)) 7) ∗ R) ⊢ Q ⟨⟩) :
    iprop(CS m c K 33 15 (SlotBusy c 0 7) (SlotFull m c 1 7 13) 14 (xrPts c (xb m (partner c))) (acc m c (xb m c) 12) (acc m c (xb m (partner c)) 6) ∗ R)
      ⊢ wpc c (k0_part21 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (xcol (xb m c) 13)) Q := by
  rw [k0_part21_eq_skeleton]
  unfold k0_part21_skel
  refine ld_tile 13 (by decide) (by decide) rfl ?_
  refine ld_sum7 off00 ?_
  refine ld_sum7 off00 ?_
  refine st_sum7 off00 (w' := acc m c (xb m c) 13) rfl ?_
  refine ld_rem 7 rfl ?_
  refine ld_tile 7 (by decide) (by decide) rfl ?_
  refine ld_sum8 off00 ?_
  refine ld_sum8 off00 ?_
  refine st_sum8 off00 (w' := acc m c (xb m (partner c)) 7) rfl ?_
  refine cs_start1 15 7 rfl rfl full_free (by clear H; revert c; decide) (slot_of 1 rfl) (sem_at _ (by decide) rfl) ?_
  refine cs_wait0 7 14 rfl (by decide) (Or.inl (by decide)) (sem_at _ (by decide) rfl) (credit_buf _ _ rfl) ?_
  exact ret_step H

/-- Part 22 of the kernel. -/
theorem part22 {R : sProp 𝕄} {Q : (PUnit) → sProp 𝕄}
    (H : iprop(CS m c K 33 16 (SlotFull m c 0 8 14) (SlotBusy c 1 7) 15 (xrPts c (xb m (partner c))) (acc m c (xb m c) 14) (acc m c (xb m (partner c)) 8) ∗ R) ⊢ Q ⟨⟩) :
    iprop(CS m c K 33 16 (SlotFull m c 0 8 14) (SlotBusy c 1 7) 14 (xrPts c (xb m (partner c))) (acc m c (xb m c) 13) (acc m c (xb m (partner c)) 7) ∗ R)
      ⊢ wpc c (k0_part22 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 ) Q := by
  rw [k0_part22_eq_skeleton]
  unfold k0_part22_skel
  refine ld_slot0 rfl ?_
  refine ld_tile_any fun _ => ?_
  refine st_tile rfl rfl ?_
  refine ld_own 14 rfl ?_
  refine ld_tile 14 (by decide) (by decide) rfl ?_
  refine ld_sum7 off00 ?_
  refine ld_sum7 off00 ?_
  refine st_sum7 off00 (w' := acc m c (xb m c) 14) rfl ?_
  refine ld_rem 8 rfl ?_
  refine ld_tile 8 (by decide) (by decide) rfl ?_
  refine ld_sum8 off00 ?_
  refine ld_sum8 off00 ?_
  refine st_sum8 off00 (w' := acc m c (xb m (partner c)) 8) rfl ?_
  exact ret_step H

/-- Part 23 of the kernel. -/
theorem part23 {R : sProp 𝕄} {Q : (Vec F S128x4096 .f32) → sProp 𝕄}
    (H : iprop(CS m c K 33 16 (SlotFull m c 0 8 14) (SlotFull m c 1 8 15) 16 (xrPts c (xb m (partner c))) (acc m c (xb m c) 15) (acc m c (xb m (partner c)) 9) ∗ R) ⊢ Q (acc m c (xb m (partner c)) 9)) :
    iprop(CS m c K 33 16 (SlotFull m c 0 8 14) (SlotBusy c 1 7) 15 (xrPts c (xb m (partner c))) (acc m c (xb m c) 14) (acc m c (xb m (partner c)) 8) ∗ R)
      ⊢ wpc c (k0_part23 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c) Q := by
  rw [k0_part23_eq_skeleton]
  unfold k0_part23_skel
  refine cs_wait1 7 15 rfl (by decide) (Or.inl (by decide)) (sem_at _ (by decide) rfl) (credit_buf _ _ rfl) ?_
  refine ld_slot1 rfl ?_
  refine ld_tile_any fun _ => ?_
  refine st_tile rfl rfl ?_
  refine ld_own 15 rfl ?_
  refine ld_tile 15 (by decide) (by decide) rfl ?_
  refine ld_sum7 off00 ?_
  refine ld_sum7 off00 ?_
  refine st_sum7 off00 (w' := acc m c (xb m c) 15) rfl ?_
  refine ld_rem 9 rfl ?_
  refine ld_tile 9 (by decide) (by decide) rfl ?_
  refine ld_sum8 off00 ?_
  refine ld_sum8 off00 ?_
  refine st_sum8 off00 (w' := acc m c (xb m (partner c)) 9) rfl ?_
  refine ld_sum8 off00 ?_
  exact ret_step H

/-- Part 24 of the kernel. -/
theorem part24 {R : sProp 𝕄} {Q : (Vec F S128x4096 .f32) → sProp 𝕄}
    (H : iprop(CS m c K 33 16 (SlotFull m c 0 8 14) (SlotFull m c 1 8 15) 16 (xrPts c (xb m (partner c))) (acc m c (xb m c) 15) (acc m c (xb m (partner c)) 12) ∗ R) ⊢ Q (acc m c (xb m (partner c)) 12)) :
    iprop(CS m c K 33 16 (SlotFull m c 0 8 14) (SlotFull m c 1 8 15) 16 (xrPts c (xb m (partner c))) (acc m c (xb m c) 15) (acc m c (xb m (partner c)) 9) ∗ R)
      ⊢ wpc c (k0_part24 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (acc m c (xb m (partner c)) 9)) Q := by
  rw [k0_part24_eq_skeleton]
  unfold k0_part24_skel
  refine ld_rem 10 rfl ?_
  refine ld_tile 10 (by decide) (by decide) rfl ?_
  refine ld_sum8 off00 ?_
  refine st_sum8 off00 (w' := acc m c (xb m (partner c)) 10) rfl ?_
  refine ld_sum8 off00 ?_
  refine ld_rem 11 rfl ?_
  refine ld_tile 11 (by decide) (by decide) rfl ?_
  refine ld_sum8 off00 ?_
  refine st_sum8 off00 (w' := acc m c (xb m (partner c)) 11) rfl ?_
  refine ld_sum8 off00 ?_
  refine ld_rem 12 rfl ?_
  refine ld_tile 12 (by decide) (by decide) rfl ?_
  refine ld_sum8 off00 ?_
  refine st_sum8 off00 (w' := acc m c (xb m (partner c)) 12) rfl ?_
  refine ld_sum8 off00 ?_
  exact ret_step H

/-- Part 25 of the kernel. -/
theorem part25 {R : sProp 𝕄} {Q : (FVec F S1x128x4096 .f32) → sProp 𝕄}
    (H : iprop(CS m c K 33 16 (SlotFull m c 0 8 14) (SlotFull m c 1 8 15) 16 (xrPts c (xb m (partner c))) (acc m c (xb m c) 15) (acc m c (xb m (partner c)) 15) ∗ R) ⊢ Q (k0_pay54 (acc m c (xb m c) 15))) :
    iprop(CS m c K 33 16 (SlotFull m c 0 8 14) (SlotFull m c 1 8 15) 16 (xrPts c (xb m (partner c))) (acc m c (xb m c) 15) (acc m c (xb m (partner c)) 12) ∗ R)
      ⊢ wpc c (k0_part25 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (acc m c (xb m (partner c)) 12)) Q := by
  rw [k0_part25_eq_skeleton]
  unfold k0_part25_skel
  refine ld_rem 13 rfl ?_
  refine ld_tile 13 (by decide) (by decide) rfl ?_
  refine ld_sum8 off00 ?_
  refine st_sum8 off00 (w' := acc m c (xb m (partner c)) 13) rfl ?_
  refine ld_sum8 off00 ?_
  refine ld_rem 14 rfl ?_
  refine ld_tile 14 (by decide) (by decide) rfl ?_
  refine ld_sum8 off00 ?_
  refine st_sum8 off00 (w' := acc m c (xb m (partner c)) 14) rfl ?_
  refine ld_sum8 off00 ?_
  refine ld_rem 15 rfl ?_
  refine ld_tile 15 (by decide) (by decide) rfl ?_
  refine ld_sum8 off00 ?_
  refine st_sum8 off00 (w' := acc m c (xb m (partner c)) 15) rfl ?_
  refine ld_sum7 off00 ?_
  exact ret_step H

end Cert.QuantProof
-- ==== Proof.PartsE.lean ====
/-
# Parts 26 to 29: the maxima are sent
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 26 of the kernel. -/
theorem part26 {R : sProp 𝕄} {fma : Buf (Elt F) (maM.view.loc (c : Thread nD τ))} {Q : (Σ' (v715 : F .f32), BitVec 32) → sProp 𝕄}
    (H : iprop(Core m K c 39 ∗ Ph (asA m c) (asB m c) 6 ∗ yoPts c (acc m c (xb m c) 15) ∗ yrPts c (acc m c (xb m (partner c)) 15) ∗ CZ m c ∗ R) ⊢ Q ⟨k0_pay55 (k0_pay54 (acc m c (xb m c) 15)) (acc m c (xb m (partner c)) 15), (Scalar.extui (Scalar.cmpi .ne (w2 c) 6#32))⟩) :
    iprop(CS m c K 33 16 (SlotFull m c 0 8 14) (SlotFull m c 1 8 15) 16 (xrPts c (xb m (partner c))) (acc m c (xb m c) 15) (acc m c (xb m (partner c)) 15) ∗ maW c fma ∗ Rows c ∗ AsT c ∗ R)
      ⊢ wpc c (k0_part26 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (k0_pay54 (acc m c (xb m c) 15))) Q := by
  rw [k0_part26_eq_skeleton]
  unfold k0_part26_skel
  refine ld_sum8 off00 ?_
  refine ent_trans (P2 := iprop(maW c fma ∗ CS m c K 33 16 (SlotFull m c 0 8 14) (SlotFull m c 1 8 15) 16 (xrPts c (xb m (partner c))) (acc m c (xb m c) 15) (acc m c (xb m (partner c)) 15) ∗ Rows c ∗ AsT c ∗ R)) ?_ ?_
  · iintro ⟨HCSe, Hmf, Hrows, HasT, HR⟩
    isplitl [Hmf]; · iexact Hmf
    isplitl [HCSe]; · iexact HCSe
    isplitl [Hrows]; · iexact Hrows
    isplitl [HasT]; · iexact HasT
    iexact HR
  refine ld_any fun _ => ?_
  refine st_eq (amaxRow m c) (Memref.write_access_unit_zero_univ (Elt F) cc0_scratch8 off00 _ _ _) ?_
  refine ent_trans (P2 := iprop(Core m K c 33 ∗ Ph (asA m c) (asB m c) 0 ∗ yoPts c (acc m c (xb m c) 15) ∗ yrPts c (acc m c (xb m (partner c)) 15) ∗ CZ m c ∗ R)) ?_ ?_
  · iintro ⟨Hma, HCSe, Hrows, HasT, HR⟩
    ihave HC := cs_open $$ HCSe
    icases HC with ⟨HC33, HCX⟩
    ihave HC2 := cx_end $$ HCX
    icases HC2 with ⟨Hyo, Hyr, HCZ⟩
    ihave HPas0 := as_intro $$ [Hma Hrows HasT]
    · isplitl [Hma]; · iexact Hma
      isplitl [Hrows]; · iexact Hrows
      iexact HasT
    isplitl [HC33]; · iexact HC33
    isplitl [HPas0]; · iexact HPas0
    isplitl [Hyo]; · iexact Hyo
    isplitl [Hyr]; · iexact Hyr
    isplitl [HCZ]; · iexact HCZ
    iexact HR
  refine as_step 0 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 1 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 2 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 3 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 4 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 5 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  exact ret_step H

set_option maxHeartbeats 8000000 in
/-- Part 27 of the kernel. -/
theorem part27 {R : sProp 𝕄} {Q : (BitVec 32) → sProp 𝕄}
    (H : iprop(Core m K c 49 ∗ Ph (asA m c) (asB m c) 16 ∗ R) ⊢ Q (Scalar.extui (Scalar.cmpi .ne (w2 c) 16#32))) :
    iprop(Core m K c 39 ∗ Ph (asA m c) (asB m c) 6 ∗ R)
      ⊢ wpc c (k0_part27 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) ((Scalar.extui (Scalar.cmpi .ne (w2 c) 6#32)))) Q := by
  rw [k0_part27_eq_skeleton]
  unfold k0_part27_skel
  refine as_step 6 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 7 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 8 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 9 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 10 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 11 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 12 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 13 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 14 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 15 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  exact ret_step H

set_option maxHeartbeats 8000000 in
/-- Part 28 of the kernel. -/
theorem part28 {R : sProp 𝕄} {Q : (BitVec 32) → sProp 𝕄}
    (H : iprop(Core m K c 59 ∗ Ph (asA m c) (asB m c) 26 ∗ R) ⊢ Q (Scalar.extui (Scalar.cmpi .ne (w2 c) 26#32))) :
    iprop(Core m K c 49 ∗ Ph (asA m c) (asB m c) 16 ∗ R)
      ⊢ wpc c (k0_part28 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (Scalar.extui (Scalar.cmpi .ne (w2 c) 16#32))) Q := by
  rw [k0_part28_eq_skeleton]
  unfold k0_part28_skel
  refine as_step 16 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 17 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 18 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 19 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 20 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 21 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 22 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 23 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 24 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 25 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  exact ret_step H

set_option maxHeartbeats 8000000 in
/-- Part 29 of the kernel. -/
theorem part29 {R : sProp 𝕄} {Q : (BitVec 32) → sProp 𝕄}
    (H : iprop(Core m K c 65 ∗ Ph (arA m c) (arB m c) 4 ∗ Ph (asA m c) (asB m c) 32 ∗ R) ⊢ Q (Scalar.extui (Scalar.cmpi .ne (w2 c) 4#32))) :
    iprop(Core m K c 59 ∗ Ph (asA m c) (asB m c) 26 ∗ Ph (arA m c) (arB m c) 0 ∗ R)
      ⊢ wpc c (k0_part29 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (Scalar.extui (Scalar.cmpi .ne (w2 c) 26#32))) Q := by
  rw [k0_part29_eq_skeleton]
  unfold k0_part29_skel
  refine as_step 26 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 27 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 28 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 29 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 30 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  refine as_step 31 rfl rfl (by clear * - c; revert c; decide) (fun _ => rfl) (fun h => row_of c (by clear * - c; revert c; decide)) (fun _ => rfl) (fun _ => sem_at _ (by decide) rfl) (fun h => sem_at _ (by simp) (by clear * - c; revert c; decide)) ?_
  show iprop(Core m K c 65 ∗ Ph (asA m c) (asB m c) 32 ∗ _) ⊢ _
  refine ent_trans (P2 := iprop(Core m K c 65 ∗ Ph (arA m c) (arB m c) 0 ∗ Ph (asA m c) (asB m c) 32 ∗ R)) ?_ ?_
  · iintro ⟨HC65, HPas32, HPar0, HR⟩
    isplitl [HC65]; · iexact HC65
    isplitl [HPar0]; · iexact HPar0
    isplitl [HPas32]; · iexact HPas32
    iexact HR
  refine ar_step 0 rfl (by clear * - c; revert c; decide) (fun _ => rfl) (fun _ => sem_at _ (by decide) rfl) ?_
  refine ar_step 1 rfl (by clear * - c; revert c; decide) (fun _ => rfl) (fun _ => sem_at _ (by decide) rfl) ?_
  refine ar_step 2 rfl (by clear * - c; revert c; decide) (fun _ => rfl) (fun _ => sem_at _ (by decide) rfl) ?_
  refine ar_step 3 rfl (by clear * - c; revert c; decide) (fun _ => rfl) (fun _ => sem_at _ (by decide) rfl) ?_
  exact ret_step H

end Cert.QuantProof
-- ==== Proof.PartsF.lean ====
/-
# Parts 30 to 33: the maxima arrive and the rows are quantized
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 30 of the kernel. -/
theorem part30 {R : sProp 𝕄} {Q : (BitVec 32) → sProp 𝕄}
    (H : iprop(Core m K c 65 ∗ Ph (arA m c) (arB m c) 14 ∗ R) ⊢ Q (Scalar.extui (Scalar.cmpi .ne (w2 c) 14#32))) :
    iprop(Core m K c 65 ∗ Ph (arA m c) (arB m c) 4 ∗ R)
      ⊢ wpc c (k0_part30 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (Scalar.extui (Scalar.cmpi .ne (w2 c) 4#32))) Q := by
  rw [k0_part30_eq_skeleton]
  unfold k0_part30_skel
  refine ar_step 4 rfl (by clear * - c; revert c; decide) (fun _ => rfl) (fun _ => sem_at _ (by decide) rfl) ?_
  refine ar_step 5 rfl (by clear * - c; revert c; decide) (fun _ => rfl) (fun _ => sem_at _ (by decide) rfl) ?_
  refine ar_step 6 rfl (by clear * - c; revert c; decide) (fun _ => rfl) (fun _ => sem_at _ (by decide) rfl) ?_
  refine ar_step 7 rfl (by clear * - c; revert c; decide) (fun _ => rfl) (fun _ => sem_at _ (by decide) rfl) ?_
  refine ar_step 8 rfl (by clear * - c; revert c; decide) (fun _ => rfl) (fun _ => sem_at _ (by decide) rfl) ?_
  refine ar_step 9 rfl (by clear * - c; revert c; decide) (fun _ => rfl) (fun _ => sem_at _ (by decide) rfl) ?_
  refine ar_step 10 rfl (by clear * - c; revert c; decide) (fun _ => rfl) (fun _ => sem_at _ (by decide) rfl) ?_
  refine ar_step 11 rfl (by clear * - c; revert c; decide) (fun _ => rfl) (fun _ => sem_at _ (by decide) rfl) ?_
  refine ar_step 12 rfl (by clear * - c; revert c; decide) (fun _ => rfl) (fun _ => sem_at _ (by decide) rfl) ?_
  refine ar_step 13 rfl (by clear * - c; revert c; decide) (fun _ => rfl) (fun _ => sem_at _ (by decide) rfl) ?_
  exact ret_step H

set_option maxHeartbeats 8000000 in
/-- Part 31 of the kernel. -/
theorem part31 {R : sProp 𝕄} {Q : (BitVec 32) → sProp 𝕄}
    (H : iprop(Core m K c 65 ∗ Ph (arA m c) (arB m c) 24 ∗ R) ⊢ Q (Scalar.extui (Scalar.cmpi .ne (w2 c) 24#32))) :
    iprop(Core m K c 65 ∗ Ph (arA m c) (arB m c) 14 ∗ R)
      ⊢ wpc c (k0_part31 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (Scalar.extui (Scalar.cmpi .ne (w2 c) 14#32))) Q := by
  rw [k0_part31_eq_skeleton]
  unfold k0_part31_skel
  refine ar_step 14 rfl (by clear * - c; revert c; decide) (fun _ => rfl) (fun _ => sem_at _ (by decide) rfl) ?_
  refine ar_step 15 rfl (by clear * - c; revert c; decide) (fun _ => rfl) (fun _ => sem_at _ (by decide) rfl) ?_
  refine ar_step 16 rfl (by clear * - c; revert c; decide) (fun _ => rfl) (fun _ => sem_at _ (by decide) rfl) ?_
  refine ar_step 17 rfl (by clear * - c; revert c; decide) (fun _ => rfl) (fun _ => sem_at _ (by decide) rfl) ?_
  refine ar_step 18 rfl (by clear * - c; revert c; decide) (fun _ => rfl) (fun _ => sem_at _ (by decide) rfl) ?_
  refine ar_step 19 rfl (by clear * - c; revert c; decide) (fun _ => rfl) (fun _ => sem_at _ (by decide) rfl) ?_
  refine ar_step 20 rfl (by clear * - c; revert c; decide) (fun _ => rfl) (fun _ => sem_at _ (by decide) rfl) ?_
  refine ar_step 21 rfl (by clear * - c; revert c; decide) (fun _ => rfl) (fun _ => sem_at _ (by decide) rfl) ?_
  refine ar_step 22 rfl (by clear * - c; revert c; decide) (fun _ => rfl) (fun _ => sem_at _ (by decide) rfl) ?_
  refine ar_step 23 rfl (by clear * - c; revert c; decide) (fun _ => rfl) (fun _ => sem_at _ (by decide) rfl) ?_
  exact ret_step H

set_option maxHeartbeats 8000000 in
/-- Part 32 of the kernel. -/
theorem part32 {R : sProp 𝕄} {Q : (Σ' (v918 : F .f32) (v919 : Vec F S128x4096 .f32), FVec F S128x4096 .f32) → sProp 𝕄}
    (H : iprop(yoW c (acc m c (xb m c) 15) ∗ abPts c (GG m c) ∗ Core m K c 65 ∗ DAr m c ∗ R) ⊢ Q ⟨k0_pay57 (k0_pay55 (k0_pay54 (acc m c (xb m c) 15)) (acc m c (xb m (partner c)) 15)) (GG m c), (acc m c (xb m c) 15), k0_pay58 (k0_pay55 (k0_pay54 (acc m c (xb m c) 15)) (acc m c (xb m (partner c)) 15)) (GG m c)⟩) :
    iprop(Core m K c 65 ∗ Ph (arA m c) (arB m c) 24 ∗ yoPts c (acc m c (xb m c) 15) ∗ R)
      ⊢ wpc c (k0_part32 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (k0_pay55 (k0_pay54 (acc m c (xb m c) 15)) (acc m c (xb m (partner c)) 15)) (Scalar.extui (Scalar.cmpi .ne (w2 c) 24#32))) Q := by
  rw [k0_part32_eq_skeleton]
  unfold k0_part32_skel
  refine ar_step 24 rfl (by clear * - c; revert c; decide) (fun _ => rfl) (fun _ => sem_at _ (by decide) rfl) ?_
  refine ar_step 25 rfl (by clear * - c; revert c; decide) (fun _ => rfl) (fun _ => sem_at _ (by decide) rfl) ?_
  refine ar_step 26 rfl (by clear * - c; revert c; decide) (fun _ => rfl) (fun _ => sem_at _ (by decide) rfl) ?_
  refine ar_step 27 rfl (by clear * - c; revert c; decide) (fun _ => rfl) (fun _ => sem_at _ (by decide) rfl) ?_
  refine ar_step 28 rfl (by clear * - c; revert c; decide) (fun _ => rfl) (fun _ => sem_at _ (by decide) rfl) ?_
  refine ar_step 29 rfl (by clear * - c; revert c; decide) (fun _ => rfl) (fun _ => sem_at _ (by decide) rfl) ?_
  refine ar_step 30 rfl (by clear * - c; revert c; decide) (fun _ => rfl) (fun _ => sem_at _ (by decide) rfl) ?_
  refine ar_step 31 rfl (by clear * - c; revert c; decide) (fun _ => rfl) (fun _ => sem_at _ (by decide) rfl) ?_
  show iprop(Core m K c 65 ∗ Ph (arA m c) (arB m c) 32 ∗ _) ⊢ _
  refine ent_trans (P2 := iprop(abPts c (GG m c) ∗ Core m K c 65 ∗ DAr m c ∗ yoPts c (acc m c (xb m c) 15) ∗ R)) ?_ ?_
  · iintro ⟨HC65, HPr, Hyo, HR⟩
    ihave Hj := ar_join $$ HPr
    icases Hj with ⟨HDAr, HabG⟩
    isplitl [HabG]; · iexact HabG
    isplitl [HC65]; · iexact HC65
    isplitl [HDAr]; · iexact HDAr
    isplitl [Hyo]; · iexact Hyo
    iexact HR
  refine ld_eq (GG m c) (Memref.readAt_unit_zero (Elt F) cc0_scratch9 off00 _ _) ?_
  refine ent_trans (P2 := iprop(yoW c (acc m c (xb m c) 15) ∗ abPts c (GG m c) ∗ Core m K c 65 ∗ DAr m c ∗ R)) ?_ ?_
  · iintro ⟨HabG, HC65, HDAr, Hyo, HR⟩
    ihave Hyow := yo_raw $$ Hyo
    isplitl [Hyow]; · iexact Hyow
    isplitl [HabG]; · iexact HabG
    isplitl [HC65]; · iexact HC65
    isplitl [HDAr]; · iexact HDAr
    iexact HR
  refine ld_eq (acc m c (xb m c) 15) (Memref.readAt_unit_zero (Elt F) cc0_scratch4 off00 _ _) ?_
  exact ret_step H

set_option maxHeartbeats 8000000 in
/-- Part 33 of the kernel. -/
theorem part33 {R : sProp 𝕄} {fyq : Buf (Elt F) (yqM.view.loc (c : Thread nD τ))} {Q : (BitVec 32) → sProp 𝕄}
    (H : iprop(Core m K c 67 ∗ Ph (csA m c) (csB m c) 2 ∗ yrW c (acc m c (xb m (partner c)) 15) ∗ R) ⊢ Q (Scalar.muli (w12 c) 16#32)) :
    iprop(yqW c fyq ∗ yrW c (acc m c (xb m (partner c)) 15) ∗ Core m K c 65 ∗ Blks c ∗ CsT c ∗ R)
      ⊢ wpc c (k0_part33 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c) (k0_pay57 (k0_pay55 (k0_pay54 (acc m c (xb m c) 15)) (acc m c (xb m (partner c)) 15)) (GG m c)) ((acc m c (xb m c) 15)) (k0_pay58 (k0_pay55 (k0_pay54 (acc m c (xb m c) 15)) (acc m c (xb m (partner c)) 15)) (GG m c))) Q := by
  rw [k0_part33_eq_skeleton]
  unfold k0_part33_skel
  refine ld_any fun _ => ?_
  refine st_eq _ rfl ?_
  refine ld_eq_snd (acc m c (xb m (partner c)) 15) (Memref.readAt_unit_zero (Elt F) cc0_scratch5 off00 _ _) ?_
  refine ld_any fun _ => ?_
  refine st_eq (QQ m c) (quot_stored m c fyq (by clear * - c; revert c; decide) (by clear * - c; revert c; decide) _ _) ?_
  refine ent_trans (P2 := iprop(Core m K c 65 ∗ Ph (csA m c) (csB m c) 0 ∗ yrW c (acc m c (xb m (partner c)) 15) ∗ R)) ?_ ?_
  · iintro ⟨Hqq, Hyrw, HC65, Hblks, HcsT, HR⟩
    ihave HPcs0 := cs_intro $$ [Hqq Hblks HcsT]
    · isplitl [Hqq]; · iexact Hqq
      isplitl [Hblks]; · iexact Hblks
      iexact HcsT
    isplitl [HC65]; · iexact HC65
    isplitl [HPcs0]; · iexact HPcs0
    isplitl [Hyrw]; · iexact Hyrw
    iexact HR
  refine cs_step 0 rfl rfl (by clear * - c; revert c; decide) (fun _ => chk_of 0 rfl) (fun h => blk_of (pair c) (by clear * - c; revert c; decide)) (fun h => Fin.ext (by show k0_dev66 c = (dest c 0).val; clear * - c; revert c; decide)) (fun _ => sem_at _ (by decide) rfl) (fun h => sem_at _ (by simp) (by clear * - c; revert c; decide)) ?_
  refine cs_step 1 rfl rfl (by clear * - c; revert c; decide) (fun _ => chk_of 1 rfl) (fun h => blk_of (pair c) (by clear * - c; revert c; decide)) (fun h => Fin.ext (by show k0_dev67 c = (dest c 1).val; clear * - c; revert c; decide)) (fun _ => sem_at _ (by decide) rfl) (fun h => sem_at _ (by simp) (by clear * - c; revert c; decide)) ?_
  exact ret_step H

end Cert.QuantProof
-- ==== Proof.PartsG.lean ====
/-
# Parts 34 to 37: the blocks are sent
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 34 of the kernel. -/
theorem part34 {R : sProp 𝕄} {Q : (BitVec 32) → sProp 𝕄}
    (H : iprop(Core m K c 73 ∗ Ph (csA m c) (csB m c) 8 ∗ R) ⊢ Q (Scalar.addi (Scalar.muli (w12 c) 16#32) 8#32)) :
    iprop(Core m K c 67 ∗ Ph (csA m c) (csB m c) 2 ∗ R)
      ⊢ wpc c (k0_part34 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c) (Scalar.muli (w12 c) 16#32)) Q := by
  rw [k0_part34_eq_skeleton]
  unfold k0_part34_skel
  refine cs_step 2 rfl rfl (by clear * - c; revert c; decide) (fun _ => chk_of 2 rfl) (fun h => blk_of (pair c) (by clear * - c; revert c; decide)) (fun h => Fin.ext (by show k0_dev68 c = (dest c 2).val; clear * - c; revert c; decide)) (fun _ => sem_at _ (by decide) rfl) (fun h => sem_at _ (by simp) (by clear * - c; revert c; decide)) ?_
  refine cs_step 3 rfl rfl (by clear * - c; revert c; decide) (fun _ => chk_of 3 rfl) (fun h => blk_of (pair c) (by clear * - c; revert c; decide)) (fun h => Fin.ext (by show k0_dev69 c = (dest c 3).val; clear * - c; revert c; decide)) (fun _ => sem_at _ (by decide) rfl) (fun h => sem_at _ (by simp) (by clear * - c; revert c; decide)) ?_
  refine cs_step 4 rfl rfl (by clear * - c; revert c; decide) (fun _ => chk_of 4 rfl) (fun h => blk_of (pair c) (by clear * - c; revert c; decide)) (fun h => Fin.ext (by show k0_dev70 c = (dest c 4).val; clear * - c; revert c; decide)) (fun _ => sem_at _ (by decide) rfl) (fun h => sem_at _ (by simp) (by clear * - c; revert c; decide)) ?_
  refine cs_step 5 rfl rfl (by clear * - c; revert c; decide) (fun _ => chk_of 5 rfl) (fun h => blk_of (pair c) (by clear * - c; revert c; decide)) (fun h => Fin.ext (by show k0_dev71 c = (dest c 5).val; clear * - c; revert c; decide)) (fun _ => sem_at _ (by decide) rfl) (fun h => sem_at _ (by simp) (by clear * - c; revert c; decide)) ?_
  refine cs_step 6 rfl rfl (by clear * - c; revert c; decide) (fun _ => chk_of 6 rfl) (fun h => blk_of (pair c) (by clear * - c; revert c; decide)) (fun h => Fin.ext (by show k0_dev72 c = (dest c 6).val; clear * - c; revert c; decide)) (fun _ => sem_at _ (by decide) rfl) (fun h => sem_at _ (by simp) (by clear * - c; revert c; decide)) ?_
  refine cs_step 7 rfl rfl (by clear * - c; revert c; decide) (fun _ => chk_of 7 rfl) (fun h => blk_of (pair c) (by clear * - c; revert c; decide)) (fun h => Fin.ext (by show k0_dev73 c = (dest c 7).val; clear * - c; revert c; decide)) (fun _ => sem_at _ (by decide) rfl) (fun h => sem_at _ (by simp) (by clear * - c; revert c; decide)) ?_
  exact ret_step H

set_option maxHeartbeats 8000000 in
/-- Part 35 of the kernel. -/
theorem part35 {R : sProp 𝕄} {Q : (Σ' (v1024 : BitVec 32), BitVec 1) → sProp 𝕄}
    (H : iprop(Core m K c 80 ∗ Ph (csA m c) (csB m c) 15 ∗ R) ⊢ Q ⟨(Scalar.addi (Scalar.muli (w12 c) 16#32) 15#32), (Scalar.cmpi .ne (Scalar.addi (Scalar.muli (w12 c) 16#32) 15#32) (w2 c))⟩) :
    iprop(Core m K c 73 ∗ Ph (csA m c) (csB m c) 8 ∗ R)
      ⊢ wpc c (k0_part35 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c) (Scalar.addi (Scalar.muli (w12 c) 16#32) 8#32)) Q := by
  rw [k0_part35_eq_skeleton]
  unfold k0_part35_skel
  refine cs_step 8 rfl rfl (by clear * - c; revert c; decide) (fun _ => chk_of 8 rfl) (fun h => blk_of (pair c) (by clear * - c; revert c; decide)) (fun h => Fin.ext (by show k0_dev74 c = (dest c 8).val; clear * - c; revert c; decide)) (fun _ => sem_at _ (by decide) rfl) (fun h => sem_at _ (by simp) (by clear * - c; revert c; decide)) ?_
  refine cs_step 9 rfl rfl (by clear * - c; revert c; decide) (fun _ => chk_of 9 rfl) (fun h => blk_of (pair c) (by clear * - c; revert c; decide)) (fun h => Fin.ext (by show k0_dev75 c = (dest c 9).val; clear * - c; revert c; decide)) (fun _ => sem_at _ (by decide) rfl) (fun h => sem_at _ (by simp) (by clear * - c; revert c; decide)) ?_
  refine cs_step 10 rfl rfl (by clear * - c; revert c; decide) (fun _ => chk_of 10 rfl) (fun h => blk_of (pair c) (by clear * - c; revert c; decide)) (fun h => Fin.ext (by show k0_dev76 c = (dest c 10).val; clear * - c; revert c; decide)) (fun _ => sem_at _ (by decide) rfl) (fun h => sem_at _ (by simp) (by clear * - c; revert c; decide)) ?_
  refine cs_step 11 rfl rfl (by clear * - c; revert c; decide) (fun _ => chk_of 11 rfl) (fun h => blk_of (pair c) (by clear * - c; revert c; decide)) (fun h => Fin.ext (by show k0_dev77 c = (dest c 11).val; clear * - c; revert c; decide)) (fun _ => sem_at _ (by decide) rfl) (fun h => sem_at _ (by simp) (by clear * - c; revert c; decide)) ?_
  refine cs_step 12 rfl rfl (by clear * - c; revert c; decide) (fun _ => chk_of 12 rfl) (fun h => blk_of (pair c) (by clear * - c; revert c; decide)) (fun h => Fin.ext (by show k0_dev78 c = (dest c 12).val; clear * - c; revert c; decide)) (fun _ => sem_at _ (by decide) rfl) (fun h => sem_at _ (by simp) (by clear * - c; revert c; decide)) ?_
  refine cs_step 13 rfl rfl (by clear * - c; revert c; decide) (fun _ => chk_of 13 rfl) (fun h => blk_of (pair c) (by clear * - c; revert c; decide)) (fun h => Fin.ext (by show k0_dev79 c = (dest c 13).val; clear * - c; revert c; decide)) (fun _ => sem_at _ (by decide) rfl) (fun h => sem_at _ (by simp) (by clear * - c; revert c; decide)) ?_
  refine cs_step 14 rfl rfl (by clear * - c; revert c; decide) (fun _ => chk_of 14 rfl) (fun h => blk_of (pair c) (by clear * - c; revert c; decide)) (fun h => Fin.ext (by show k0_dev80 c = (dest c 14).val; clear * - c; revert c; decide)) (fun _ => sem_at _ (by decide) rfl) (fun h => sem_at _ (by simp) (by clear * - c; revert c; decide)) ?_
  exact ret_step H

set_option maxHeartbeats 8000000 in
/-- Part 36 of the kernel. -/
theorem part36 {R : sProp 𝕄} {Q : (PUnit) → sProp 𝕄}
    (H : iprop(Core m K c 81 ∗ Ph (crA c) (crB m c) 5 ∗ selfB c ∗ CwC c ∗ R) ⊢ Q ⟨⟩) :
    iprop(Core m K c 80 ∗ Ph (csA m c) (csB m c) 15 ∗ selfBlk c ∗ dutyTok ER (cell c .self) 0 0 ∗ Ph (crA c) (crB m c) 0 ∗ R)
      ⊢ wpc c (k0_part36 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c) (w51 c) ((Scalar.addi (Scalar.muli (w12 c) 16#32) 15#32)) ((Scalar.cmpi .ne (Scalar.addi (Scalar.muli (w12 c) 16#32) 15#32) (w2 c)))) Q := by
  rw [k0_part36_eq_skeleton]
  unfold k0_part36_skel
  refine cs_step 15 rfl rfl (by clear * - c; revert c; decide) (fun _ => chk_of 15 rfl) (fun h => blk_of (pair c) (by clear * - c; revert c; decide)) (fun h => Fin.ext (by show k0_dev81 c = (dest c 15).val; clear * - c; revert c; decide)) (fun _ => sem_at _ (by decide) rfl) (fun h => sem_at _ (by simp) (by clear * - c; revert c; decide)) ?_
  show iprop(Core m K c 81 ∗ Ph (csA m c) (csB m c) 16 ∗ _) ⊢ _
  refine ent_trans (P2 := iprop(Core m K c 81 ∗ selfA m c ∗ Ph (crA c) (crB m c) 0 ∗ CwC c ∗ R)) ?_ ?_
  · iintro ⟨HC81, HPc, Hsb, HsT, HPcr0, HR⟩
    ihave Hj := csb_split $$ HPc
    icases Hj with ⟨HCwC, HsChk⟩
    ihave HsA := (self_make (m := m)) $$ [Hsb HsChk HsT]
    · isplitl [Hsb]; · iexact Hsb
      isplitl [HsChk]; · iexact HsChk
      iexact HsT
    isplitl [HC81]; · iexact HC81
    isplitl [HsA]; · iexact HsA
    isplitl [HPcr0]; · iexact HPcr0
    isplitl [HCwC]; · iexact HCwC
    iexact HR
  refine self_copy (by clear * - c; revert c; decide) (fun h => chk_of (col c) (by clear * - c h; revert c; decide)) (fun h => blk_of (pair c) (by clear * - c h; revert c; decide)) (fun _ => self_sem) ?_
  refine ent_trans (P2 := iprop(Core m K c 81 ∗ Ph (crA c) (crB m c) 0 ∗ selfB c ∗ CwC c ∗ R)) ?_ ?_
  · iintro ⟨HC81, HsB, HPcr0, HCwC, HR⟩
    isplitl [HC81]; · iexact HC81
    isplitl [HPcr0]; · iexact HPcr0
    isplitl [HsB]; · iexact HsB
    isplitl [HCwC]; · iexact HCwC
    iexact HR
  refine cr_step 0 rfl (by clear * - c; revert c; decide) (fun _ => rfl) (fun _ => sem_at _ (by decide) rfl) ?_
  refine cr_step 1 rfl (by clear * - c; revert c; decide) (fun _ => rfl) (fun _ => sem_at _ (by decide) rfl) ?_
  refine cr_step 2 rfl (by clear * - c; revert c; decide) (fun _ => rfl) (fun _ => sem_at _ (by decide) rfl) ?_
  refine cr_step 3 rfl (by clear * - c; revert c; decide) (fun _ => rfl) (fun _ => sem_at _ (by decide) rfl) ?_
  refine cr_step 4 rfl (by clear * - c; revert c; decide) (fun _ => rfl) (fun _ => sem_at _ (by decide) rfl) ?_
  exact ret_step H

set_option maxHeartbeats 8000000 in
/-- Part 37 of the kernel. -/
theorem part37 {R : sProp 𝕄} {Q : (BitVec 32) → sProp 𝕄}
    (H : iprop(Core m K c 81 ∗ Ph (crA c) (crB m c) 11 ∗ R) ⊢ Q (Scalar.extui (Scalar.xori (Scalar.andi (w51 c) (Scalar.cmpi .eq (w33 c) 11#32)) 1#1))) :
    iprop(Core m K c 81 ∗ Ph (crA c) (crB m c) 5 ∗ R)
      ⊢ wpc c (k0_part37 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w33 c) (w51 c)) Q := by
  rw [k0_part37_eq_skeleton]
  unfold k0_part37_skel
  refine cr_step 5 rfl (by clear * - c; revert c; decide) (fun _ => rfl) (fun _ => sem_at _ (by decide) rfl) ?_
  refine cr_step 6 rfl (by clear * - c; revert c; decide) (fun _ => rfl) (fun _ => sem_at _ (by decide) rfl) ?_
  refine cr_step 7 rfl (by clear * - c; revert c; decide) (fun _ => rfl) (fun _ => sem_at _ (by decide) rfl) ?_
  refine cr_step 8 rfl (by clear * - c; revert c; decide) (fun _ => rfl) (fun _ => sem_at _ (by decide) rfl) ?_
  refine cr_step 9 rfl (by clear * - c; revert c; decide) (fun _ => rfl) (fun _ => sem_at _ (by decide) rfl) ?_
  refine cr_step 10 rfl (by clear * - c; revert c; decide) (fun _ => rfl) (fun _ => sem_at _ (by decide) rfl) ?_
  exact ret_step H

end Cert.QuantProof
-- ==== Proof.PartsH.lean ====
/-
# Parts 38 to 41: the blocks arrive, and the maxima are away
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 38 of the kernel. -/
theorem part38 {R : sProp 𝕄} {Q : (BitVec 32) → sProp 𝕄}
    (H : iprop(Core m K c 81 ∗ Ph (awA m c) (awB m c) 2 ∗ Ph (crA c) (crB m c) 16 ∗ Done m c .self ∗ selfC m c ∗ Done m c .xs ∗ xoPts c fullShare.right (xb m c) ∗ R) ⊢ Q (Scalar.extui (Scalar.cmpi .ne (w2 c) 2#32))) :
    iprop(Core m K c 81 ∗ Ph (crA c) (crB m c) 11 ∗ selfB c ∗ atPos ER (cell c .self) 0 ∅ 0 ∗ atPos ER (cell c .xs) 0 ∅ 0 ∗ cred (tallyAt (cell c .xs) () xN) ∗ Ph (awA m c) (awB m c) 0 ∗ R)
      ⊢ wpc c (k0_part38 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w33 c) (w51 c) (Scalar.extui (Scalar.xori (Scalar.andi (w51 c) (Scalar.cmpi .eq (w33 c) 11#32)) 1#1))) Q := by
  rw [k0_part38_eq_skeleton]
  unfold k0_part38_skel
  refine cr_step 11 rfl (by clear * - c; revert c; decide) (fun _ => rfl) (fun _ => sem_at _ (by decide) rfl) ?_
  refine cr_step 12 rfl (by clear * - c; revert c; decide) (fun _ => rfl) (fun _ => sem_at _ (by decide) rfl) ?_
  refine cr_step 13 rfl (by clear * - c; revert c; decide) (fun _ => rfl) (fun _ => sem_at _ (by decide) rfl) ?_
  refine cr_step 14 rfl (by clear * - c; revert c; decide) (fun _ => rfl) (fun _ => sem_at _ (by decide) rfl) ?_
  refine cr_step 15 rfl (by clear * - c; revert c; decide) (fun _ => rfl) (fun _ => sem_at _ (by decide) rfl) ?_
  show iprop(Core m K c 81 ∗ Ph (crA c) (crB m c) 16 ∗ _) ⊢ _
  refine ent_trans (P2 := iprop(Core m K c 81 ∗ (atPos ER (cell c .self) 0 ∅ 0 ∗ selfB c) ∗ Ph (crA c) (crB m c) 16 ∗ atPos ER (cell c .xs) 0 ∅ 0 ∗ cred (tallyAt (cell c .xs) () xN) ∗ Ph (awA m c) (awB m c) 0 ∗ R)) ?_ ?_
  · iintro ⟨HC81, HPcr16, HsB, HsP, HxsP, Hcxs, HPaw0, HR⟩
    isplitl [HC81]; · iexact HC81
    isplitl [HsP HsB]
    · isplitl [HsP]; · iexact HsP
      iexact HsB
    isplitl [HPcr16]; · iexact HPcr16
    isplitl [HxsP]; · iexact HxsP
    isplitl [Hcxs]; · iexact Hcxs
    isplitl [HPaw0]; · iexact HPaw0
    iexact HR
  refine self_wait (by clear * - c; revert c; decide) (fun _ => rfl) (fun _ => self_sem) ?_
  refine ent_trans (P2 := iprop(Core m K c 81 ∗ (atPos ER (cell c .xs) 0 ∅ 0 ∗ cred (tallyAt (cell c .xs) () xN)) ∗ Ph (crA c) (crB m c) 16 ∗ Done m c .self ∗ selfC m c ∗ Ph (awA m c) (awB m c) 0 ∗ R)) ?_ ?_
  · iintro ⟨HC81, ⟨HDself, HsC⟩, HPcr16, HxsP, Hcxs, HPaw0, HR⟩
    isplitl [HC81]; · iexact HC81
    isplitl [HxsP Hcxs]
    · isplitl [HxsP]; · iexact HxsP
      iexact Hcxs
    isplitl [HPcr16]; · iexact HPcr16
    isplitl [HDself]; · iexact HDself
    isplitl [HsC]; · iexact HsC
    isplitl [HPaw0]; · iexact HPaw0
    iexact HR
  refine xs_wait ?_
  refine ent_trans (P2 := iprop(Core m K c 81 ∗ Ph (awA m c) (awB m c) 0 ∗ Ph (crA c) (crB m c) 16 ∗ Done m c .self ∗ selfC m c ∗ Done m c .xs ∗ xoPts c fullShare.right (xb m c) ∗ R)) ?_ ?_
  · iintro ⟨HC81, ⟨HDxs, Hxr⟩, HPcr16, HDself, HsC, HPaw0, HR⟩
    isplitl [HC81]; · iexact HC81
    isplitl [HPaw0]; · iexact HPaw0
    isplitl [HPcr16]; · iexact HPcr16
    isplitl [HDself]; · iexact HDself
    isplitl [HsC]; · iexact HsC
    isplitl [HDxs]; · iexact HDxs
    isplitl [Hxr]; · iexact Hxr
    iexact HR
  refine aw_step 0 rfl (by clear * - c; revert c; decide) (fun _ => rfl) (fun _ => sem_at _ (by decide) rfl) ?_
  refine aw_step 1 rfl (by clear * - c; revert c; decide) (fun _ => rfl) (fun _ => sem_at _ (by decide) rfl) ?_
  exact ret_step H

set_option maxHeartbeats 8000000 in
/-- Part 39 of the kernel. -/
theorem part39 {R : sProp 𝕄} {Q : (BitVec 32) → sProp 𝕄}
    (H : iprop(Core m K c 81 ∗ Ph (awA m c) (awB m c) 12 ∗ R) ⊢ Q (Scalar.extui (Scalar.cmpi .ne (w2 c) 12#32))) :
    iprop(Core m K c 81 ∗ Ph (awA m c) (awB m c) 2 ∗ R)
      ⊢ wpc c (k0_part39 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (Scalar.extui (Scalar.cmpi .ne (w2 c) 2#32))) Q := by
  rw [k0_part39_eq_skeleton]
  unfold k0_part39_skel
  refine aw_step 2 rfl (by clear * - c; revert c; decide) (fun _ => rfl) (fun _ => sem_at _ (by decide) rfl) ?_
  refine aw_step 3 rfl (by clear * - c; revert c; decide) (fun _ => rfl) (fun _ => sem_at _ (by decide) rfl) ?_
  refine aw_step 4 rfl (by clear * - c; revert c; decide) (fun _ => rfl) (fun _ => sem_at _ (by decide) rfl) ?_
  refine aw_step 5 rfl (by clear * - c; revert c; decide) (fun _ => rfl) (fun _ => sem_at _ (by decide) rfl) ?_
  refine aw_step 6 rfl (by clear * - c; revert c; decide) (fun _ => rfl) (fun _ => sem_at _ (by decide) rfl) ?_
  refine aw_step 7 rfl (by clear * - c; revert c; decide) (fun _ => rfl) (fun _ => sem_at _ (by decide) rfl) ?_
  refine aw_step 8 rfl (by clear * - c; revert c; decide) (fun _ => rfl) (fun _ => sem_at _ (by decide) rfl) ?_
  refine aw_step 9 rfl (by clear * - c; revert c; decide) (fun _ => rfl) (fun _ => sem_at _ (by decide) rfl) ?_
  refine aw_step 10 rfl (by clear * - c; revert c; decide) (fun _ => rfl) (fun _ => sem_at _ (by decide) rfl) ?_
  refine aw_step 11 rfl (by clear * - c; revert c; decide) (fun _ => rfl) (fun _ => sem_at _ (by decide) rfl) ?_
  exact ret_step H

set_option maxHeartbeats 8000000 in
/-- Part 40 of the kernel. -/
theorem part40 {R : sProp 𝕄} {Q : (BitVec 32) → sProp 𝕄}
    (H : iprop(Core m K c 81 ∗ Ph (awA m c) (awB m c) 22 ∗ R) ⊢ Q (Scalar.extui (Scalar.cmpi .ne (w2 c) 22#32))) :
    iprop(Core m K c 81 ∗ Ph (awA m c) (awB m c) 12 ∗ R)
      ⊢ wpc c (k0_part40 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (Scalar.extui (Scalar.cmpi .ne (w2 c) 12#32))) Q := by
  rw [k0_part40_eq_skeleton]
  unfold k0_part40_skel
  refine aw_step 12 rfl (by clear * - c; revert c; decide) (fun _ => rfl) (fun _ => sem_at _ (by decide) rfl) ?_
  refine aw_step 13 rfl (by clear * - c; revert c; decide) (fun _ => rfl) (fun _ => sem_at _ (by decide) rfl) ?_
  refine aw_step 14 rfl (by clear * - c; revert c; decide) (fun _ => rfl) (fun _ => sem_at _ (by decide) rfl) ?_
  refine aw_step 15 rfl (by clear * - c; revert c; decide) (fun _ => rfl) (fun _ => sem_at _ (by decide) rfl) ?_
  refine aw_step 16 rfl (by clear * - c; revert c; decide) (fun _ => rfl) (fun _ => sem_at _ (by decide) rfl) ?_
  refine aw_step 17 rfl (by clear * - c; revert c; decide) (fun _ => rfl) (fun _ => sem_at _ (by decide) rfl) ?_
  refine aw_step 18 rfl (by clear * - c; revert c; decide) (fun _ => rfl) (fun _ => sem_at _ (by decide) rfl) ?_
  refine aw_step 19 rfl (by clear * - c; revert c; decide) (fun _ => rfl) (fun _ => sem_at _ (by decide) rfl) ?_
  refine aw_step 20 rfl (by clear * - c; revert c; decide) (fun _ => rfl) (fun _ => sem_at _ (by decide) rfl) ?_
  refine aw_step 21 rfl (by clear * - c; revert c; decide) (fun _ => rfl) (fun _ => sem_at _ (by decide) rfl) ?_
  exact ret_step H

set_option maxHeartbeats 8000000 in
/-- Part 41 of the kernel. -/
theorem part41 {R : sProp 𝕄} {Q : (Σ' (v1212 : BitVec 32), BitVec 32) → sProp 𝕄}
    (H : iprop(Core m K c 81 ∗ Ph (awA m c) (awB m c) 32 ∗ R) ⊢ Q ⟨(Scalar.muli (w12 c) 16#32), 0#32⟩) :
    iprop(Core m K c 81 ∗ Ph (awA m c) (awB m c) 22 ∗ R)
      ⊢ wpc c (k0_part41 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (w2 c) (w12 c) (Scalar.extui (Scalar.cmpi .ne (w2 c) 22#32))) Q := by
  rw [k0_part41_eq_skeleton]
  unfold k0_part41_skel
  refine aw_step 22 rfl (by clear * - c; revert c; decide) (fun _ => rfl) (fun _ => sem_at _ (by decide) rfl) ?_
  refine aw_step 23 rfl (by clear * - c; revert c; decide) (fun _ => rfl) (fun _ => sem_at _ (by decide) rfl) ?_
  refine aw_step 24 rfl (by clear * - c; revert c; decide) (fun _ => rfl) (fun _ => sem_at _ (by decide) rfl) ?_
  refine aw_step 25 rfl (by clear * - c; revert c; decide) (fun _ => rfl) (fun _ => sem_at _ (by decide) rfl) ?_
  refine aw_step 26 rfl (by clear * - c; revert c; decide) (fun _ => rfl) (fun _ => sem_at _ (by decide) rfl) ?_
  refine aw_step 27 rfl (by clear * - c; revert c; decide) (fun _ => rfl) (fun _ => sem_at _ (by decide) rfl) ?_
  refine aw_step 28 rfl (by clear * - c; revert c; decide) (fun _ => rfl) (fun _ => sem_at _ (by decide) rfl) ?_
  refine aw_step 29 rfl (by clear * - c; revert c; decide) (fun _ => rfl) (fun _ => sem_at _ (by decide) rfl) ?_
  refine aw_step 30 rfl (by clear * - c; revert c; decide) (fun _ => rfl) (fun _ => sem_at _ (by decide) rfl) ?_
  refine aw_step 31 rfl (by clear * - c; revert c; decide) (fun _ => rfl) (fun _ => sem_at _ (by decide) rfl) ?_
  exact ret_step H

end Cert.QuantProof
-- ==== Proof.PartsI.lean ====
/-
# Parts 42 and 43: the blocks are away
-/
module

public import proofs.«01_k».proof.Proof.Regroup

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

set_option maxHeartbeats 8000000 in
/-- Part 42 of the kernel. -/
theorem part42 {R : sProp 𝕄} {Q : (PUnit) → sProp 𝕄}
    (H : iprop(Core m K c 81 ∗ Ph (cwA c) (cwB m c) 7 ∗ R) ⊢ Q ⟨⟩) :
    iprop(Core m K c 81 ∗ Ph (cwA c) (cwB m c) 0 ∗ R)
      ⊢ wpc c (k0_part42 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c) ((Scalar.muli (w12 c) 16#32)) (0#32)) Q := by
  rw [k0_part42_eq_skeleton]
  unfold k0_part42_skel
  refine cw_step 0 rfl (by clear * - c; revert c; decide) (fun _ => rfl) (fun _ => sem_at _ (by decide) rfl) ?_
  refine cw_step 1 rfl (by clear * - c; revert c; decide) (fun _ => rfl) (fun _ => sem_at _ (by decide) rfl) ?_
  refine cw_step 2 rfl (by clear * - c; revert c; decide) (fun _ => rfl) (fun _ => sem_at _ (by decide) rfl) ?_
  refine cw_step 3 rfl (by clear * - c; revert c; decide) (fun _ => rfl) (fun _ => sem_at _ (by decide) rfl) ?_
  refine cw_step 4 rfl (by clear * - c; revert c; decide) (fun _ => rfl) (fun _ => sem_at _ (by decide) rfl) ?_
  refine cw_step 5 rfl (by clear * - c; revert c; decide) (fun _ => rfl) (fun _ => sem_at _ (by decide) rfl) ?_
  refine cw_step 6 rfl (by clear * - c; revert c; decide) (fun _ => rfl) (fun _ => sem_at _ (by decide) rfl) ?_
  exact ret_step H

set_option maxHeartbeats 8000000 in
/-- Part 43 of the kernel. -/
theorem part43 {R : sProp 𝕄} {Q : (BitVec 32) → sProp 𝕄}
    (H : iprop(Core m K c 81 ∗ Ph (cwA c) (cwB m c) 13 ∗ R) ⊢ Q (Scalar.extui (Scalar.cmpi .ne (Scalar.addi (Scalar.muli (w12 c) 16#32) 13#32) (w2 c)))) :
    iprop(Core m K c 81 ∗ Ph (cwA c) (cwB m c) 7 ∗ R)
      ⊢ wpc c (k0_part43 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (w2 c) (w12 c) (w33 c)) Q := by
  rw [k0_part43_eq_skeleton]
  unfold k0_part43_skel
  refine cw_step 7 rfl (by clear * - c; revert c; decide) (fun _ => rfl) (fun _ => sem_at _ (by decide) rfl) ?_
  refine cw_step 8 rfl (by clear * - c; revert c; decide) (fun _ => rfl) (fun _ => sem_at _ (by decide) rfl) ?_
  refine cw_step 9 rfl (by clear * - c; revert c; decide) (fun _ => rfl) (fun _ => sem_at _ (by decide) rfl) ?_
  refine cw_step 10 rfl (by clear * - c; revert c; decide) (fun _ => rfl) (fun _ => sem_at _ (by decide) rfl) ?_
  refine cw_step 11 rfl (by clear * - c; revert c; decide) (fun _ => rfl) (fun _ => sem_at _ (by decide) rfl) ?_
  refine cw_step 12 rfl (by clear * - c; revert c; decide) (fun _ => rfl) (fun _ => sem_at _ (by decide) rfl) ?_
  exact ret_step H

end Cert.QuantProof
-- ==== Proof.Body.lean ====
/-
# The kernel's body

The parts of the kernel, one after another, on one device.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH
public import proofs.«01_k».proof.Proof.PartsI

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-- The first part computes the words that stand for the device's number, its row and its pair. -/
theorem part1 {P : sProp 𝕄} {Q : (Σ' (d0 : Dev nD) (v2 : BitVec 32) (v12 : BitVec 32) (v15 : BitVec 32) (v33 : BitVec 32) (c16_i32 : BitVec 32) (v34 : BitVec 32) (v36 : BitVec 32), BitVec 1) → sProp 𝕄}
    (H : P ⊢ Q ⟨c, w2 c, w12 c, w15 c, w33 c, 16#32, w34 c, w36 c, w37 c⟩) :
    P ⊢ wpc c (k0_part1 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Q := by
  rw [k0_part1_eq_skeleton]
  unfold k0_part1_skel
  rw [lift_bind]
  refine ent_trans ?_ (Entails.of_eq (wp_deviceId ..).symm)
  exact ret_step H

set_option maxHeartbeats 16000000 in
/-- All of the kernel but its last wait and the scaling of the result. -/
theorem part44 {R : sProp 𝕄} {f7 f8 : Vec F S128x4096 .f32} {fab : Buf (Elt F) (abM.view.loc (c : Thread nD τ))} {fxo : Buf (Elt F) (xoM.view.loc (c : Thread nD τ))}
    {fma : Buf (Elt F) (maM.view.loc (c : Thread nD τ))} {fyq : Buf (Elt F) (yqM.view.loc (c : Thread nD τ))} {fo : Buf (Elt F) (oM.view.loc (c : Thread nD τ))} {Q : (Σ' (d0 : Dev nD) (v33 : BitVec 32) (v918 : F .f32), BitVec 1) → sProp 𝕄}
    (H : iprop(Core m K c 81 ∗ Ph (cwA c) (cwB m c) 15 ∗ Ph (awA m c) (awB m c) 32 ∗ Ph (crA c) (crB m c) 16 ∗ Done m c .self ∗ selfC m c ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ oW c fo ∗ R) ⊢ Q ⟨c, w33 c, sc m c, (Scalar.cmpi .ne (Scalar.addi (Scalar.muli (w12 c) 16#32) 15#32) (w2 c))⟩) :
    iprop(Core m K c 0 ∗ abPts c fab ∗ xPts c (xstg m c) ∗ xoW c fxo ∗ Ph (wA m c) wB 0 ∗ SlotFree c 0 0 ∗ SlotFree c 1 0 ∗ Wb m c 0 ∗ XrWait c ∗ yoPts c f7 ∗ yrPts c f8 ∗ SigT c ∗ BarT c ∗ XsT c ∗ maW c fma ∗ AsT c ∗ ArT c ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)
      ⊢ wpc c (k0_part44 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Q := by
  rw [k0_part44_eq_skeleton]
  unfold k0_part44_skel
  refine bind_step (part1 ?_)
  refine ent_trans (P2 := iprop(abPts c fab ∗ xPts c (xstg m c) ∗ xoW c fxo ∗ Core m K c 0 ∗ Ph (wA m c) wB 0 ∗ SlotFree c 0 0 ∗ SlotFree c 1 0 ∗ Wb m c 0 ∗ XrWait c ∗ yoPts c f7 ∗ yrPts c f8 ∗ SigT c ∗ BarT c ∗ XsT c ∗ maW c fma ∗ AsT c ∗ ArT c ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨HC0, Hab, Hx, Hxo, HP, HS0, HS1, HW, HX6, HY7, HY8, Hsig, Hbar, HxsT, Hmf, HasT, HArT, Hfq, HcsT, HsT, HPcr0, HsP, HxsP, HAsP, HCsP, How, HR⟩
    isplitl [Hab]; · iexact Hab
    isplitl [Hx]; · iexact Hx
    isplitl [Hxo]; · iexact Hxo
    isplitl [HC0]; · iexact HC0
    isplitl [HP]; · iexact HP
    isplitl [HS0]; · iexact HS0
    isplitl [HS1]; · iexact HS1
    isplitl [HW]; · iexact HW
    isplitl [HX6]; · iexact HX6
    isplitl [HY7]; · iexact HY7
    isplitl [HY8]; · iexact HY8
    isplitl [Hsig]; · iexact Hsig
    isplitl [Hbar]; · iexact Hbar
    isplitl [HxsT]; · iexact HxsT
    isplitl [Hmf]; · iexact Hmf
    isplitl [HasT]; · iexact HasT
    isplitl [HArT]; · iexact HArT
    isplitl [Hfq]; · iexact Hfq
    isplitl [HcsT]; · iexact HcsT
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part2 ?_)
  refine bind_step (part3 ?_)
  refine bind_step (part4 ?_)
  refine bind_step (part5 ?_)
  refine ent_trans (P2 := iprop(Core m K c 31 ∗ Ph (sigA c) sigB 31 ∗ BarT c ∗ XsT c ∗ CX m c 1 (SlotBusy c 0 0) (SlotFree c 1 0) 0 (XrWait c) f7 f8 ∗ xoPts c fullShare.right (xb m c) ∗ rowPts c c (GG m c) ∗ selfBlk c ∗ xPts c (xstg m c) ∗ maW c fma ∗ AsT c ∗ ArT c ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨HC31, HPsig31, HCX1, Hxr, Hrcc, Hsb, Hx, Hbar, HxsT, Hmf, HasT, HArT, Hfq, HcsT, HsT, HPcr0, HsP, HxsP, HAsP, HCsP, How, HR⟩
    isplitl [HC31]; · iexact HC31
    isplitl [HPsig31]; · iexact HPsig31
    isplitl [Hbar]; · iexact Hbar
    isplitl [HxsT]; · iexact HxsT
    isplitl [HCX1]; · iexact HCX1
    isplitl [Hxr]; · iexact Hxr
    isplitl [Hrcc]; · iexact Hrcc
    isplitl [Hsb]; · iexact Hsb
    isplitl [Hx]; · iexact Hx
    isplitl [Hmf]; · iexact Hmf
    isplitl [HasT]; · iexact HasT
    isplitl [HArT]; · iexact HArT
    isplitl [Hfq]; · iexact Hfq
    isplitl [HcsT]; · iexact HcsT
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part6 ?_)
  refine bind_step (part7 ?_)
  refine bind_step (part8 ?_)
  refine bind_step (part9 ?_)
  refine bind_step (part10 ?_)
  refine bind_step (part11 ?_)
  refine bind_step (part12 ?_)
  refine bind_step (part13 ?_)
  refine bind_step (part14 ?_)
  refine bind_step (part15 ?_)
  refine bind_step (part16 ?_)
  refine bind_step (part17 ?_)
  refine bind_step (part18 ?_)
  refine bind_step (part19 ?_)
  refine bind_step (part20 ?_)
  refine bind_step (part21 ?_)
  refine bind_step (part22 ?_)
  refine bind_step (part23 ?_)
  refine bind_step (part24 ?_)
  refine bind_step (part25 ?_)
  refine ent_trans (P2 := iprop(CS m c K 33 16 (SlotFull m c 0 8 14) (SlotFull m c 1 8 15) 16 (xrPts c (xb m (partner c))) (acc m c (xb m c) 15) (acc m c (xb m (partner c)) 15) ∗ maW c fma ∗ Rows c ∗ AsT c ∗ Ph (arA m c) (arB m c) 0 ∗ Done m c .xr ∗ cred (tallyAt (cell c .xs) () xN) ∗ Done m c .bar ∗ Blks c ∗ selfBlk c ∗ xPts c (xstg m c) ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨HCSe, HDX, Hcxs, HDb, Hrows, Hblks, Hrcc, Hsb, Hx, Hmf, HasT, HArT, Hfq, HcsT, HsT, HPcr0, HsP, HxsP, HAsP, HCsP, How, HR⟩
    ihave Hnew := ar_intro $$ [HArT Hrcc]
    · isplitl [HArT]; · iexact HArT
      iexact Hrcc
    icases Hnew with HPar0
    isplitl [HCSe]; · iexact HCSe
    isplitl [Hmf]; · iexact Hmf
    isplitl [Hrows]; · iexact Hrows
    isplitl [HasT]; · iexact HasT
    isplitl [HPar0]; · iexact HPar0
    isplitl [HDX]; · iexact HDX
    isplitl [Hcxs]; · iexact Hcxs
    isplitl [HDb]; · iexact HDb
    isplitl [Hblks]; · iexact Hblks
    isplitl [Hsb]; · iexact Hsb
    isplitl [Hx]; · iexact Hx
    isplitl [Hfq]; · iexact Hfq
    isplitl [HcsT]; · iexact HcsT
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part26 ?_)
  refine bind_step (part27 ?_)
  refine bind_step (part28 ?_)
  refine ent_trans (P2 := iprop(Core m K c 59 ∗ Ph (asA m c) (asB m c) 26 ∗ Ph (arA m c) (arB m c) 0 ∗ yoPts c (acc m c (xb m c) 15) ∗ yrPts c (acc m c (xb m (partner c)) 15) ∗ CZ m c ∗ Done m c .xr ∗ cred (tallyAt (cell c .xs) () xN) ∗ Done m c .bar ∗ Blks c ∗ selfBlk c ∗ xPts c (xstg m c) ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨HC59, HPas26, Hyo, Hyr, HCZ, HPar0, HDX, Hcxs, HDb, Hblks, Hsb, Hx, Hfq, HcsT, HsT, HPcr0, HsP, HxsP, HAsP, HCsP, How, HR⟩
    isplitl [HC59]; · iexact HC59
    isplitl [HPas26]; · iexact HPas26
    isplitl [HPar0]; · iexact HPar0
    isplitl [Hyo]; · iexact Hyo
    isplitl [Hyr]; · iexact Hyr
    isplitl [HCZ]; · iexact HCZ
    isplitl [HDX]; · iexact HDX
    isplitl [Hcxs]; · iexact Hcxs
    isplitl [HDb]; · iexact HDb
    isplitl [Hblks]; · iexact Hblks
    isplitl [Hsb]; · iexact Hsb
    isplitl [Hx]; · iexact Hx
    isplitl [Hfq]; · iexact Hfq
    isplitl [HcsT]; · iexact HcsT
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part29 ?_)
  refine bind_step (part30 ?_)
  refine bind_step (part31 ?_)
  refine ent_trans (P2 := iprop(Core m K c 65 ∗ Ph (arA m c) (arB m c) 24 ∗ yoPts c (acc m c (xb m c) 15) ∗ Ph (asA m c) (asB m c) 32 ∗ yrPts c (acc m c (xb m (partner c)) 15) ∗ CZ m c ∗ Done m c .xr ∗ cred (tallyAt (cell c .xs) () xN) ∗ Done m c .bar ∗ Blks c ∗ selfBlk c ∗ xPts c (xstg m c) ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨HC65, HPar24, HPas32, Hyo, Hyr, HCZ, HDX, Hcxs, HDb, Hblks, Hsb, Hx, Hfq, HcsT, HsT, HPcr0, HsP, HxsP, HAsP, HCsP, How, HR⟩
    isplitl [HC65]; · iexact HC65
    isplitl [HPar24]; · iexact HPar24
    isplitl [Hyo]; · iexact Hyo
    isplitl [HPas32]; · iexact HPas32
    isplitl [Hyr]; · iexact Hyr
    isplitl [HCZ]; · iexact HCZ
    isplitl [HDX]; · iexact HDX
    isplitl [Hcxs]; · iexact Hcxs
    isplitl [HDb]; · iexact HDb
    isplitl [Hblks]; · iexact Hblks
    isplitl [Hsb]; · iexact Hsb
    isplitl [Hx]; · iexact Hx
    isplitl [Hfq]; · iexact Hfq
    isplitl [HcsT]; · iexact HcsT
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part32 ?_)
  refine ent_trans (P2 := iprop(yqW c fyq ∗ yrW c (acc m c (xb m (partner c)) 15) ∗ Core m K c 65 ∗ Blks c ∗ CsT c ∗ yoW c (acc m c (xb m c) 15) ∗ abPts c (GG m c) ∗ DAr m c ∗ Ph (asA m c) (asB m c) 32 ∗ CZ m c ∗ Done m c .xr ∗ cred (tallyAt (cell c .xs) () xN) ∗ Done m c .bar ∗ selfBlk c ∗ xPts c (xstg m c) ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)) ?_ ?_
  · iintro ⟨Hyow, HabG, HC65, HDAr, HPas32, Hyr, HCZ, HDX, Hcxs, HDb, Hblks, Hsb, Hx, Hfq, HcsT, HsT, HPcr0, HsP, HxsP, HAsP, HCsP, How, HR⟩
    isplitl [Hfq]; · iexact Hfq
    isplitl [Hyr]; · iapply yr_raw; iexact Hyr
    isplitl [HC65]; · iexact HC65
    isplitl [Hblks]; · iexact Hblks
    isplitl [HcsT]; · iexact HcsT
    isplitl [Hyow]; · iexact Hyow
    isplitl [HabG]; · iexact HabG
    isplitl [HDAr]; · iexact HDAr
    isplitl [HPas32]; · iexact HPas32
    isplitl [HCZ]; · iexact HCZ
    isplitl [HDX]; · iexact HDX
    isplitl [Hcxs]; · iexact Hcxs
    isplitl [HDb]; · iexact HDb
    isplitl [Hsb]; · iexact Hsb
    isplitl [Hx]; · iexact Hx
    isplitl [HsT]; · iexact HsT
    isplitl [HPcr0]; · iexact HPcr0
    isplitl [HsP]; · iexact HsP
    isplitl [HxsP]; · iexact HxsP
    isplitl [HAsP]; · iexact HAsP
    isplitl [HCsP]; · iexact HCsP
    isplitl [How]; · iexact How
    iexact HR
  refine bind_step (part33 ?_)
  refine bind_step (part34 ?_)
  refine bind_step (part35 ?_)
  refine ent_trans (P2 := iprop(Core m K c 80 ∗ Ph (csA m c) (csB m c) 15 ∗ selfBlk c ∗ dutyTok ER (cell c .self) 0 0 ∗ Ph (crA c) (crB m c) 0 ∗ yrW c (acc m c (xb m (partner c)) 15) ∗ yoW c (acc m c (xb m c) 15) ∗ abPts c (GG m c) ∗ DAr m c ∗ Ph (asA m c) (asB m c) 32 ∗ CZ m c ∗ Done m c .xr ∗ cred (tallyAt (cell c .xs) () xN) ∗ Done m c .bar ∗ xPts c (xstg m c) ∗ atPos ER (cell c .self) 0 ∅ 0 ∗ atPos ER (cell c .xs) 0 ∅ 0 ∗ AsP c ∗ CsP c ∗ oW c fo ∗ R)) ?_ ?_
  · iintro ⟨HC80, HPcs15, Hyrw, Hyow, HabG, HDAr, HPas32, HCZ, HDX, Hcxs, HDb, Hsb, Hx, HsT, HPcr0, HsP, HxsP, HAsP, HCsP, How, HR⟩
    isplitl [HC80]; · iexact HC80
    isplitl [HPcs15]; · iexact HPcs15
    isplitl [Hsb]; · iexact Hsb
    isplitl [HsT]; · iexact HsT
    isplitl [HPcr0]; · iexact HPcr0
    isplitl [Hyrw]; · iexact Hyrw
    isplitl [Hyow]; · iexact Hyow
    isplitl [HabG]; · iexact HabG
    isplitl [HDAr]; · iexact HDAr
    isplitl [HPas32]; · iexact HPas32
    isplitl [HCZ]; · iexact HCZ
    isplitl [HDX]; · iexact HDX
    isplitl [Hcxs]; · iexact Hcxs
    isplitl [HDb]; · iexact HDb
    isplitl [Hx]; · iexact Hx
    isplitl [HsP]; · iexact HsP
    isplitl [HxsP]; · iexact HxsP
    isplitl [HAsP]; · iexact HAsP
    isplitl [HCsP]; · iexact HCsP
    isplitl [How]; · iexact How
    iexact HR
  refine bind_step (part36 ?_)
  refine bind_step (part37 ?_)
  refine ent_trans (P2 := iprop(Core m K c 81 ∗ Ph (crA c) (crB m c) 11 ∗ selfB c ∗ atPos ER (cell c .self) 0 ∅ 0 ∗ atPos ER (cell c .xs) 0 ∅ 0 ∗ cred (tallyAt (cell c .xs) () xN) ∗ Ph (awA m c) (awB m c) 0 ∗ CwC c ∗ yrW c (acc m c (xb m (partner c)) 15) ∗ yoW c (acc m c (xb m c) 15) ∗ abPts c (GG m c) ∗ DAr m c ∗ CZ m c ∗ Done m c .xr ∗ Done m c .bar ∗ xPts c (xstg m c) ∗ CsP c ∗ oW c fo ∗ R)) ?_ ?_
  · iintro ⟨HC81, HPcr11, HsB, HCwC, Hyrw, Hyow, HabG, HDAr, HPas32, HCZ, HDX, Hcxs, HDb, Hx, HsP, HxsP, HAsP, HCsP, How, HR⟩
    ihave Hnew := aw_intro $$ [HAsP HPas32]
    · isplitl [HAsP]; · iexact HAsP
      iexact HPas32
    icases Hnew with HPaw0
    isplitl [HC81]; · iexact HC81
    isplitl [HPcr11]; · iexact HPcr11
    isplitl [HsB]; · iexact HsB
    isplitl [HsP]; · iexact HsP
    isplitl [HxsP]; · iexact HxsP
    isplitl [Hcxs]; · iexact Hcxs
    isplitl [HPaw0]; · iexact HPaw0
    isplitl [HCwC]; · iexact HCwC
    isplitl [Hyrw]; · iexact Hyrw
    isplitl [Hyow]; · iexact Hyow
    isplitl [HabG]; · iexact HabG
    isplitl [HDAr]; · iexact HDAr
    isplitl [HCZ]; · iexact HCZ
    isplitl [HDX]; · iexact HDX
    isplitl [HDb]; · iexact HDb
    isplitl [Hx]; · iexact Hx
    isplitl [HCsP]; · iexact HCsP
    isplitl [How]; · iexact How
    iexact HR
  refine bind_step (part38 ?_)
  refine bind_step (part39 ?_)
  refine bind_step (part40 ?_)
  refine bind_step (part41 ?_)
  refine ent_trans (P2 := iprop(Core m K c 81 ∗ Ph (cwA c) (cwB m c) 0 ∗ Ph (awA m c) (awB m c) 32 ∗ Ph (crA c) (crB m c) 16 ∗ Done m c .self ∗ selfC m c ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ oW c fo ∗ R)) ?_ ?_
  · iintro ⟨HC81, HPaw32, HPcr16, HDself, HsC, HDxs, Hxr, HCwC, Hyrw, Hyow, HabG, HDAr, HCZ, HDX, HDb, Hx, HCsP, How, HR⟩
    ihave Hnew := cw_intro $$ [HCsP HCwC]
    · isplitl [HCsP]; · iexact HCsP
      iexact HCwC
    icases Hnew with HPcw0
    isplitl [HC81]; · iexact HC81
    isplitl [HPcw0]; · iexact HPcw0
    isplitl [HPaw32]; · iexact HPaw32
    isplitl [HPcr16]; · iexact HPcr16
    isplitl [HDself]; · iexact HDself
    isplitl [HsC]; · iexact HsC
    isplitl [HDxs]; · iexact HDxs
    isplitl [Hxr]; · iexact Hxr
    isplitl [Hyrw]; · iexact Hyrw
    isplitl [Hyow]; · iexact Hyow
    isplitl [HabG]; · iexact HabG
    isplitl [HDAr]; · iexact HDAr
    isplitl [HCZ]; · iexact HCZ
    isplitl [HDX]; · iexact HDX
    isplitl [HDb]; · iexact HDb
    isplitl [Hx]; · iexact Hx
    isplitl [How]; · iexact How
    iexact HR
  refine bind_step (part42 ?_)
  refine bind_step (part43 ?_)
  refine cw_step 13 rfl (by clear * - c; revert c; decide) (fun _ => rfl) (fun _ => sem_at _ (by decide) rfl) ?_
  refine cw_step 14 rfl (by clear * - c; revert c; decide) (fun _ => rfl) (fun _ => sem_at _ (by decide) rfl) ?_
  exact ret_step H

/-- What the device holds when the body ends. -/
def BodyEnd (m : (ℓ : Loc nD τ sig) → Buf (Elt F) ℓ) (K : Dev nD × CK → ℕ) (c : Dev nD) : sProp 𝕄 :=
  iprop(Core m K c 81 ∗ oW c (outAt m c) ∗ ybW c (YY m c) ∗ Ph (cwA c) (cwB m c) 16 ∗ Ph (awA m c) (awB m c) 32 ∗ Done m c .self ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ DCr m c ∗ selfChk m c)

set_option maxHeartbeats 16000000 in
/-- The body on device `c`, from what it holds at first to what it holds at the end. -/
theorem body_run {R : sProp 𝕄} {f7 f8 : Vec F S128x4096 .f32} {fab : Buf (Elt F) (abM.view.loc (c : Thread nD τ))} {fxo : Buf (Elt F) (xoM.view.loc (c : Thread nD τ))}
    {fma : Buf (Elt F) (maM.view.loc (c : Thread nD τ))} {fyq : Buf (Elt F) (yqM.view.loc (c : Thread nD τ))} {fo : Buf (Elt F) (oM.view.loc (c : Thread nD τ))} {Q : PUnit → sProp 𝕄}
    (H : iprop(BodyEnd m K c ∗ R) ⊢ Q ⟨⟩) :
    iprop(Core m K c 0 ∗ abPts c fab ∗ xPts c (xstg m c) ∗ xoW c fxo ∗ Ph (wA m c) wB 0 ∗ SlotFree c 0 0 ∗ SlotFree c 1 0 ∗ Wb m c 0 ∗ XrWait c ∗ yoPts c f7 ∗ yrPts c f8 ∗ SigT c ∗ BarT c ∗ XsT c ∗ maW c fma ∗ AsT c ∗ ArT c ∗ yqW c fyq ∗ CsT c ∗ dutyTok ER (cell c .self) 0 0 ∗ Ph (crA c) (crB m c) 0 ∗ atPos ER (cell c .self) 0 ∅ 0 ∗ atPos ER (cell c .xs) 0 ∅ 0 ∗ AsP c ∗ CsP c ∗ oW c fo ∗ R)
      ⊢ wpc c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Q := by
  rw [cc0_body_eq_skeleton]
  unfold cc0_body_skel
  refine bind_step (part44 ?_)
  refine cw_step 15 rfl (by clear * - c; revert c; decide) (fun _ => rfl) (fun _ => sem_at _ (by decide) rfl) ?_
  show iprop(Core m K c 81 ∗ Ph (cwA c) (cwB m c) 16 ∗ Ph (awA m c) (awB m c) 32 ∗ Ph (crA c) (crB m c) 16 ∗ Done m c .self ∗ selfC m c ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ oW c fo ∗ R) ⊢ _
  refine ent_trans (P2 := iprop(ybW c (YY m c) ∗ oW c fo ∗ Core m K c 81 ∗ Ph (cwA c) (cwB m c) 16 ∗ Ph (awA m c) (awB m c) 32 ∗ Done m c .self ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ DCr m c ∗ selfChk m c ∗ R)) ?_ ?_
  · iintro ⟨HC81, HPcw16, HPaw32, HPcr16, HDself, HsC, HDxs, Hxr, Hyrw, Hyow, HabG, HDAr, HCZ, HDX, HDb, Hx, How, HR⟩
    ihave Hnew := cr_join $$ [HPcr16 HsC]
    · isplitl [HPcr16]; · iexact HPcr16
      iexact HsC
    icases Hnew with ⟨HDCr, Hyb, HsChk⟩
    isplitl [Hyb]; · iexact Hyb
    isplitl [How]; · iexact How
    isplitl [HC81]; · iexact HC81
    isplitl [HPcw16]; · iexact HPcw16
    isplitl [HPaw32]; · iexact HPaw32
    isplitl [HDself]; · iexact HDself
    isplitl [HDxs]; · iexact HDxs
    isplitl [Hxr]; · iexact Hxr
    isplitl [Hyrw]; · iexact Hyrw
    isplitl [Hyow]; · iexact Hyow
    isplitl [HabG]; · iexact HabG
    isplitl [HDAr]; · iexact HDAr
    isplitl [HCZ]; · iexact HCZ
    isplitl [HDX]; · iexact HDX
    isplitl [HDb]; · iexact HDb
    isplitl [Hx]; · iexact Hx
    isplitl [HDCr]; · iexact HDCr
    isplitl [HsChk]; · iexact HsChk
    iexact HR
  refine ld_eq (YY m c) (Memref.readAt_unit_zero (Elt F) cc0_scratch7 off00 _ _) ?_
  refine ent_trans (P2 := iprop(oW c fo ∗ ybW c (YY m c) ∗ Core m K c 81 ∗ Ph (cwA c) (cwB m c) 16 ∗ Ph (awA m c) (awB m c) 32 ∗ Done m c .self ∗ Done m c .xs ∗ xoPts c fullShare.right (xb m c) ∗ yrW c (acc m c (xb m (partner c)) 15) ∗ yoW c (acc m c (xb m c) 15) ∗ abPts c (GG m c) ∗ DAr m c ∗ CZ m c ∗ Done m c .xr ∗ Done m c .bar ∗ xPts c (xstg m c) ∗ DCr m c ∗ selfChk m c ∗ R)) ?_ ?_
  · iintro ⟨Hyb, How, HC81, HPcw16, HPaw32, HDself, HDxs, Hxr, Hyrw, Hyow, HabG, HDAr, HCZ, HDX, HDb, Hx, HDCr, HsChk, HR⟩
    isplitl [How]; · iexact How
    isplitl [Hyb]; · iexact Hyb
    isplitl [HC81]; · iexact HC81
    isplitl [HPcw16]; · iexact HPcw16
    isplitl [HPaw32]; · iexact HPaw32
    isplitl [HDself]; · iexact HDself
    isplitl [HDxs]; · iexact HDxs
    isplitl [Hxr]; · iexact Hxr
    isplitl [Hyrw]; · iexact Hyrw
    isplitl [Hyow]; · iexact Hyow
    isplitl [HabG]; · iexact HabG
    isplitl [HDAr]; · iexact HDAr
    isplitl [HCZ]; · iexact HCZ
    isplitl [HDX]; · iexact HDX
    isplitl [HDb]; · iexact HDb
    isplitl [Hx]; · iexact Hx
    isplitl [HDCr]; · iexact HDCr
    isplitl [HsChk]; · iexact HsChk
    iexact HR
  refine ld_any fun v => ?_
  refine st_eq (outAt m c) (Memref.write_access_unit_zero_univ (Elt F) cc0_stg1_0 off00 _ _ _) ?_
  refine ret_step (ent_trans ?_ H)
  unfold BodyEnd
  iintro ⟨Hoo, Hyb, HC81, HPcw16, HPaw32, HDself, HDxs, Hxr, Hyrw, Hyow, HabG, HDAr, HCZ, HDX, HDb, Hx, HDCr, HsChk, HR⟩
  isplitr [HR]
  · isplitl [HC81]; · iexact HC81
    isplitl [Hoo]; · iexact Hoo
    isplitl [Hyb]; · iexact Hyb
    isplitl [HPcw16]; · iexact HPcw16
    isplitl [HPaw32]; · iexact HPaw32
    isplitl [HDself]; · iexact HDself
    isplitl [HDxs]; · iexact HDxs
    isplitl [Hxr]; · iexact Hxr
    isplitl [Hyrw]; · iexact Hyrw
    isplitl [Hyow]; · iexact Hyow
    isplitl [HabG]; · iexact HabG
    isplitl [HDAr]; · iexact HDAr
    isplitl [HCZ]; · iexact HCZ
    isplitl [HDX]; · iexact HDX
    isplitl [HDb]; · iexact HDb
    isplitl [Hx]; · iexact Hx
    isplitl [HDCr]; · iexact HDCr
    iexact HsChk
  iexact HR

end Cert.QuantProof
-- ==== Proof.Launch.lean ====
/-
# The launch

From the launch to the kernel's body on every device, and from its end to the end of the program.
-/
module

public import proofs.«01_k».proof.Proof.Start
public import proofs.«01_k».proof.Proof.Body

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

/-! ## The two slots of the buffer for `w` -/

abbrev wfW (c : Dev nD) (f : Buf (Elt F) (wfM.view.loc (c : Thread nD τ))) : sProp 𝕄 := wfM.view.loc (c : Thread nD τ) ↦[Finset.univ]{fullShare} f
abbrev wbW (c : Dev nD) (f : Buf (Elt F) (wbM.view.loc (c : Thread nD τ))) : sProp 𝕄 := wbM.view.loc (c : Thread nD τ) ↦[Finset.univ]{fullShare} f
abbrev xrW (c : Dev nD) (f : Buf (Elt F) (xrM.view.loc (c : Thread nD τ))) : sProp 𝕄 := xrM.view.loc (c : Thread nD τ) ↦[Finset.univ]{fullShare} f

abbrev slotSet (p : Fin 2) : Finset S2x256x4096.Idx := (slotM p).view.set
omit [FloatOps F] in
theorem slot_first {p : Fin 2} {i : S2x256x4096.Idx} (h : i ∈ slotSet p) : (i 0 : Fin 2) = p := by
  obtain ⟨y, -, rfl⟩ := Finset.mem_map.mp h
  rw [slot_emb]; rfl
omit [FloatOps F] in
theorem slots_disj : ∀ p q : Fin 2, p ≠ q → Disjoint (slotSet p) (slotSet q) := fun p q h => by
  rw [Finset.disjoint_left]
  intro i hp hq
  exact h ((slot_first hp).symm.trans (slot_first hq))
omit [FloatOps F] in
theorem slots_cover (c : Dev nD) : Finset.univ.biUnion (fun p : Fin 2 => (slotSet p : Finset (Idx (wfM.view.loc (c : Thread nD τ))))) = Finset.univ := by
  ext i
  simp only [Finset.mem_biUnion, Finset.mem_univ, true_and, iff_true]
  refine ⟨(⟨(i 0).val, (i 0).isLt⟩ : Fin 2), Finset.mem_map.mpr ⟨(fun a => match a with | ⟨0, _⟩ => i 1 | ⟨1, _⟩ => i 2 : S256x4096.Idx), Finset.mem_univ _, ?_⟩⟩
  refine (slot_emb _ _).trans ?_
  funext a
  match a with
  | ⟨0, _⟩ => rfl
  | ⟨1, _⟩ => rfl
  | ⟨2, _⟩ => rfl
omit [FloatOps F] in
theorem fin2_split (Φ : Fin 2 → sProp 𝕄) : bigSep Finset.univ Φ = iprop(Φ 0 ∗ Φ 1) :=
  bigSep_univ_eq_bigSepL [0, 1] (by decide) (by decide) Φ
omit [FloatOps F] in
theorem wf_slots (c : Dev nD) (f : Buf (Elt F) (wfM.view.loc (c : Thread nD τ))) : wfW c f = iprop(slotPts c 0 f ∗ slotPts c 1 f) := by
  refine (Ring.pointsTo_blocks (ℓ := wfM.view.loc (c : Thread nD τ)) (fun p : Fin 2 => slotSet p) slots_disj (slots_cover c) f).trans ?_
  exact fin2_split _
def joinF (f g : Vec F S2x256x4096 .f32) : Vec F S2x256x4096 .f32 := fun i => if (i 0).val = 0 then f i else g i
omit [FloatOps F] in
/-- The slots joined, each with its own contents. -/
theorem wf_join (c : Dev nD) (f g : Buf (Elt F) (wfM.view.loc (c : Thread nD τ))) : iprop(slotPts c 0 f ∗ slotPts c 1 g) ⊢ iprop(∃ h, wfW c h) := by
  have e0 : slotPts c 0 f = slotPts c 0 (joinF f g) := by
    unfold slotPts
    exact pointsTo_congr fun i hi => (if_pos (congrArg Fin.val (slot_first hi))).symm
  have e1 : slotPts c 1 g = slotPts c 1 (joinF f g) := by
    unfold slotPts
    exact pointsTo_congr fun i hi => (if_neg fun h => absurd ((congrArg Fin.val (slot_first hi)).symm.trans h) (by decide)).symm
  rw [e0, e1, ← wf_slots]
  iintro H
  iexists _
  iexact H

/-! ## The scratch buffers -/

/-- The kernel's own buffers at some contents. -/
def Scr (c : Dev nD) : sProp 𝕄 :=
  iprop((∃ f, wfW c f) ∗ (∃ f, wbW c f) ∗ (∃ f, xoW c f) ∗ (∃ f, xrW c f) ∗ (∃ f, yoW c f) ∗ (∃ f, yrW c f) ∗ (∃ f, yqW c f) ∗ (∃ f, ybW c f) ∗ (∃ f, maW c f) ∗ (∃ f, abPts c f))
theorem scr_eq (c : Dev nD) : (Pipeline.scopedRest (Ix := Unit) (Name := ℕ) (U := UU) (Lvl := ℕ) (Val := Elt F) spec0 c : sProp 𝕄) = Scr c := scopedRest0_eq c

/-! ## From the launch -/

/-- The copies of `w`: the tickets and the shares of the argument. -/
abbrev wL (m : (ℓ : Loc nD τ sig) → Buf (Elt F) ℓ) (c : Dev nD) (q : PosShare TreeShare) : sProp 𝕄 := wM.view.loc (c : Thread nD τ) ↦[Finset.univ]{q} wFull m c

/-- The credits the launch deals. -/
def Crs (c : Dev nD) : sProp 𝕄 :=
  iprop(cred (tallyAt (cell c .bar) () 31) ∗ cred (tallyAt (cell c .xr) () xN)
      ∗ (bigSep Finset.univ fun p : Fin 32 => if p = c then iprop(emp) else cred (tallyAt (cell c (.ar p)) () rowN))
      ∗ bigSep Finset.univ fun s : Fin 16 => if sender c s = c then iprop(emp) else cred (tallyAt (cell c (.cr s)) () blkN))

/-- What a device starts from, but for its buffers. -/
def start (m : (ℓ : Loc nD τ sig) → Buf (Elt F) ℓ) (c : Dev nD) : sProp 𝕄 :=
  iprop(G' m c ∗ Crs c ∗ Levs ∗ wL m c fullShare.left)

/-- A device's tickets, family by family. -/
theorem toks_eq (c : Dev nD) : (toks c : sProp 𝕄) = iprop((dutyTok ER (cell c .xs) 0 0 ∗ dutyTok ER (cell (partner c) .xr) 0 0 ∗ dutyTok ER (cell c .self) 0 0)
    ∗ (bigSep Finset.univ fun p : Fin 32 => dutyTok ER (cell p .bar) 0 c)
    ∗ (bigSep Finset.univ fun k : Fin 16 => dutyTok ER (cell c (.ws ⟨k.val % 2, Nat.mod_lt _ (by decide)⟩)) (k.val / 2) 0)
    ∗ (bigSep Finset.univ fun p : Fin 32 => dutyTok ER (cell c (.as p)) 0 0) ∗ (bigSep Finset.univ fun p : Fin 32 => dutyTok ER (cell p (.ar c)) 0 0)
    ∗ (bigSep Finset.univ fun j : Fin 16 => dutyTok ER (cell c (.cs j)) 0 0) ∗ (bigSep Finset.univ fun j : Fin 16 => dutyTok ER (cell (dest c j) (.cr (pair c))) 0 0)) := by
  unfold toks
  rw [bigSep_univ_sum, bigSep_univ_sum, bigSep_univ_sum, bigSep_univ_sum, bigSep_univ_sum, bigSep_univ_sum, fin3_split]
  rfl

omit [FloatOps F] in
/-- Pieces kept only where a condition fails. -/
theorem bigSep_unless {ι : Type} {S : Finset ι} (P : ι → Prop) [DecidablePred P] (A : ι → sProp 𝕄) : bigSep S A ⊢ bigSep S fun i => if P i then iprop(emp) else A i :=
  bigSep_each fun i _ => by
    by_cases h : P i
    · rw [if_pos h]; iintro -; iempintro
    · rw [if_neg h]
omit [FloatOps F] in
theorem bigSep_unless_two {ι : Type} {S : Finset ι} (P : ι → Prop) [DecidablePred P] (A B : ι → sProp 𝕄) :
    iprop(bigSep S A ∗ bigSep S B) ⊢ bigSep S fun i => if P i then iprop(emp) else iprop(A i ∗ B i) :=
  bigSep_two fun i _ => by
    by_cases h : P i
    · rw [if_pos h]; iintro -; iempintro
    · rw [if_neg h]

theorem w_intro (c : Dev nD) : iprop((bigSep Finset.univ fun k : Fin 16 => dutyTok ER (cell c (.ws ⟨k.val % 2, Nat.mod_lt _ (by decide)⟩)) (k.val / 2) 0) ∗ wL m c fullShare.left)
    ⊢ Ph (wA m c) wB 0 := by
  rw [ph_zero, show wL m c fullShare.left = bigSep Finset.univ fun k : Fin 16 => (wM.view.loc (c : Thread nD τ) ↦[Finset.univ]{ShareLeaves.leaf 4 fullShare.left k} wFull m c : sProp 𝕄) from
    ShareLeaves.pointsTo_leaves Finset.univ _ 4 fullShare.left]
  exact bigSep_two fun k _ => Entails.refl

theorem slot_intro (s : Fin 2) (f : Buf (Elt F) (wfM.view.loc (c : Thread nD τ))) : iprop(Recs m K ∗ atPos ER (cell c (.ws s)) 0 ∅ 0 ∗ slotPts c s f) ⊢ SlotFree c s 0 := by
  unfold SlotFree
  iintro ⟨HR, Ha, Hs⟩
  isplitl [Ha]; · iexact Ha
  isplitl [HR]; · iapply (recs_reached m K c (.ws s)); iexact HR
  iexists f
  iexact Hs

theorem wb_intro (c : Dev nD) (f : Buf (Elt F) (wbM.view.loc (c : Thread nD τ))) : wbW c f ⊢ Wb m c 0 := by
  unfold Wb
  iintro H
  iexists f
  isplitr; · ipureintro; exact fun j hj => absurd hj (Nat.not_lt_zero j)
  iexact H

theorem xr_raw {f : Buf (Elt F) (xrM.view.loc (c : Thread nD τ))} : xrW c f ⊢ xrPts c f := by
  unfold xrPts
  rw [show xrM.view.set = Finset.univ from View.set_whole _]
theorem xr_back {f : Buf (Elt F) (xrM.view.loc (c : Thread nD τ))} : xrPts c f ⊢ xrW c f := by
  unfold xrPts
  rw [show xrM.view.set = Finset.univ from View.set_whole _]

theorem sig_make : iprop((∃ f, ybW c f) ∗ (∃ f, xrW c f) ∗ bigSep Finset.univ fun p : Fin 32 => dutyTok ER (cell p .bar) 0 c) ⊢ (SigT c : sProp 𝕄) := by
  unfold SigT
  iintro ⟨Hy, ⟨%f, Hx⟩, Ht⟩
  isplitl [Hy]; · iexact Hy
  isplitl [Hx]; · iexists f; iapply xr_raw; iexact Hx
  iapply (bigSep_unless (fun p : Fin 32 => p = c)); iexact Ht

theorem ats_eq (c : Dev nD) : (ats c : sProp 𝕄) = iprop((atPos ER (cell c .bar) 0 ∅ 0 ∗ atPos ER (cell c .xs) 0 ∅ 0 ∗ atPos ER (cell c .xr) 0 ∅ 0 ∗ atPos ER (cell c .self) 0 ∅ 0)
    ∗ (bigSep Finset.univ fun s => atPos ER (cell c (.ws s)) 0 ∅ 0) ∗ AsP c ∗ (bigSep Finset.univ fun p => atPos ER (cell c (.ar p)) 0 ∅ 0)
    ∗ CsP c ∗ (bigSep Finset.univ fun s => atPos ER (cell c (.cr s)) 0 ∅ 0)) := by
  unfold ats AsP CsP; exact ck_split _

theorem ar_make : iprop((bigSep Finset.univ fun p => atPos ER (cell c (.ar p)) 0 ∅ 0) ∗ (bigSep Finset.univ fun p : Fin 32 => if p = c then iprop(emp) else cred (tallyAt (cell c (.ar p)) () rowN)))
    ⊢ (ArT c : sProp 𝕄) := by
  unfold ArT; exact bigSep_two fun p _ => Entails.refl
theorem cr_make : iprop((bigSep Finset.univ fun s => atPos ER (cell c (.cr s)) 0 ∅ 0) ∗ (bigSep Finset.univ fun s : Fin 16 => if sender c s = c then iprop(emp) else cred (tallyAt (cell c (.cr s)) () blkN)))
    ⊢ Ph (crA c) (crB m c) 0 := by
  rw [ph_zero]; exact bigSep_two fun p _ => Entails.refl
theorem as_make : iprop((bigSep Finset.univ fun p : Fin 32 => dutyTok ER (cell c (.as p)) 0 0) ∗ (bigSep Finset.univ fun p : Fin 32 => dutyTok ER (cell p (.ar c)) 0 0)) ⊢ (AsT c : sProp 𝕄) := by
  unfold AsT; exact bigSep_unless_two (fun p : Fin 32 => p = c) _ _
theorem cst_make : iprop((bigSep Finset.univ fun j : Fin 16 => dutyTok ER (cell c (.cs j)) 0 0) ∗ (bigSep Finset.univ fun j : Fin 16 => dutyTok ER (cell (dest c j) (.cr (pair c))) 0 0)) ⊢ (CsT c : sProp 𝕄) := by
  unfold CsT; exact bigSep_unless_two (fun j : Fin 16 => dest c j = c) _ _

theorem core_make : iprop(Recs0 m K ∗ Levs ∗ ∃ W, owes (c : Thread nD τ) (owed c 0) W) ⊢ iprop(Recs m K ∗ Core m K c 0) := by
  unfold Core Recs Recs0
  iintro ⟨#H1, #H2, H3⟩
  isplitr
  · isplitl; · iexact H1
    iexact H2
  isplitr
  · isplitl; · iexact H1
    iexact H2
  iexact H3

set_option maxHeartbeats 4000000 in
/-- The kernel's body on a device, from what the launch deals it. -/
theorem body_start {R : sProp 𝕄} {fo : Buf (Elt F) (oM.view.loc (c : Thread nD τ))} {Q : PUnit → sProp 𝕄} (H : ∀ K, iprop(BodyEnd m K c ∗ R) ⊢ Q ⟨⟩) :
    iprop(start m c ∗ Scr c ∗ (∃ W, owes (c : Thread nD τ) (owed c 0) W) ∗ xPts c (xstg m c) ∗ oW c fo ∗ R) ⊢ wpc c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Q := by
  unfold start G' Crs Scr
  rw [toks_eq, ats_eq, fin2_split]
  iintro ⟨⟨⟨⟨%K, HRc⟩, ⟨⟨Hab1, Haxs, Haxr, Haself⟩, ⟨Haw0, Haw1⟩, HaAs, HaAr, HaCs, HaCr⟩, ⟨Htxs, Htxr, Htself⟩, Htbar, Htws, Htas, Htar, Htcs, Htcr⟩, ⟨Hcbar, Hcxr, Hcar, Hccr⟩, HLv, Hw⟩, ⟨⟨%fwf, Hwf⟩, ⟨%fwb, Hwb⟩, ⟨%fxo, Hxo⟩, Hxr, ⟨%f7, Hyo⟩, ⟨%f8, Hyr⟩, ⟨%fyq, Hyq⟩, Hyb, ⟨%fma, Hma⟩, ⟨%fab, Hab⟩⟩, HO, Hx, Ho, HR⟩
  ihave HC := (core_make (m := m) (K := K) (c := c)) $$ [HRc HLv HO]
  · isplitl [HRc]; · iexact HRc
    isplitl [HLv]; · iexact HLv
    iexact HO
  icases HC with ⟨#HRs, HC⟩
  ihave Hsl := (Entails.of_eq (wf_slots c fwf)) $$ Hwf
  icases Hsl with ⟨Hs0, Hs1⟩
  iapply (body_run (K := K) (fab := fab) (fxo := fxo) (fma := fma) (fyq := fyq) (fo := fo) (f7 := f7) (f8 := f8) (H K))
  isplitl [HC]
  · iexact HC
  isplitl [Hab]
  · iexact Hab
  isplitl [Hx]
  · iexact Hx
  isplitl [Hxo]
  · iexact Hxo
  isplitl [Htws Hw]
  · iapply w_intro c
    isplitl [Htws]; · iexact Htws
    iexact Hw
  isplitl [Haw0 Hs0]
  · iapply (slot_intro (m := m) (K := K) (0 : Fin 2) fwf)
    isplitr; · iexact HRs
    isplitl [Haw0]; · iexact Haw0
    iexact Hs0
  isplitl [Haw1 Hs1]
  · iapply (slot_intro (m := m) (K := K) (1 : Fin 2) fwf)
    isplitr; · iexact HRs
    isplitl [Haw1]; · iexact Haw1
    iexact Hs1
  isplitl [Hwb]
  · iapply (wb_intro c fwb); iexact Hwb
  isplitl [Haxr Hcxr]
  · unfold XrWait
    isplitl [Haxr]; · iexact Haxr
    iexact Hcxr
  isplitl [Hyo]
  · iapply (Entails.of_eq (show yoW c f7 = yoPts c f7 from rfl)); iexact Hyo
  isplitl [Hyr]
  · iapply (Entails.of_eq (show yrW c f8 = yrPts c f8 from rfl)); iexact Hyr
  isplitl [Hyb Hxr Htbar]
  · iapply sig_make
    isplitl [Hyb]; · iexact Hyb
    isplitl [Hxr]; · iexact Hxr
    iexact Htbar
  isplitl [Hcbar Hab1]
  · unfold BarT
    isplitl [Hcbar]; · iexact Hcbar
    iexact Hab1
  isplitl [Htxs Htxr]
  · unfold XsT
    isplitl [Htxs]; · iexact Htxs
    iexact Htxr
  isplitl [Hma]
  · iexact Hma
  isplitl [Htas Htar]
  · iapply as_make
    isplitl [Htas]; · iexact Htas
    iexact Htar
  isplitl [HaAr Hcar]
  · iapply ar_make
    isplitl [HaAr]; · iexact HaAr
    iexact Hcar
  isplitl [Hyq]
  · iexact Hyq
  isplitl [Htcs Htcr]
  · iapply cst_make
    isplitl [Htcs]; · iexact Htcs
    iexact Htcr
  isplitl [Htself]
  · iexact Htself
  isplitl [HaCr Hccr]
  · iapply cr_make
    isplitl [HaCr]; · iexact HaCr
    iexact Hccr
  isplitl [Haself]
  · iexact Haself
  isplitl [Haxs]
  · iexact Haxs
  isplitl [HaAs]
  · iexact HaAs
  isplitl [HaCs]
  · iexact HaCs
  isplitl [Ho]
  · iexact Ho
  iexact HR

/-! ## To the end -/

theorem chks_back : iprop((bigSep Finset.univ fun j : Fin 16 => if dest c j = c then iprop(emp) else chkPts c j (QQ m c)) ∗ selfChk m c) ⊢ yqW c (QQ m c) := by
  rw [self_chk, yq_chks]
  exact bigSep_two fun j _ => by
    by_cases h : dest c j = c
    · rw [if_pos h, if_pos h]; iintro ⟨-, H⟩; iexact H
    · rw [if_neg h, if_neg h]; iintro ⟨H, -⟩; iexact H

theorem cw_done : Ph (cwA c) (cwB m c) 16 ⊢ iprop((bigSep Finset.univ fun j : Fin 16 => Done m c (.cs j)) ∗ bigSep Finset.univ fun j : Fin 16 => if dest c j = c then iprop(emp) else chkPts c j (QQ m c)) := by
  rw [ph_end]; exact bigSep_into fun j _ => Entails.refl
theorem aw_done : Ph (awA m c) (awB m c) 32 ⊢ iprop((bigSep Finset.univ fun p : Fin 32 => Done m c (.as p)) ∗ maW c (amaxRow m c)) := by
  rw [ph_end, ma_leaves]; exact bigSep_into fun j _ => Entails.refl

/-- Every cell finished: the semaphores are back at zero. -/
theorem close_all : iprop(Recs m K ∗ bigSep Finset.univ fun k : CK => Done m c k) ⊢ iprop(|={Set.univ}=> bigSep Finset.univ fun k : CK => semVal (cell c k) 0) :=
  (bigSep_shared (R := Recs m K) (Φ := fun k : CK => Done m c k) (Ψ := fun k : CK => iprop(|={Set.univ}=> semVal (cell c k) 0)) fun k _ => done_close).trans (bigSep_fupd _ _)

/-- What a device ends with. -/
def fin (c : Dev nD) : sProp 𝕄 := iprop(Scr c ∗ bigSep Finset.univ fun k : CK => semVal (cell c k) 0)

set_option maxHeartbeats 4000000 in
theorem body_fin : BodyEnd m K c ⊢ iprop(|={Set.univ}=> (fin c ∗ (∃ W, owes (c : Thread nD τ) 0 W) ∗ xPts c (xstg m c) ∗ oW c (outAt m c))) := by
  unfold BodyEnd Core CZ SlotFull
  iintro ⟨⟨HRs, HO⟩, Ho, Hyb, Hcw, Haw, HDself, HDxs, HxoR, Hyr, Hyo, Hab, HDar, ⟨-, ⟨Ha0, -, Hs0⟩, ⟨Ha1, -, Hs1⟩, HWb, HxoL, Hxr⟩, HDxr, HDbar, Hx, HDcr, Hsc⟩
  ihave Hc := cw_done $$ Hcw
  icases Hc with ⟨HDcs, Hchk⟩
  ihave Ha := aw_done $$ Haw
  icases Ha with ⟨HDas, Hma⟩
  imod (close_all (m := m) (K := K) (c := c)) $$ [HRs HDself HDxs HDar HDxr HDbar HDcr HDcs HDas Ha0 Ha1] with Hz
  · isplitl [HRs]; · iexact HRs
    iapply (Entails.of_eq (ck_split (fun k => Done m c k)).symm)
    isplitl [HDbar HDxs HDxr HDself]
    · isplitl [HDbar]; · iexact HDbar
      isplitl [HDxs]; · iexact HDxs
      isplitl [HDxr]; · iexact HDxr
      iexact HDself
    isplitl [Ha0 Ha1]
    · iapply (Entails.of_eq (fin2_split (fun s => Done m c (.ws s))).symm)
      isplitl [Ha0]; · iapply (done_last (k := .ws 0)); iexact Ha0
      iapply (done_last (k := .ws 1)); iexact Ha1
    isplitl [HDas]; · iexact HDas
    isplitl [HDar]; · iapply (Entails.of_eq (show DAr m c = bigSep Finset.univ fun p : Fin 32 => Done m c (.ar p) from rfl)); iexact HDar
    isplitl [HDcs]; · iexact HDcs
    iapply (Entails.of_eq (show DCr m c = bigSep Finset.univ fun p : Fin 16 => Done m c (.cr p) from rfl)); iexact HDcr
  imodintro
  isplitl [Hz Hyb Hma Hchk Hsc HxoR HxoL Hyr Hyo Hab Hs0 Hs1 HWb Hxr]
  · unfold fin Scr
    isplitr [Hz]
    · isplitl [Hs0 Hs1]
      · iapply (wf_join c (WF m c 14) (WF m c 15))
        isplitl [Hs0]; · iexact Hs0
        iexact Hs1
      isplitl [HWb]
      · unfold Wb; icases HWb with ⟨%f, -, H⟩; iexists f; iexact H
      isplitl [HxoL HxoR]
      · iexists (xb m c)
        iapply xo_join
        isplitl [HxoL]; · iexact HxoL
        iexact HxoR
      isplitl [Hxr]; · iexists (xb m (partner c)); iapply xr_back; iexact Hxr
      isplitl [Hyo]; · iexists _; iexact Hyo
      isplitl [Hyr]; · iexists _; iexact Hyr
      isplitl [Hchk Hsc]
      · iexists (QQ m c)
        iapply chks_back
        isplitl [Hchk]; · iexact Hchk
        iexact Hsc
      isplitl [Hyb]; · iexists _; iexact Hyb
      isplitl [Hma]; · iexists _; iexact Hma
      iexists _; iexact Hab
    iexact Hz
  isplitl [HO]; · iapply (Entails.of_eq (show iprop(∃ W, owes (c : Thread nD τ) (owed c 81) W) = (iprop(∃ W, owes (c : Thread nD τ) 0 W) : sProp 𝕄) from by rw [owed_end])); iexact HO
  isplitl [Hx]; · iexact Hx
  iexact Ho

end Cert.QuantProof
-- ==== Proof.Run.lean ====
/-
# The run

The whole program, from any memory with zero counters: every execution ends, the results at the computed contents, the arguments as they were,
every counter at zero.
-/
module

public import proofs.«01_k».proof.Proof.Launch
public import Idealize.ShloMosaic.Lib.Pipeline.CollectiveSegs

@[expose] public section

noncomputable section

namespace Cert.QuantProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable {m : (ℓ : Loc nD τ sig) → Buf (Elt F) ℓ}
variable {K : Dev nD × CK → ℕ} {c : Dev nD} {n : ℕ}
variable {α : Type}
variable {k : Prog (TpuEff nD τ sig (Elt F) Λ₀ .tc) α}

variable (m) in
def s₀ (ρ : Dev nD → PrngReg) : MemSt nD τ sig (Elt F) := ⟨m, fun _ => 0, ρ⟩

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (m : (ℓ : Loc nD τ sig) → Buf (Elt F) ℓ) (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => iprop(start m c ∗ Scr c)
    | ⟨_ + 1, _⟩ => fin c
  q _ := fullShare
  owed t := match t with
    | ⟨0, _⟩ => owed c 0
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (m : (ℓ : Loc nD τ sig) → Buf (Elt F) ℓ) (c : Dev nD) : sProp 𝕄 :=
  iprop((start m c ∗ Scr c) ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
def bodyPost (m : (ℓ : Loc nD τ sig) → Buf (Elt F) ℓ) (c : Dev nD) : sProp 𝕄 :=
  iprop(fin c ∗ (dats m 0 c).owesAt () t₀.succ ∗ stg c cc0_stg0_0 (xstg m c) ∗ stg c cc0_stg1_0 (outAt m c))

theorem before_x (c : Dev nD) (d) : (dats m 0 c).before (0 : Fin 2) t₀ d = xstg m c := rfl

theorem body_post (c : Dev nD) : BodyEnd m K c ⊢ iprop(|={Set.univ}=> bodyPost m c) := by
  refine ent_trans body_fin ?_
  iintro H
  imod H with ⟨Hf, ⟨%W, HO⟩, Hx, Ho⟩
  imodintro
  unfold bodyPost Dat.owesAt Pipeline.owesWithin
  rw [show (dats m 0 c).owed t₀.succ = 0 from rfl]
  isplitl [Hf]; · iexact Hf
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_whole (c : Dev nD) : bodyPre m c ⊢ wpc c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => bodyPost m c) := by
  refine ent_trans ?_ (wp_fupd frame (wpE (defs₀ (F := F)) 𝒱₀ c none) _ _ _)
  unfold bodyPre Dat.owesAt Pipeline.owesWithin
  iintro ⟨⟨Hs, HS⟩, ⟨%W, %hW, HO⟩, ⟨%d, %fx, %hx, Hx⟩, ⟨%d', %fo, %ho, Ho⟩⟩
  iapply (body_start (m := m) (c := c) (R := iprop(emp)) (fo := fo) (fun K => ent_trans sep_elim_left (body_post c)))
  isplitl [Hs]; · iexact Hs
  isplitl [HS]; · iexact HS
  isplitl [HO]
  · iexists W
    iapply (Entails.of_eq (show owes (c : Thread nD τ) ((dats m 0 c).owed t₀.castSucc) W = (owes (c : Thread nD τ) (owed c 0) W : sProp 𝕄) from rfl)); iexact HO
  isplitl [Hx]
  · subst hx
    iexact Hx
  isplitl [Ho]
  · iexact Ho
  iempintro

set_option maxRecDepth 4000 in
/-- The library's body obligation on a device. -/
theorem body_obligation (c : Dev nD) : BodyObligation (dats (F := F) m 0 c) (defs₀ (F := F)) 𝒱₀ () Set.univ := fun t => by
  rw [fin_N t]
  rw [bigSep_W, bigSep_W]
  simp only [owns_whole_eq]
  exact body_whole c

/-! ## The launch's conditions -/

def ckOwn : CK → OwnK
  | .bar => .inl 0 | .xs => .inl 0 | .xr => .inl 1 | .self => .inl 2
  | .ws s => .inr (.inl s)
  | .as p => .inr (.inr (.inl p))
  | .ar p => .inr (.inr (.inr (.inl p)))
  | .cs j => .inr (.inr (.inr (.inr (.inl j))))
  | .cr s => .inr (.inr (.inr (.inr (.inr s))))
theorem ckOwn_own (x : OwnK) : ckOwn (ownCK x) = x := by
  rcases x with x | x | x | x | x | x
  · match x with
    | 0 => rfl
    | 1 => rfl
    | 2 => rfl
  all_goals rfl

theorem ownSemFacts : Pipeline.OwnSemFacts cfg0.spec osem where
  isScoped := by decide
  inj := fun a b h => by
    have e := congrArg ckOwn (csem_inj h)
    rwa [ckOwn_own, ckOwn_own] at e
  disj := by decide

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ wL m c fullShare.right) := by
  iintro ⟨Hw, Hlev, Hcr, -, HG⟩
  ihave Hc := (creds (F := F) c) $$ Hcr
  ihave Hw' := (show Pipeline.unscopedRestP Pipeline.Prefetch.none cfg0.spec c (fun b => m ((c : Thread nD τ).loc b)) ⊢ (iprop(wL m c fullShare.left ∗ wL m c fullShare.right) : sProp 𝕄) from
    ent_trans (Entails.of_eq ((Pipeline.unscopedRestP_none _ _ _).trans (unscopedRest0_eq c _))) (pointsTo_share (PosShare.mem_left_op_right fullShare)).1) $$ Hw
  icases Hw' with ⟨HwL, HwR⟩
  imodintro
  unfold start Crs
  isplitl [HG Hc Hlev HwL]
  · isplitl [HG]; · iexact HG
    isplitl [Hc]; · iexact Hc
    isplitl [Hlev]; · iapply (Entails.of_eq (show levAts L lv = (Levs : sProp 𝕄) from rfl)); iexact Hlev
    iexact HwL
  · iexact HwR

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Scr c) from rfl, show Pipeline.scopedRest cfg0.spec c = (Scr c : sProp 𝕄) from scr_eq c]
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = fin c from rfl, show Pipeline.scopedRest cfg0.spec c = (Scr c : sProp 𝕄) from scr_eq c]
  unfold fin
  rw [← sems0_eq]
  iintro ⟨Hr, Hu, Ho⟩
  isplitl [Hu]; · iexact Hu
  isplitl [Ho] <;> iassumption

theorem lv_stage (c : Dev nD) (q : DmaSem sig) (hq : q.val < 2) : lv ((c : Thread nD τ), .dma q) () = 0 := by
  unfold lv
  have hn : nameOf (.dma q) = none := by
    unfold nameOf
    refine dif_neg fun ⟨k, hk⟩ => ?_
    by_cases hb : k = .bar
    · subst hb; rw [csem_bar] at hk; cases hk
    · rw [csem_dma hb] at hk
      have h1 : k.ix = q.val := congrArg Fin.val (SemLoc.dma.inj hk)
      have h2 : 2 ≤ k.ix := by cases k <;> simp only [CK.ix] <;> first | omega | exact absurd rfl hb
      omega
  rw [hn]

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () = 0 := lv_stage c _ (by fin_cases w <;> fin_cases s <;> decide)
    rcases t with ⟨_ | _, ht⟩
    · exact mayWait c _ 0 (by rw [hl]; decide)
    · exact ent_trans (mayWait_end c _) (Entails.of_eq (by rw [owed_end]; rfl))

/-! ## The run -/

/-- Every array as computed, and `w` as it was. -/
def QC (m : (ℓ : Loc nD τ sig) → Buf (Elt F) ℓ) : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

theorem read_end (c : Dev nD) (s' : Phys nD τ sig (Elt F)) :
    iprop((unscopedSems0 c : sProp 𝕄) ∗ wL m c fullShare.right ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') := by
  iintro ⟨Hu, Hw, HSI⟩
  imod (Pipeline.unscopedSems0_read (X := unscopedSems0 c) (c := c) fupd_intro s') $$ [Hu HSI] with ⟨%h1, HSI⟩
  · isplitl [Hu] <;> iassumption
  icombine HSI Hw gives %h
  imodintro
  isplitr
  · ipureintro; exact ⟨h1, Buf.eq_of_forall_mem_univ h⟩
  iexact HSI

set_option maxRecDepth 8000 in
/-- For any float values, from any memory with zero counters, every weakly fair execution of the program ends; every final state has each device's result
    at the computed contents, `x` and `w` as they were and every semaphore counter at zero. -/
theorem run_main (ρ : Dev nD → PrngReg) : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation) (hne := fun w => by fin_cases w <;> exact Nat.succ_pos _) (harr := arr_whole0) (hstage := stage_whole0) (hshare := share_eq)
    (hdistinct := winFacts0.arr_inj)
    (O₀ := fun d => owed d 0) (howed₀ := fun _ => rfl) (howedN := fun _ => rfl)
    (L := L) (lv := lv) (hL := L_of_ne) (hwaits := waits)
    (G := G m) (G' := G' m) (u₀ := u₀)
    (hu₀ := by
      unfold u₀
      iintro Hu
      ihave H := (ownU_pair _ _) $$ Hu
      icases H with ⟨HP, HX⟩
      imod (fund_ring (m := m)) $$ HX with HG
      imodintro
      isplitl [HP] <;> iassumption)
    (hglob := glob)
    (hA := fun _ _ => rfl) (hpf := fun _ k => k.elim0)
    (X := start m) (Y := fun c => unscopedSems0 c) (Z := fun c => wL m c fullShare.right)
    (hX := start_intro ρ) (hin := phi0_intro) (hout := phi1_exit)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end c s')
    (hQ := fun _ h hs => ⟨fun c => ⟨fun w => (h c).1 w, (h c).2.2.2⟩, sem_eq_zero hs fun c => (h c).2.2.1⟩)

/-- The block of `x` after the run is what it was. -/
theorem arg0_kept (c : Dev nD) : (dats (F := F) m 0 c).arrAt (0 : Fin 2) cfg0.N = m (win0_0.arr.view.loc (c : Thread nD τ)) :=
  (dats (F := F) m 0 c).arrAt_in (0 : Fin 2) rfl _

end Cert.QuantProof
-- ==== Proof.Frames.lean ====
/-
# The frames

The arguments unchanged and every counter at zero: of the program read at bits, of the program read at the extended reals,
and of the reference.
-/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.QuantProof

open Idealize.ShloMosaic Idealize.ShloMosaic.TcCoe Idealize.SL.Sem

attribute [local instance] Cert.Kernel.Gen.facts Cert.KernelIdeal.Gen.facts Cert.ReferenceIdeal.Gen.facts

/-- The two readings of the program have one table of kernels: first the bodies alone. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))

/-- Then the whole table. -/
theorem table_eq : Cert.Kernel.defs (F := Bits) = Cert.KernelIdeal.defs (F := Bits) :=
  congrArg (Pipeline.defs (Cert.KernelIdeal.pcfgs (F := Bits))) bodies_eq

/-- The kernel read at bits: every execution ends, its arguments as they were, every counter at zero. -/
theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
    (θ_run Cert.KernelIdeal.defs _ _).mono
      (fun _ h => ⟨fun c => ⟨((h.1 c).1 (0 : Fin 2)).trans (arg0_kept c), (h.1 c).2⟩, h.2⟩) (run_main (F := Bits) (m := m) ρ)
  rw [table_eq]
  exact h

/-- The kernel read at the extended reals: the same. -/
theorem frame_kernelIdeal : Cert.quiescent_KernelIdeal := fun m ρ _ =>
  (θ_run Cert.KernelIdeal.defs _ _).mono
    (fun _ h => ⟨fun c => ⟨((h.1 c).1 (0 : Fin 2)).trans (arg0_kept c), (h.1 c).2⟩, h.2⟩) (run_main (F := Ideal) (m := m) ρ)

/-- The reference: its run, and it has no semaphore. -/
theorem frame_reference : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

end Cert.QuantProof

end
-- ==== Proof.Extended.lean ====
/-
# Numbers of the extended reals

What the constants denote, what clipping a rounded number gives, the maximum of an array as a supremum, and a long sum in blocks.
-/
module

public import Idealize.ShloMosaic.PureOps
public import Idealize.ShloMosaic.PureOps.Ideal
public import Idealize.ShloMosaic.PureOps.Ideal.Laws
public import Idealize.ShloMosaic.PureOps.Reduce
public import Mathlib.Algebra.BigOperators.Fin

@[expose] public section

noncomputable section

namespace Cert.QuantProof

open Idealize.ShloMosaic

/-! ## Constants -/

/-- The pattern of 127. -/
theorem bits_127 : Ideal.ofBits .f32 0x42FE0000#32 = ((127 : ℝ) : EReal) := by
  have h1 : ((0x42FE0000#32).extractLsb' (8 + 23) 1 == 1#1) = false := by decide
  have h2 : ((0x42FE0000#32).extractLsb' 23 8).toNat = 133 := by decide
  have h3 : ((0x42FE0000#32).extractLsb' 0 23).toNat = 8257536 := by decide
  simp only [Ideal.ofBits, Ideal.ieee, h1, h2, h3]
  norm_num

/-- The pattern of −127. -/
theorem bits_neg127 : Ideal.ofBits .f32 0xC2FE0000#32 = ((-127 : ℝ) : EReal) := by
  have h1 : ((0xC2FE0000#32).extractLsb' (8 + 23) 1 == 1#1) = true := by decide
  have h2 : ((0xC2FE0000#32).extractLsb' 23 8).toNat = 133 := by decide
  have h3 : ((0xC2FE0000#32).extractLsb' 0 23).toNat = 8257536 := by decide
  simp only [Ideal.ofBits, Ideal.ieee, h1, h2, h3]
  norm_num

/-- The pattern of −∞. -/
theorem bits_bot : Ideal.ofBits .f32 0xFF800000#32 = ⊥ := by
  have h1 : ((0xFF800000#32).extractLsb' (8 + 23) 1 == 1#1) = true := by decide
  have h2 : ((0xFF800000#32).extractLsb' 23 8).toNat = 255 := by decide
  have h3 : ((0xFF800000#32).extractLsb' 0 23).toNat = 0 := by decide
  simp only [Ideal.ofBits, Ideal.ieee, h1, h2, h3]
  norm_num

/-! ## Rounding, clipping, and the way through eight bits -/

/-- A rounded number between −127 and 127. -/
def clipped (v : EReal) : EReal := min ((127 : ℝ) : EReal) (max ((-127 : ℝ) : EReal) (Ideal.liftRound Ideal.roundHalfEven v))

/-- It is an integer. -/
theorem clipped_int (v : EReal) : ∃ n : ℤ, -127 ≤ n ∧ n ≤ 127 ∧ clipped v = ((n : ℝ) : EReal) := by
  unfold clipped
  induction v with
  | bot =>
    refine ⟨-127, le_refl _, by norm_num, ?_⟩
    show min ((127 : ℝ) : EReal) (max ((-127 : ℝ) : EReal) ⊥) = _
    rw [max_eq_left bot_le, min_eq_right (EReal.coe_le_coe_iff.2 (by norm_num))]
    norm_num
  | top =>
    refine ⟨127, by norm_num, le_refl _, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    show min ((127 : ℝ) : EReal) (max ((-127 : ℝ) : EReal) ((Ideal.roundHalfEven r : ℝ) : EReal)) = _
    rw [Int.cast_min, Int.cast_max, EReal.coe_strictMono.monotone.map_min, EReal.coe_strictMono.monotone.map_max]
    norm_num

/-- So going through eight bits leaves it as it is. -/
theorem clipped_bits (v : EReal) : (((Ideal.fptosi 8 (clipped v)).toInt : ℝ) : EReal) = clipped v := by
  obtain ⟨n, h1, h2, h⟩ := clipped_int v
  rw [h]
  congr 2
  rw [Ideal.fptosi, Ideal.toIntClamped_coe, Int.floor_intCast, Int.ceil_intCast, ite_self]
  have e : max (-((2 ^ (8 - 1) : ℕ) : ℤ)) (min (((2 ^ (8 - 1) : ℕ) : ℤ) - 1) n) = n := by
    rw [min_eq_right, max_eq_right] <;> norm_num <;> omega
  rw [e, BitVec.toInt_ofInt, Int.bmod_eq_of_le (by norm_num; omega) (by norm_num; omega)]

/-! ## Maxima -/

/-- A fold of the maximum from −∞ is a supremum. -/
theorem fold_max_bot {ι : Type} (s : Finset ι) (f : ι → EReal) : s.fold max ⊥ f = s.sup f := rfl

/-! ## A sum in blocks -/

/-- A sum over 4096 indices is the sum over 16 blocks of the sums over their 256 indices. -/
theorem sum_blocks (f : ℕ → EReal) : ∑ k ∈ Finset.range 4096, f k = ∑ n ∈ Finset.range 16, ∑ a ∈ Finset.range 256, f (n * 256 + a) := by
  rw [show (4096 : ℕ) = 16 * 256 from rfl]
  generalize 16 = N
  induction N with
  | zero => simp
  | succ N ih => rw [Nat.succ_mul, Finset.sum_range_add, ih]; exact (Finset.sum_range_succ _ N).symm

end Cert.QuantProof

end
-- ==== Proof.KernelValue.lean ====
/-
# The result at the extended reals

With `x` cut by rows and `w` on every device: the two partial products of a device are blocks of the product, the maxima
meet in the largest magnitude of the whole product, and the gathered column block is the product's, rounded and scaled.
-/
module

public import proofs.«01_k».proof.Proof.Contents
public import proofs.«01_k».proof.Proof.Extended
public import Idealize.ShloMosaic.Lib.Layout
public import Idealize.ShloMosaic.Lib.ValueLayout
public import Idealize.ShloMosaic.Lib.MatmulPlain
public import Idealize.ShloMosaic.Lib.Pipeline.Value

@[expose] public section

noncomputable section

namespace Cert.QuantProof

open Cert.KernelIdeal Cert.KernelIdeal.Gen
open Idealize.ShloMosaic
open Idealize.ShloMosaic.TcCoe

/-! ## Matrices by numbers -/

/-- The entry at row `i` and column `j`, zero outside. -/
def ent {n p : ℕ} (A : (⟨2, ![n, p]⟩ : Shape).Idx → EReal) (i j : ℕ) : EReal :=
  if h : i < n ∧ j < p then A (ix2 ⟨i, h.1⟩ ⟨j, h.2⟩) else 0

theorem ent_at {n p : ℕ} (A : (⟨2, ![n, p]⟩ : Shape).Idx → EReal) (i : (⟨2, ![n, p]⟩ : Shape).Idx) : A i = ent A (i 0).val (i 1).val := by
  unfold ent
  rw [dif_pos ⟨(i 0).isLt, (i 1).isLt⟩]
  exact congrArg A (eq_ix2 i)

theorem ent_ix {n p : ℕ} (A : (⟨2, ![n, p]⟩ : Shape).Idx → EReal) (a : Fin n) (b : Fin p) : ent A a.val b.val = A (ix2 a b) :=
  (ent_at A (ix2 a b)).symm

/-- An entry of the product. -/
def prodAt (X : (⟨2, ![4096, 4096]⟩ : Shape).Idx → EReal) (W : (⟨2, ![4096, 8192]⟩ : Shape).Idx → EReal) (r j : ℕ) : EReal :=
  ∑ k ∈ Finset.range 4096, ent X r k * ent W k j

theorem prodAt_congr {X : (⟨2, ![4096, 4096]⟩ : Shape).Idx → EReal} {W : (⟨2, ![4096, 8192]⟩ : Shape).Idx → EReal} {r r' j j' : ℕ}
    (hr : r = r') (hj : j = j') : prodAt X W r j = prodAt X W r' j' := by rw [hr, hj]

/-! ## The device's inputs -/

variable {m : (ℓ : Loc nD τ sig) → Buf (Elt Ideal) ℓ}
variable {X : (⟨2, ![4096, 4096]⟩ : Shape).Idx → EReal} {W : (⟨2, ![4096, 8192]⟩ : Shape).Idx → EReal}

variable (m X W) in
/-- What the devices hold: `x` cut by rows in 32 blocks, `w` whole. -/
def Holds : Prop := ∀ c : Dev nD,
  m ((c : Thread nD τ).loc main_arg0) = Layout.block ⟨2, ![128, 4096]⟩ ⟨2, ![4096, 4096]⟩ 0 32 c X ∧ m ((c : Thread nD τ).loc main_arg1) = W

theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem pay3_eq (v : Vec Ideal S128x4096 .f32) : k0_pay3 v = v := by
  show shapeCast S128x4096 (fun i => shapeCast S128x4096 v shapeCasts_S128x4096_S128x4096 i) shapeCasts_S128x4096_S128x4096 = v
  rw [shapeCast_self, shapeCast_self]

/-- The rounded block of `x` is its rows. -/
theorem xb_at (H : Holds m X W) (c : Dev nD) (i : S128x4096.Idx) : xb m c i = ent X (c.val * 128 + (i 0).val) (i 1).val := by
  unfold xb
  rw [pay3_eq, xstg_eq, (H c).1, Layout.block_apply, ent_at X]
  rfl

/-- A tile of `w`. -/
theorem wv_at (H : Holds m X W) (c : Dev nD) {k : ℕ} (hk : k < 16) (a : Fin 256) (b : Fin 4096) (u : Fin 1) :
    wv m c k (ix3 u a b) = ent W (k * 256 + a.val) (c.val % 2 * 4096 + b.val) := by
  show wAt m c k a b = _
  unfold wAt wFull
  rw [(H c).2, ent_at W]
  have := a.isLt
  exact congrArg (ent W · (c.val % 2 * 4096 + b.val)) (Nat.mod_eq_of_lt (by omega))

/-! ## A device's products -/

/-- One block product. -/
theorem pay5_at (H : Holds m X W) (c : Dev nD) (x : Vec Ideal S128x4096 .bf16) {k : ℕ} (hk : k < 16) (i : S128x4096.Idx) :
    k0_pay5 (xcol x k) (wbv m c k) i
      = ∑ a ∈ Finset.range 256, ent x (i 0).val (k * 256 + a) * ent W (k * 256 + a) (c.val % 2 * 4096 + (i 1).val) := by
  show shapeCast S128x4096 (FloatOps.matmul (DotDims.plain 128 256 4096) none (xcol x k)
    (shapeCast S256x4096 (shapeCast S1x256x4096 (shapeCast S256x4096 (wv m c k) shapeCasts_S1x256x4096_S256x4096) shapeCasts_S256x4096_S1x256x4096)
      shapeCasts_S1x256x4096_S256x4096) (constant S128x4096 .f32 0x00000000#32)) shapeCasts_S128x4096_S128x4096 i = _
  rw [shapeCast_self, shapeCast_shapeCast]
  refine (congrArg (FloatOps.matmul (DotDims.plain 128 256 4096) none (xcol x k)
    (shapeCast S256x4096 (wv m c k) shapeCasts_S1x256x4096_S256x4096) (constant S128x4096 .f32 0x00000000#32)) (eq_ix2 i)).trans ?_
  refine (Ideal.matmul_plain_apply (M := 128) (K := 256) (N := 4096) none _ _ _ (i 0) (i 1)).trans ?_
  refine (congrArg (· + _) (Ideal.ofBits_zero_f32 : (constant (F := Ideal) S128x4096 .f32 0x00000000#32) (ix2 (i 0) (i 1)) = 0)).trans ?_
  refine (zero_add _).trans ((Finset.sum_congr rfl fun a _ => ?_).trans (Finset.sum_range _).symm)
  congr 1
  · have ha : a.val < 256 := a.isLt
    refine (ent_at x (ix2 (i 0) ⟨(k * 256 + a.val) % 4096, Nat.mod_lt _ (by decide)⟩)).trans ?_
    exact congrArg (ent x (i 0).val) (Nat.mod_eq_of_lt (by omega))
  · refine (ValueIdx.shapeCast_1ab_ab_apply (a := 256) (b := 4096) (wv m c k) shapeCasts_S1x256x4096_S256x4096 a (i 1)).trans ?_
    exact wv_at H c hk a (i 1) 0

/-- A further block product is added. -/
theorem pay7_at (u : Vec Ideal S128x256 .bf16) (v : Vec Ideal S1x256x4096 .bf16) (w : Vec Ideal S128x4096 .f32) (i : S128x4096.Idx) :
    k0_pay7 u v w i = w i + k0_pay5 u v i := by
  show shapeCast S128x4096 (addf (F := Ideal) (φ := .f32) w (matmul (F := Ideal) dot_S128x256_S256x4096_S128x4096_1_0_0_1_n_n none u
      (shapeCast S256x4096 v shapeCasts_S1x256x4096_S256x4096) (constant S128x4096 .f32 0x00000000#32))) shapeCasts_S128x4096_S128x4096 i
    = w i + shapeCast S128x4096 (matmul (F := Ideal) dot_S128x256_S256x4096_S128x4096_1_0_0_1_n_n none u
      (shapeCast S256x4096 v shapeCasts_S1x256x4096_S256x4096) (constant S128x4096 .f32 0x00000000#32)) shapeCasts_S128x4096_S128x4096 i
  rw [shapeCast_self, shapeCast_self]
  rfl

/-- The sum of the first block products. -/
theorem acc_at (H : Holds m X W) (c : Dev nD) (x : Vec Ideal S128x4096 .bf16) (i : S128x4096.Idx) : ∀ {n : ℕ}, n < 16 →
    acc m c x n i = ∑ t ∈ Finset.range (n + 1), ∑ a ∈ Finset.range 256,
      ent x (i 0).val (t * 256 + a) * ent W (t * 256 + a) (c.val % 2 * 4096 + (i 1).val)
  | 0, h => by
    rw [Finset.sum_range_one]
    exact pay5_at H c x h i
  | n + 1, h => by
    refine (pay7_at _ _ _ i).trans ?_
    rw [acc_at H c x i (n := n) (by omega), pay5_at H c x h i]
    exact (Finset.sum_range_succ _ (n + 1)).symm

/-- The whole sum. -/
theorem acc_all (H : Holds m X W) (c d : Dev nD) (i : S128x4096.Idx) :
    acc m c (xb m d) 15 i = prodAt X W (d.val * 128 + (i 0).val) (c.val % 2 * 4096 + (i 1).val) := by
  rw [acc_at H c _ i (by decide)]
  refine (sum_blocks fun k => ent (xb m d) (i 0).val k * ent W k (c.val % 2 * 4096 + (i 1).val)).symm.trans ?_
  refine Finset.sum_congr rfl fun k hk => ?_
  congr 1
  have hk := Finset.mem_range.1 hk
  unfold ent
  rw [dif_pos ⟨(i 0).isLt, hk⟩, xb_at H]
  rfl

theorem yOwn_at (H : Holds m X W) (c : Dev nD) (i : S128x4096.Idx) :
    yOwn m c i = prodAt X W (c.val * 128 + (i 0).val) (c.val % 2 * 4096 + (i 1).val) := acc_all H c c i
theorem yRem_at (H : Holds m X W) (c : Dev nD) (i : S128x4096.Idx) :
    yRem m c i = prodAt X W ((partner c).val * 128 + (i 0).val) (c.val % 2 * 4096 + (i 1).val) := acc_all H c (partner c) i

/-! ## The maximum -/

/-- The largest entry of an array reduced to one number. -/
theorem multi_le {s t : Shape} {axes : List (Fin s.rank)} (ht : ∀ b, t.size b = 1) (src : FVec Ideal s .f32) (h : s.Reduces axes t)
    (hφ : FKind.Formats .f32) (hacc : (0xFF800000#32 : BitVec 32) = FKind.maximumf.neutral .f32 hφ) (j : t.Idx) (B : EReal) :
    multiReduction .maximumf axes t src 0xFF800000#32 h hφ hacc j ≤ B ↔ ∀ i, src i ≤ B := by
  rw [multiReduction_maximumf_eq_fold, Finset.filter_true_of_mem fun i _ => funext fun b => Fin.ext (by
    have := (h.drop i b).isLt; have := (j b).isLt; have := ht b; omega)]
  show Finset.univ.fold max (Ideal.ofBits .f32 0xFF800000#32) src ≤ B ↔ _
  rw [bits_bot, Finset.fold_max_le]
  simp

/-- The same of the host's reduction. -/
theorem host_le {s t u : Shape} {axes : List (Fin s.rank)} (ht : ∀ b, t.size b = 1) (src : FVec Ideal s .f32) (init : u.Idx → EReal)
    (h : s.ReducesTo axes t) (hu : 0 < u.numel) (hi : ∀ k, init k = ⊥) (j : t.Idx) (B : EReal) :
    Host.reduce (FloatOps.maximumf (F := Ideal) (φ := .f32)) src init h hu j ≤ B ↔ ∀ i, src i ≤ B := by
  rw [Host.reduce_eq_fold, Finset.filter_true_of_mem fun i _ => funext fun b => Fin.ext (by
    have := (h.drop i b).isLt; have := (j b).isLt; have := ht b; omega), hi]
  show Finset.univ.fold max ⊥ src ≤ B ↔ _
  rw [Finset.fold_max_le]
  simp

/-- The one number of an array of one. -/
theorem extract_le (v : S1.Idx → EReal) (B : EReal) (P : Prop) (hv : ∀ j, v j ≤ B ↔ P) :
    extractAt ![0, 0, 0] (shapeCast S1x1x1 v shapeCasts_S1_S1x1x1) inpos_S1x1x1_p0_0_0 ≤ B ↔ P := hv _

/-- The largest of a device's half, as one number. -/
def red (y : FVec Ideal S1x128x4096 .f32) : EReal :=
  extractAt ![0, 0, 0] (shapeCast S1x1x1 (multiReduction (F := Ideal) (φ := .f32) .maximumf [1, 2] S1 y
    0xFF800000#32 reduces_S1x128x4096_S1 (.inl rfl) rfl) shapeCasts_S1_S1x1x1) inpos_S1x1x1_p0_0_0

theorem red_le (y : FVec Ideal S1x128x4096 .f32) (B : EReal) : red y ≤ B ↔ ∀ i, y i ≤ B :=
  extract_le _ B _ fun j => multi_le (by decide) y reduces_S1x128x4096_S1 (.inl rfl) rfl j B

/-- Of the magnitudes. -/
theorem red_abs_le (y : FVec Ideal S128x4096 .f32) (B : EReal) : red (k0_pay54 y) ≤ B ↔ ∀ i, max (y i) (-(y i)) ≤ B := by
  rw [red_le]
  refine ⟨fun h i => ?_, fun h i => h _⟩
  refine le_trans (le_of_eq ?_) (h (ix3 0 (i 0) (i 1)))
  refine Eq.trans ?_ (ValueIdx.shapeCast_ab_1ab_apply (a := 128) (b := 4096) (absf y) shapeCasts_S128x4096_S1x128x4096 0 (i 0) (i 1)).symm
  exact congrArg (fun i => max (y i) (-(y i))) (eq_ix2 i)

/-- The larger of two blocks' magnitudes. -/
theorem pay55_eq (x y : FVec Ideal S128x4096 .f32) : k0_pay55 (F := Ideal) (k0_pay54 x) y = max (red (k0_pay54 x)) (red (k0_pay54 y)) := by
  have h : k0_pay55 (F := Ideal) (k0_pay54 x) y = Scalar.maximumf (F := Ideal) (φ := .f32) (red (k0_pay54 x)) (red (k0_pay54 y)) := rfl
  rw [h, Ideal.scalar_maximumf_def]

theorem amaxS_eq (c : Dev nD) : amaxS m c = max (red (k0_pay54 (yOwn m c))) (red (k0_pay54 (yRem m c))) :=
  pay55_eq (yOwn m c) (yRem m c)

/-- The largest magnitude among a device's entries. -/
theorem amaxS_le (c : Dev nD) (B : EReal) :
    amaxS m c ≤ B ↔ (∀ i, max (yOwn m c i) (-(yOwn m c i)) ≤ B) ∧ ∀ i, max (yRem m c i) (-(yRem m c i)) ≤ B := by
  rw [amaxS_eq, max_le_iff, red_abs_le, red_abs_le]

/-- A splat's entries. -/
theorem bcast_at (s : Shape) (v : EReal) (i : s.Idx) : broadcast s v i = v := rfl

theorem pay56_at (x : FVec Ideal S1x128x4096 .f32) (y : Vec Ideal S128x4096 .f32) (i : S1x128.Idx) :
    k0_pay56 (F := Ideal) x y i = k0_pay55 (F := Ideal) x y :=
  (congrFun (shapeCast_self (broadcast S1x128 (k0_pay55 (F := Ideal) x y)) shapeCasts_S1x128_S1x128) i).trans (bcast_at S1x128 _ i)

theorem amaxRow_at (c : Dev nD) (i : S1x128.Idx) : amaxRow m c i = amaxS m c := pay56_at _ _ i

theorem pay2_at (i : S32x128.Idx) : k0_pay2 (F := Ideal) i = 0 := by
  show shapeCast S32x128 (broadcast S32x128 (Ideal.ofBits .f32 0x00000000#32)) shapeCasts_S32x128_S32x128 i = _
  rw [shapeCast_self]
  exact Ideal.ofBits_zero_f32

/-- The largest of the maxima gathered. -/
def redG (g : FVec Ideal S32x128 .f32) : EReal :=
  extractAt ![0, 0, 0] (shapeCast S1x1x1 (multiReduction (F := Ideal) (φ := .f32) .maximumf [1, 2] S1 (shapeCast S1x32x128 g shapeCasts_S32x128_S1x32x128)
    0xFF800000#32 reduces_S1x32x128_S1 (.inl rfl) rfl) shapeCasts_S1_S1x1x1) inpos_S1x1x1_p0_0_0

theorem redG_le (g : FVec Ideal S32x128 .f32) (B : EReal) : redG g ≤ B ↔ ∀ i, g i ≤ B := by
  refine (extract_le _ B _ fun j => multi_le (by decide) (shapeCast S1x32x128 g shapeCasts_S32x128_S1x32x128) reduces_S1x32x128_S1 (.inl rfl) rfl j B).trans
    ⟨fun h i => ?_, fun h i => h _⟩
  refine le_trans (le_of_eq ?_) (h (ix3 0 (i 0) (i 1)))
  refine Eq.trans ?_ (ValueIdx.shapeCast_ab_1ab_apply (a := 32) (b := 128) g shapeCasts_S32x128_S1x32x128 0 (i 0) (i 1)).symm
  exact congrArg g (eq_ix2 i)

variable (m) in
/-- The maximum a device takes over all devices' maxima. -/
def numer (c : Dev nD) : EReal := max (redG (GG m c)) (amaxS m c)

/-- The scale is it over 127. -/
theorem sc_num (g : FVec Ideal S32x128 .f32) (a : EReal) : k0_pay57 (F := Ideal) a g = Ideal.div (max (redG g) a) ((127 : ℝ) : EReal) := by
  have h : k0_pay57 (F := Ideal) a g = Scalar.divf (F := Ideal) (φ := .f32) (Scalar.maximumf (F := Ideal) (φ := .f32) (redG g) a) (Scalar.ofBits .f32 0x42FE0000#32) := rfl
  have e : Scalar.ofBits (F := Ideal) .f32 0x42FE0000#32 = ((127 : ℝ) : EReal) := bits_127
  rw [h, Ideal.scalar_divf_def, Ideal.scalar_maximumf_def, e]
theorem sc_eq (c : Dev nD) : sc m c = Ideal.div (numer m c) ((127 : ℝ) : EReal) := sc_num (GG m c) (amaxS m c)

theorem numer_le_dev (c : Dev nD) (B : EReal) : numer m c ≤ B ↔ (∀ i, GG m c i ≤ B) ∧ amaxS m c ≤ B := by
  unfold numer
  rw [max_le_iff, redG_le]

theorem GG_own (c : Dev nD) (i : S32x128.Idx) (h : (i 0).val = c.val) : GG m c i = 0 := (if_pos h).trans (pay2_at i)
theorem GG_other (c d : Dev nD) (i : S32x128.Idx) (h : ¬ (i 0).val = c.val) (hd : d = (⟨(i 0).val, (i 0).isLt⟩ : Fin 32)) : GG m c i = amaxS m d := by
  subst hd
  exact (if_neg h).trans (amaxRow_at _ _)

/-- Every device's maximum is below the maximum taken, and zero is. -/
theorem numer_le_all (c : Dev nD) (B : EReal) : numer m c ≤ B ↔ (∀ d, amaxS m d ≤ B) ∧ 0 ≤ B := by
  rw [numer_le_dev]
  constructor
  · rintro ⟨h, hc⟩
    refine ⟨fun d => ?_, ?_⟩
    · by_cases e : d = c
      · rw [e]; exact hc
      · exact le_trans (le_of_eq (GG_other c d (ix2 (d : Fin 32) (0 : Fin 128)) (fun h' => e (Fin.ext h')) rfl).symm) (h _)
    · exact le_trans (le_of_eq (GG_own c (ix2 (c : Fin 32) (0 : Fin 128)) rfl).symm) (h _)
  · rintro ⟨h, h0⟩
    refine ⟨fun i => ?_, h c⟩
    by_cases e : (i 0).val = c.val
    · exact le_trans (le_of_eq (GG_own c i e)) h0
    · exact le_trans (le_of_eq (GG_other c _ i e rfl)) (h _)

theorem mag_nonneg (v : EReal) : 0 ≤ max v (-v) := by
  rcases le_total 0 v with h | h
  · exact le_max_of_le_left h
  · exact le_max_of_le_right (EReal.neg_nonneg.2 h)

/-- It is the largest magnitude of the product. -/
theorem numer_le (H : Holds m X W) (c : Dev nD) (B : EReal) :
    numer m c ≤ B ↔ ∀ r j, r < 4096 → j < 8192 → max (prodAt X W r j) (-(prodAt X W r j)) ≤ B := by
  rw [numer_le_all]
  constructor
  · rintro ⟨h, -⟩ r j hr hj
    have hd : r / 128 / 2 * 2 + j / 4096 < 32 := by omega
    obtain ⟨ho, hm⟩ := (amaxS_le _ B).1 (h (⟨r / 128 / 2 * 2 + j / 4096, hd⟩ : Fin 32))
    by_cases e : r / 128 % 2 = j / 4096
    · have := ho (ix2 ⟨r % 128, Nat.mod_lt _ (by decide)⟩ ⟨j % 4096, Nat.mod_lt _ (by decide)⟩)
      rw [yOwn_at H] at this
      have e1 : (r / 128 / 2 * 2 + j / 4096) * 128 + r % 128 = r := by omega
      have e2 : (r / 128 / 2 * 2 + j / 4096) % 2 * 4096 + j % 4096 = j := by omega
      simpa only [ix2_0, ix2_1, e1, e2] using this
    · have := hm (ix2 ⟨r % 128, Nat.mod_lt _ (by decide)⟩ ⟨j % 4096, Nat.mod_lt _ (by decide)⟩)
      rw [yRem_at H] at this
      have e1 : (partner (⟨r / 128 / 2 * 2 + j / 4096, hd⟩ : Fin 32)).val * 128 + r % 128 = r := by
        show (if (r / 128 / 2 * 2 + j / 4096) % 2 = 0 then r / 128 / 2 * 2 + j / 4096 + 1 else r / 128 / 2 * 2 + j / 4096 - 1) * 128 + r % 128 = r
        split <;> omega
      have e2 : (r / 128 / 2 * 2 + j / 4096) % 2 * 4096 + j % 4096 = j := by omega
      simpa only [ix2_0, ix2_1, e1, e2] using this
  · intro h
    refine ⟨fun d => (amaxS_le d B).2 ⟨fun i => ?_, fun i => ?_⟩, le_trans (mag_nonneg _) (h 0 0 (by decide) (by decide))⟩
    · rw [yOwn_at H]
      have hd : d.val < 32 := d.isLt
      have h0 : (i 0).val < 128 := (i 0).isLt
      have h1 : (i 1).val < 4096 := (i 1).isLt
      exact h _ _ (by omega) (by omega)
    · rw [yRem_at H]
      have hd : (partner d).val < 32 := (partner d).isLt
      have h0 : (i 0).val < 128 := (i 0).isLt
      have h1 : (i 1).val < 4096 := (i 1).isLt
      exact h _ _ (by omega) (by omega)

/-! ## The quotients and the result -/

/-- A rounded quotient. -/
theorem pay59_at (y : Vec Ideal S128x4096 .f32) (s : EReal) (i : S128x4096.Idx) :
    k0_pay59 y (broadcast S128x4096 s) i = Ideal.fptosi 8 (clipped (Ideal.div (y i) s)) := by
  unfold clipped
  rw [← bits_127, ← bits_neg127]
  exact congrFun (shapeCast_self (fptosi (F := Ideal) 8 (minimumf (F := Ideal) (φ := .f32) (broadcast S128x4096 (Scalar.ofBits .f32 0x42FE0000#32))
    (maximumf (broadcast S128x4096 (Scalar.ofBits .f32 0xC2FE0000#32)) (roundeven (divf y (broadcast S128x4096 s)))))) shapeCasts_S128x4096_S128x4096) i

theorem qOwn_at (c : Dev nD) (i : S128x4096.Idx) : qOwn m c i = Ideal.fptosi 8 (clipped (Ideal.div (yOwn m c i) (sc m c))) :=
  pay59_at (yOwn m c) (sc m c) i
theorem qRem_at (c : Dev nD) (i : S128x4096.Idx) : qRem m c i = Ideal.fptosi 8 (clipped (Ideal.div (yRem m c i) (sc m c))) :=
  pay59_at (yRem m c) (sc m c) i

/-- The rounded quotients of a pair's rows, in the half of the columns the device computes. -/
theorem QQ_at (H : Holds m X W) (c : Dev nD) (i : S256x4096.Idx) :
    QQ m c i = Ideal.fptosi 8 (clipped (Ideal.div (prodAt X W (c.val / 2 * 256 + (i 0).val) (c.val % 2 * 4096 + (i 1).val)) (sc m c))) := by
  have h0 : (i 0).val < 256 := (i 0).isLt
  by_cases e : (i 0).val / 128 = c.val % 2
  · refine Eq.trans (if_pos e) ((qOwn_at c _).trans (congrArg (fun v => Ideal.fptosi 8 (clipped (Ideal.div v (sc m c)))) ?_))
    have e1 : c.val * 128 + (i 0).val % 128 = c.val / 2 * 256 + (i 0).val := by omega
    exact (yOwn_at H c _).trans (prodAt_congr e1 rfl)
  · refine Eq.trans (if_neg e) ((qRem_at c _).trans (congrArg (fun v => Ideal.fptosi 8 (clipped (Ideal.div v (sc m c)))) ?_))
    have e1 : (partner c).val * 128 + (i 0).val % 128 = c.val / 2 * 256 + (i 0).val := by
      show (if c.val % 2 = 0 then c.val + 1 else c.val - 1) * 128 + (i 0).val % 128 = _
      split <;> omega
    exact (yRem_at H c _).trans (prodAt_congr e1 rfl)

/-- All devices find one maximum, and so one scale. -/
theorem numer_all (H : Holds m X W) (c d : Dev nD) : numer m c = numer m d :=
  eq_of_forall_ge_iff fun B => (numer_le H c B).trans (numer_le H d B).symm
theorem sc_all (H : Holds m X W) (c d : Dev nD) : sc m c = sc m d :=
  (sc_eq c).trans ((congrArg (fun v => Ideal.div v ((127 : ℝ) : EReal)) (numer_all H c d)).trans (sc_eq d).symm)

/-- The integers scaled. -/
theorem pay1_at (s : EReal) (y : Vec Ideal S4096x256 .i8) (i : S4096x256.Idx) : k0_pay1 (F := Ideal) s y i = (((y i).toInt : ℝ) : EReal) * s := rfl

/-- The gathered column block. -/
theorem YY_at (H : Holds m X W) (c : Dev nD) (i : S4096x256.Idx) :
    YY m c i = Ideal.fptosi 8 (clipped (Ideal.div (prodAt X W (i 0).val (c.val * 256 + (i 1).val)) (sc m c))) := by
  have h0 : (i 0).val < 4096 := (i 0).isLt
  have h1 : (i 1).val < 256 := (i 1).isLt
  have hc : c.val < 32 := c.isLt
  have hs : (i 0).val / 256 < 16 := by omega
  rw [sc_all H c (sender c ⟨(i 0).val / 256, hs⟩)]
  refine (QQ_at H (sender c ⟨(i 0).val / 256, hs⟩) _).trans
    (congrArg (fun v => Ideal.fptosi 8 (clipped (Ideal.div v (sc m (sender c ⟨(i 0).val / 256, hs⟩))))) (prodAt_congr ?_ ?_))
  · show (2 * ((i 0).val / 256) + c.val / 16) / 2 * 256 + (i 0).val % 256 = _
    omega
  · show (2 * ((i 0).val / 256) + c.val / 16) % 2 * 4096 + (c.val % 16 * 256 + (i 1).val) = _
    omega

/-- The result: the product's column block, rounded and scaled back. -/
theorem outAt_at (H : Holds m X W) (c : Dev nD) (i : S4096x256.Idx) :
    outAt m c i = clipped (Ideal.div (prodAt X W (i 0).val (c.val * 256 + (i 1).val)) (sc m c)) * sc m c := by
  refine (pay1_at (sc m c) (YY m c) i).trans ?_
  rw [YY_at H, clipped_bits]

end Cert.QuantProof

end
-- ==== Proof.Algebraic.lean ====
/-
# Kernel and reference agree at the extended reals

The reference's result at an index is the product's entry, divided by the scale, rounded, clipped and scaled back, where the
scale is the largest magnitude of the product by 127. Each device's result is that, on its columns.
-/
module

public import proofs.«01_k».proof.Proof.KernelValue
public import proofs.«01_k».proof.Proof.Run
public import proofs.«01_k».proof.Proof.Gen.ReferenceIdeal.Run
public import proofs.«01_k».proof.Defs
public import Idealize.ShloMosaic.Lib.StackMember

@[expose] public section

noncomputable section

namespace Cert.QuantProof

open Idealize.ShloMosaic Idealize.SL.Sem
open Idealize.ShloMosaic.TcCoe
open Cert.ReferenceIdeal (S4096x4096 S4096x8192 S_)
open Cert.ReferenceIdeal.Gen (dot_S4096x4096_S4096x8192_S4096x8192_1_0_0_1_n_n_wf reducesTo_S4096x8192_S_d0_1 h_S_ bcast_S_S4096x8192)

attribute [local instance] Cert.KernelIdeal.Gen.facts Cert.ReferenceIdeal.Gen.facts

/-! ## The reference -/

/-- The rounding, with the product and its largest magnitude as they may be. -/
def rounded (P : FVec Ideal S4096x8192 .f32) (M : FVec Ideal S_ .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf P (broadcastInDim S4096x8192 ![] bcast_S_S4096x8192 (Host.divf M (constant S_ .f32 0x42FE0000#32)))))))
    (broadcastInDim S4096x8192 ![] bcast_S_S4096x8192 (Host.divf M (constant S_ .f32 0x42FE0000#32)))

theorem rounded_at (P : FVec Ideal S4096x8192 .f32) (M : FVec Ideal S_ .f32) (N : EReal) (hM : ∀ k, M k = N) (i : S4096x8192.Idx) :
    rounded P M i = clipped (Ideal.div (P i) (Ideal.div N ((127 : ℝ) : EReal))) * Ideal.div N ((127 : ℝ) : EReal) := by
  obtain rfl : M = fun _ => N := funext hM
  unfold clipped
  rw [← bits_127, ← bits_neg127]
  rfl

/-- The product as the reference takes it. -/
def refDot (X : FVec Ideal S4096x4096 .f32) (W : FVec Ideal S4096x8192 .f32) : FVec Ideal S4096x8192 .f32 :=
  Host.dotGeneral Cert.ReferenceIdeal.dot_S4096x4096_S4096x8192_S4096x8192_1_0_0_1_n_n none X W

theorem refDot_at (X : FVec Ideal S4096x4096 .f32) (W : FVec Ideal S4096x8192 .f32) (i : S4096x8192.Idx) :
    refDot X W i = prodAt X W (i 0).val (i 1).val := by
  unfold prodAt
  rw [Finset.sum_range]
  refine (congrArg (refDot X W) (eq_ix2 (i : (⟨2, ![4096, 8192]⟩ : Shape).Idx))).trans ?_
  refine (StackMember.dotGeneral_plain_apply none X W (i 0) (i 1)).trans (Finset.sum_congr rfl fun k _ => ?_)
  exact congrArg₂ (· * ·) (ent_ix X (i 0) k).symm (ent_ix W k (i 1)).symm

/-- The largest magnitude of an array, as the reference takes it. -/
def refMax (P : FVec Ideal S4096x8192 .f32) : FVec Ideal S_ .f32 :=
  Host.reduce FloatOps.maximumf (Host.absf P) (constant S_ .f32 0xFF800000#32) reducesTo_S4096x8192_S_d0_1 h_S_

theorem refMax_le (P : FVec Ideal S4096x8192 .f32) (k : S_.Idx) (B : EReal) : refMax P k ≤ B ↔ ∀ i, max (P i) (-(P i)) ≤ B := by
  have ht : ∀ b : Fin S_.rank, S_.size b = 1 := fun b => Fin.elim0 b
  have hi : ∀ k, (constant S_ .f32 0xFF800000#32 : FVec Ideal S_ .f32) k = ⊥ := fun _ => bits_bot
  unfold refMax
  rw [host_le ht (Host.absf P) _ reducesTo_S4096x8192_S_d0_1 h_S_ hi]
  rfl

/-! ## The two results -/

variable {m : (ℓ : Loc Cert.KernelIdeal.nD Cert.KernelIdeal.τ Cert.KernelIdeal.sig) → Buf (Elt Ideal) ℓ}
variable {X : (⟨2, ![4096, 4096]⟩ : Shape).Idx → EReal} {W : (⟨2, ![4096, 8192]⟩ : Shape).Idx → EReal}

/-- Both find the same largest magnitude. -/
theorem refMax_eq (H : Holds m X W) (c : Dev Cert.KernelIdeal.nD) (k : S_.Idx) : refMax (refDot X W) k = numer m c :=
  eq_of_forall_ge_iff fun B => by
    rw [refMax_le, numer_le H]
    constructor
    · intro h r j hr hj
      have h' := h (ix2 (⟨r, hr⟩ : Fin 4096) (⟨j, hj⟩ : Fin 8192))
      rw [refDot_at] at h'
      exact h'
    · intro h i
      rw [refDot_at]
      exact h _ _ (i 0).isLt (i 1).isLt

/-- The reference's result, of the whole arrays. -/
def refOut (X : FVec Ideal S4096x4096 .f32) (W : FVec Ideal S4096x8192 .f32) : FVec Ideal S4096x8192 .f32 :=
  rounded (refDot X W) (refMax (refDot X W))

theorem refOut_at (H : Holds m X W) (c : Dev Cert.KernelIdeal.nD) (i : S4096x8192.Idx) :
    refOut X W i = clipped (Ideal.div (prodAt X W (i 0).val (i 1).val) (sc m c)) * sc m c := by
  refine (rounded_at (refDot X W) (refMax (refDot X W)) (numer m c) (refMax_eq H c) i).trans ?_
  rw [refDot_at, sc_eq]

/-- A device's result is its columns of the reference's. -/
theorem outAt_block (H : Holds m X W) (c : Dev Cert.KernelIdeal.nD) :
    outAt m c = Layout.block ⟨2, ![4096, 256]⟩ ⟨2, ![4096, 8192]⟩ 1 32 c (refOut X W) := by
  funext i
  refine (outAt_at H c i).trans (Eq.trans ?_ (Layout.block_apply c (refOut X W) _ i).symm)
  refine Eq.trans ?_ (refOut_at H c _).symm
  exact congrArg (fun p => clipped (Ideal.div p (sc m c)) * sc m c) (prodAt_congr rfl rfl)

/-- The result array at the end is what the body left. -/
theorem out_whole (c : Dev Cert.KernelIdeal.nD) :
    (dats m 0 c).arrAt (1 : Fin 2) Cert.KernelIdeal.cfg0.N = outAt m c := by
  have hz : (fun a => (Cert.KernelIdeal.win0_1.index (0 : Fin 1)) a * Cert.KernelIdeal.main_v1.ty.shape.size a) = fun _ => 0 :=
    funext fun a => by fin_cases a <;> decide
  have hr := fun f => Memref.read_access_unit_zero (Elt Ideal) Cert.KernelIdeal.main_v1 hz (fun a => by fin_cases a <;> decide) f
  refine (hr _).symm.trans ?_
  rw [show Cert.KernelIdeal.cfg0.N = ((0 : Fin 1) : Fin Cert.KernelIdeal.cfg0.N).val + 1 from rfl, (dats m 0 c).arrAt_succ (1 : Fin 2) (0 : Fin 1),
    show (Cert.KernelIdeal.cfg0.win (1 : Fin 2)).flush (0 : Fin 1) = true from by decide, if_pos rfl]
  exact View.read_write_univ _ _

/-- From arguments that are the blocks of the reference's, each device ends with its columns of the reference's result. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, ((h.1 c).1 (0 : Fin 2)).trans (arg0_kept c), (h.1 c).2⟩)
      (run_main (F := Ideal) (m := m) ρ)
    exact ((h.1 c).1 (1 : Fin 2)).trans ((out_whole c).trans (outAt_block hagree c))
  · exact (θ_run Cert.ReferenceIdeal.defs _ _).mono (fun _ h => h 0) (Cert.ReferenceIdeal.Value.run (F := Ideal) m' ρ')

end Cert.QuantProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.QuantProof.frame_kernel, Cert.QuantProof.frame_kernelIdeal, Cert.QuantProof.frame_reference, trivial, Cert.QuantProof.algebraic⟩

end Cert.Proof

end
